-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Mq (m : (ℓ : Loc Cert.Mq.nD Cert.Mq.τ Cert.Mq.sig) → Buf (Elt Bits) ℓ) : Prop :=
  True

def Pre_MqIdeal (m : (ℓ : Loc Cert.MqIdeal.nD Cert.MqIdeal.τ Cert.MqIdeal.sig) → Buf (Elt Ideal) ℓ) : Prop :=
  True

def Pre_MqRefIdeal (m : (ℓ : Loc Cert.MqRefIdeal.nD Cert.MqRefIdeal.τ Cert.MqRefIdeal.sig) → Buf (Elt Ideal) ℓ) : Prop :=
  True

def Pre_Mo (m : (ℓ : Loc Cert.Mo.nD Cert.Mo.τ Cert.Mo.sig) → Buf (Elt Bits) ℓ) : Prop :=
  True

def Pre_MoIdeal (m : (ℓ : Loc Cert.MoIdeal.nD Cert.MoIdeal.τ Cert.MoIdeal.sig) → Buf (Elt Ideal) ℓ) : Prop :=
  True

def Pre_MoRefIdeal (m : (ℓ : Loc Cert.MoRefIdeal.nD Cert.MoRefIdeal.τ Cert.MoRefIdeal.sig) → Buf (Elt Ideal) ℓ) : Prop :=
  True

def Pre_Aq (m : (ℓ : Loc Cert.Aq.nD Cert.Aq.τ Cert.Aq.sig) → Buf (Elt Bits) ℓ) : Prop :=
  True

def Pre_AqIdeal (m : (ℓ : Loc Cert.AqIdeal.nD Cert.AqIdeal.τ Cert.AqIdeal.sig) → Buf (Elt Ideal) ℓ) : Prop :=
  True

def Pre_AqRefIdeal (m : (ℓ : Loc Cert.AqRefIdeal.nD Cert.AqRefIdeal.τ Cert.AqRefIdeal.sig) → Buf (Elt Ideal) ℓ) : Prop :=
  True

def Pre_Ao (m : (ℓ : Loc Cert.Ao.nD Cert.Ao.τ Cert.Ao.sig) → Buf (Elt Bits) ℓ) : Prop :=
  True

def Pre_AoIdeal (m : (ℓ : Loc Cert.AoIdeal.nD Cert.AoIdeal.τ Cert.AoIdeal.sig) → Buf (Elt Ideal) ℓ) : Prop :=
  True

def Pre_AoRefIdeal (m : (ℓ : Loc Cert.AoRefIdeal.nD Cert.AoRefIdeal.τ Cert.AoRefIdeal.sig) → Buf (Elt Ideal) ℓ) : Prop :=
  True

def Pre_Ma (m : (ℓ : Loc Cert.Ma.nD Cert.Ma.τ Cert.Ma.sig) → Buf (Elt Bits) ℓ) : Prop :=
  True

def Pre_MaIdeal (m : (ℓ : Loc Cert.MaIdeal.nD Cert.MaIdeal.τ Cert.MaIdeal.sig) → Buf (Elt Ideal) ℓ) : Prop :=
  True

def Pre_MaRefIdeal (m : (ℓ : Loc Cert.MaRefIdeal.nD Cert.MaRefIdeal.τ Cert.MaRefIdeal.sig) → Buf (Elt Ideal) ℓ) : Prop :=
  True

def Pre_Mk (m : (ℓ : Loc Cert.Mk.nD Cert.Mk.τ Cert.Mk.sig) → Buf (Elt Bits) ℓ) : Prop :=
  True

def Pre_MkIdeal (m : (ℓ : Loc Cert.MkIdeal.nD Cert.MkIdeal.τ Cert.MkIdeal.sig) → Buf (Elt Ideal) ℓ) : Prop :=
  True

def Pre_MkRefIdeal (m : (ℓ : Loc Cert.MkRefIdeal.nD Cert.MkRefIdeal.τ Cert.MkRefIdeal.sig) → Buf (Elt Ideal) ℓ) : Prop :=
  True

def Pre_Sg (m : (ℓ : Loc Cert.Sg.nD Cert.Sg.τ Cert.Sg.sig) → Buf (Elt Bits) ℓ) : Prop :=
  True

def Pre_SgIdeal (m : (ℓ : Loc Cert.SgIdeal.nD Cert.SgIdeal.τ Cert.SgIdeal.sig) → Buf (Elt Ideal) ℓ) : Prop :=
  True

def Pre_SgRefIdeal (m : (ℓ : Loc Cert.SgRefIdeal.nD Cert.SgRefIdeal.τ Cert.SgRefIdeal.sig) → Buf (Elt Ideal) ℓ) : Prop :=
  True

def Pre_Rn (m : (ℓ : Loc Cert.Rn.nD Cert.Rn.τ Cert.Rn.sig) → Buf (Elt Bits) ℓ) : Prop :=
  True

def Pre_RnIdeal (m : (ℓ : Loc Cert.RnIdeal.nD Cert.RnIdeal.τ Cert.RnIdeal.sig) → Buf (Elt Ideal) ℓ) : Prop :=
  True

def Pre_RnRefIdeal (m : (ℓ : Loc Cert.RnRefIdeal.nD Cert.RnRefIdeal.τ Cert.RnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Mq [hMq : Cert.Mq.Facts] : Prop :=
  ∀ (m : (ℓ : Loc Cert.Mq.nD Cert.Mq.τ Cert.Mq.sig) → Buf (Elt Bits) ℓ) (g : Dev Cert.Mq.nD → PrngReg), Pre_Mq m →
    θ_run (Cert.Mq.defs (F := Bits)) (onTc (τ := Cert.Mq.τ) (Cert.Mq.main (F := Bits))) ⟨m, fun _ => 0, g⟩ (fun r => (∀ c : Dev Cert.Mq.nD,
      r.2.mem ((c.tc : Thread Cert.Mq.nD Cert.Mq.τ).loc Cert.Mq.main_arg0) = m ((c.tc : Thread Cert.Mq.nD Cert.Mq.τ).loc Cert.Mq.main_arg0)
      ∧ r.2.mem ((c.tc : Thread Cert.Mq.nD Cert.Mq.τ).loc Cert.Mq.main_arg1) = m ((c.tc : Thread Cert.Mq.nD Cert.Mq.τ).loc Cert.Mq.main_arg1))
      ∧ r.2.sem = fun _ => 0)

def quiescent_MqIdeal [hMqIdeal : Cert.MqIdeal.Facts] : Prop :=
  ∀ (m : (ℓ : Loc Cert.MqIdeal.nD Cert.MqIdeal.τ Cert.MqIdeal.sig) → Buf (Elt Ideal) ℓ) (g : Dev Cert.MqIdeal.nD → PrngReg), Pre_MqIdeal m →
    θ_run (Cert.MqIdeal.defs (F := Ideal)) (onTc (τ := Cert.MqIdeal.τ) (Cert.MqIdeal.main (F := Ideal))) ⟨m, fun _ => 0, g⟩ (fun r => (∀ c : Dev Cert.MqIdeal.nD,
      r.2.mem ((c.tc : Thread Cert.MqIdeal.nD Cert.MqIdeal.τ).loc Cert.MqIdeal.main_arg0) = m ((c.tc : Thread Cert.MqIdeal.nD Cert.MqIdeal.τ).loc Cert.MqIdeal.main_arg0)
      ∧ r.2.mem ((c.tc : Thread Cert.MqIdeal.nD Cert.MqIdeal.τ).loc Cert.MqIdeal.main_arg1) = m ((c.tc : Thread Cert.MqIdeal.nD Cert.MqIdeal.τ).loc Cert.MqIdeal.main_arg1))
      ∧ r.2.sem = fun _ => 0)

def quiescent_MqRefIdeal [hMqRefIdeal : Cert.MqRefIdeal.Facts] : Prop :=
  ∀ (m : (ℓ : Loc Cert.MqRefIdeal.nD Cert.MqRefIdeal.τ Cert.MqRefIdeal.sig) → Buf (Elt Ideal) ℓ) (g : Dev Cert.MqRefIdeal.nD → PrngReg), Pre_MqRefIdeal m →
    θ_run (Cert.MqRefIdeal.defs (F := Ideal)) (onTc (τ := Cert.MqRefIdeal.τ) (Cert.MqRefIdeal.main (F := Ideal))) ⟨m, fun _ => 0, g⟩ (fun r => (∀ c : Dev Cert.MqRefIdeal.nD,
      r.2.mem ((c.tc : Thread Cert.MqRefIdeal.nD Cert.MqRefIdeal.τ).loc Cert.MqRefIdeal.main_arg0) = m ((c.tc : Thread Cert.MqRefIdeal.nD Cert.MqRefIdeal.τ).loc Cert.MqRefIdeal.main_arg0)
      ∧ r.2.mem ((c.tc : Thread Cert.MqRefIdeal.nD Cert.MqRefIdeal.τ).loc Cert.MqRefIdeal.main_arg1) = m ((c.tc : Thread Cert.MqRefIdeal.nD Cert.MqRefIdeal.τ).loc Cert.MqRefIdeal.main_arg1))
      ∧ r.2.sem = fun _ => 0)

def quiescent_Mo [hMo : Cert.Mo.Facts] : Prop :=
  ∀ (m : (ℓ : Loc Cert.Mo.nD Cert.Mo.τ Cert.Mo.sig) → Buf (Elt Bits) ℓ) (g : Dev Cert.Mo.nD → PrngReg), Pre_Mo m →
    θ_run (Cert.Mo.defs (F := Bits)) (onTc (τ := Cert.Mo.τ) (Cert.Mo.main (F := Bits))) ⟨m, fun _ => 0, g⟩ (fun r => (∀ c : Dev Cert.Mo.nD,
      r.2.mem ((c.tc : Thread Cert.Mo.nD Cert.Mo.τ).loc Cert.Mo.main_arg0) = m ((c.tc : Thread Cert.Mo.nD Cert.Mo.τ).loc Cert.Mo.main_arg0)
      ∧ r.2.mem ((c.tc : Thread Cert.Mo.nD Cert.Mo.τ).loc Cert.Mo.main_arg1) = m ((c.tc : Thread Cert.Mo.nD Cert.Mo.τ).loc Cert.Mo.main_arg1)
      ∧ r.2.mem ((c.tc : Thread Cert.Mo.nD Cert.Mo.τ).loc Cert.Mo.main_arg2) = m ((c.tc : Thread Cert.Mo.nD Cert.Mo.τ).loc Cert.Mo.main_arg2))
      ∧ r.2.sem = fun _ => 0)

def quiescent_MoIdeal [hMoIdeal : Cert.MoIdeal.Facts] : Prop :=
  ∀ (m : (ℓ : Loc Cert.MoIdeal.nD Cert.MoIdeal.τ Cert.MoIdeal.sig) → Buf (Elt Ideal) ℓ) (g : Dev Cert.MoIdeal.nD → PrngReg), Pre_MoIdeal m →
    θ_run (Cert.MoIdeal.defs (F := Ideal)) (onTc (τ := Cert.MoIdeal.τ) (Cert.MoIdeal.main (F := Ideal))) ⟨m, fun _ => 0, g⟩ (fun r => (∀ c : Dev Cert.MoIdeal.nD,
      r.2.mem ((c.tc : Thread Cert.MoIdeal.nD Cert.MoIdeal.τ).loc Cert.MoIdeal.main_arg0) = m ((c.tc : Thread Cert.MoIdeal.nD Cert.MoIdeal.τ).loc Cert.MoIdeal.main_arg0)
      ∧ r.2.mem ((c.tc : Thread Cert.MoIdeal.nD Cert.MoIdeal.τ).loc Cert.MoIdeal.main_arg1) = m ((c.tc : Thread Cert.MoIdeal.nD Cert.MoIdeal.τ).loc Cert.MoIdeal.main_arg1)
      ∧ r.2.mem ((c.tc : Thread Cert.MoIdeal.nD Cert.MoIdeal.τ).loc Cert.MoIdeal.main_arg2) = m ((c.tc : Thread Cert.MoIdeal.nD Cert.MoIdeal.τ).loc Cert.MoIdeal.main_arg2))
      ∧ r.2.sem = fun _ => 0)

def quiescent_MoRefIdeal [hMoRefIdeal : Cert.MoRefIdeal.Facts] : Prop :=
  ∀ (m : (ℓ : Loc Cert.MoRefIdeal.nD Cert.MoRefIdeal.τ Cert.MoRefIdeal.sig) → Buf (Elt Ideal) ℓ) (g : Dev Cert.MoRefIdeal.nD → PrngReg), Pre_MoRefIdeal m →
    θ_run (Cert.MoRefIdeal.defs (F := Ideal)) (onTc (τ := Cert.MoRefIdeal.τ) (Cert.MoRefIdeal.main (F := Ideal))) ⟨m, fun _ => 0, g⟩ (fun r => (∀ c : Dev Cert.MoRefIdeal.nD,
      r.2.mem ((c.tc : Thread Cert.MoRefIdeal.nD Cert.MoRefIdeal.τ).loc Cert.MoRefIdeal.main_arg0) = m ((c.tc : Thread Cert.MoRefIdeal.nD Cert.MoRefIdeal.τ).loc Cert.MoRefIdeal.main_arg0)
      ∧ r.2.mem ((c.tc : Thread Cert.MoRefIdeal.nD Cert.MoRefIdeal.τ).loc Cert.MoRefIdeal.main_arg1) = m ((c.tc : Thread Cert.MoRefIdeal.nD Cert.MoRefIdeal.τ).loc Cert.MoRefIdeal.main_arg1)
      ∧ r.2.mem ((c.tc : Thread Cert.MoRefIdeal.nD Cert.MoRefIdeal.τ).loc Cert.MoRefIdeal.main_arg2) = m ((c.tc : Thread Cert.MoRefIdeal.nD Cert.MoRefIdeal.τ).loc Cert.MoRefIdeal.main_arg2))
      ∧ r.2.sem = fun _ => 0)

def quiescent_Aq [hAq : Cert.Aq.Facts] : Prop :=
  ∀ (m : (ℓ : Loc Cert.Aq.nD Cert.Aq.τ Cert.Aq.sig) → Buf (Elt Bits) ℓ) (g : Dev Cert.Aq.nD → PrngReg), Pre_Aq m →
    θ_run (Cert.Aq.defs (F := Bits)) (onTc (τ := Cert.Aq.τ) (Cert.Aq.main (F := Bits))) ⟨m, fun _ => 0, g⟩ (fun r => (∀ c : Dev Cert.Aq.nD,
      r.2.mem ((c.tc : Thread Cert.Aq.nD Cert.Aq.τ).loc Cert.Aq.main_arg0) = m ((c.tc : Thread Cert.Aq.nD Cert.Aq.τ).loc Cert.Aq.main_arg0)
      ∧ r.2.mem ((c.tc : Thread Cert.Aq.nD Cert.Aq.τ).loc Cert.Aq.main_arg1) = m ((c.tc : Thread Cert.Aq.nD Cert.Aq.τ).loc Cert.Aq.main_arg1))
      ∧ r.2.sem = fun _ => 0)

def quiescent_AqIdeal [hAqIdeal : Cert.AqIdeal.Facts] : Prop :=
  ∀ (m : (ℓ : Loc Cert.AqIdeal.nD Cert.AqIdeal.τ Cert.AqIdeal.sig) → Buf (Elt Ideal) ℓ) (g : Dev Cert.AqIdeal.nD → PrngReg), Pre_AqIdeal m →
    θ_run (Cert.AqIdeal.defs (F := Ideal)) (onTc (τ := Cert.AqIdeal.τ) (Cert.AqIdeal.main (F := Ideal))) ⟨m, fun _ => 0, g⟩ (fun r => (∀ c : Dev Cert.AqIdeal.nD,
      r.2.mem ((c.tc : Thread Cert.AqIdeal.nD Cert.AqIdeal.τ).loc Cert.AqIdeal.main_arg0) = m ((c.tc : Thread Cert.AqIdeal.nD Cert.AqIdeal.τ).loc Cert.AqIdeal.main_arg0)
      ∧ r.2.mem ((c.tc : Thread Cert.AqIdeal.nD Cert.AqIdeal.τ).loc Cert.AqIdeal.main_arg1) = m ((c.tc : Thread Cert.AqIdeal.nD Cert.AqIdeal.τ).loc Cert.AqIdeal.main_arg1))
      ∧ r.2.sem = fun _ => 0)

def quiescent_AqRefIdeal [hAqRefIdeal : Cert.AqRefIdeal.Facts] : Prop :=
  ∀ (m : (ℓ : Loc Cert.AqRefIdeal.nD Cert.AqRefIdeal.τ Cert.AqRefIdeal.sig) → Buf (Elt Ideal) ℓ) (g : Dev Cert.AqRefIdeal.nD → PrngReg), Pre_AqRefIdeal m →
    θ_run (Cert.AqRefIdeal.defs (F := Ideal)) (onTc (τ := Cert.AqRefIdeal.τ) (Cert.AqRefIdeal.main (F := Ideal))) ⟨m, fun _ => 0, g⟩ (fun r => (∀ c : Dev Cert.AqRefIdeal.nD,
      r.2.mem ((c.tc : Thread Cert.AqRefIdeal.nD Cert.AqRefIdeal.τ).loc Cert.AqRefIdeal.main_arg0) = m ((c.tc : Thread Cert.AqRefIdeal.nD Cert.AqRefIdeal.τ).loc Cert.AqRefIdeal.main_arg0)
      ∧ r.2.mem ((c.tc : Thread Cert.AqRefIdeal.nD Cert.AqRefIdeal.τ).loc Cert.AqRefIdeal.main_arg1) = m ((c.tc : Thread Cert.AqRefIdeal.nD Cert.AqRefIdeal.τ).loc Cert.AqRefIdeal.main_arg1))
      ∧ r.2.sem = fun _ => 0)

def quiescent_Ao [hAo : Cert.Ao.Facts] : Prop :=
  ∀ (m : (ℓ : Loc Cert.Ao.nD Cert.Ao.τ Cert.Ao.sig) → Buf (Elt Bits) ℓ) (g : Dev Cert.Ao.nD → PrngReg), Pre_Ao m →
    θ_run (Cert.Ao.defs (F := Bits)) (onTc (τ := Cert.Ao.τ) (Cert.Ao.main (F := Bits))) ⟨m, fun _ => 0, g⟩ (fun r => (∀ c : Dev Cert.Ao.nD,
      r.2.mem ((c.tc : Thread Cert.Ao.nD Cert.Ao.τ).loc Cert.Ao.main_arg0) = m ((c.tc : Thread Cert.Ao.nD Cert.Ao.τ).loc Cert.Ao.main_arg0)
      ∧ r.2.mem ((c.tc : Thread Cert.Ao.nD Cert.Ao.τ).loc Cert.Ao.main_arg1) = m ((c.tc : Thread Cert.Ao.nD Cert.Ao.τ).loc Cert.Ao.main_arg1)
      ∧ r.2.mem ((c.tc : Thread Cert.Ao.nD Cert.Ao.τ).loc Cert.Ao.main_arg2) = m ((c.tc : Thread Cert.Ao.nD Cert.Ao.τ).loc Cert.Ao.main_arg2))
      ∧ r.2.sem = fun _ => 0)

def quiescent_AoIdeal [hAoIdeal : Cert.AoIdeal.Facts] : Prop :=
  ∀ (m : (ℓ : Loc Cert.AoIdeal.nD Cert.AoIdeal.τ Cert.AoIdeal.sig) → Buf (Elt Ideal) ℓ) (g : Dev Cert.AoIdeal.nD → PrngReg), Pre_AoIdeal m →
    θ_run (Cert.AoIdeal.defs (F := Ideal)) (onTc (τ := Cert.AoIdeal.τ) (Cert.AoIdeal.main (F := Ideal))) ⟨m, fun _ => 0, g⟩ (fun r => (∀ c : Dev Cert.AoIdeal.nD,
      r.2.mem ((c.tc : Thread Cert.AoIdeal.nD Cert.AoIdeal.τ).loc Cert.AoIdeal.main_arg0) = m ((c.tc : Thread Cert.AoIdeal.nD Cert.AoIdeal.τ).loc Cert.AoIdeal.main_arg0)
      ∧ r.2.mem ((c.tc : Thread Cert.AoIdeal.nD Cert.AoIdeal.τ).loc Cert.AoIdeal.main_arg1) = m ((c.tc : Thread Cert.AoIdeal.nD Cert.AoIdeal.τ).loc Cert.AoIdeal.main_arg1)
      ∧ r.2.mem ((c.tc : Thread Cert.AoIdeal.nD Cert.AoIdeal.τ).loc Cert.AoIdeal.main_arg2) = m ((c.tc : Thread Cert.AoIdeal.nD Cert.AoIdeal.τ).loc Cert.AoIdeal.main_arg2))
      ∧ r.2.sem = fun _ => 0)

def quiescent_AoRefIdeal [hAoRefIdeal : Cert.AoRefIdeal.Facts] : Prop :=
  ∀ (m : (ℓ : Loc Cert.AoRefIdeal.nD Cert.AoRefIdeal.τ Cert.AoRefIdeal.sig) → Buf (Elt Ideal) ℓ) (g : Dev Cert.AoRefIdeal.nD → PrngReg), Pre_AoRefIdeal m →
    θ_run (Cert.AoRefIdeal.defs (F := Ideal)) (onTc (τ := Cert.AoRefIdeal.τ) (Cert.AoRefIdeal.main (F := Ideal))) ⟨m, fun _ => 0, g⟩ (fun r => (∀ c : Dev Cert.AoRefIdeal.nD,
      r.2.mem ((c.tc : Thread Cert.AoRefIdeal.nD Cert.AoRefIdeal.τ).loc Cert.AoRefIdeal.main_arg0) = m ((c.tc : Thread Cert.AoRefIdeal.nD Cert.AoRefIdeal.τ).loc Cert.AoRefIdeal.main_arg0)
      ∧ r.2.mem ((c.tc : Thread Cert.AoRefIdeal.nD Cert.AoRefIdeal.τ).loc Cert.AoRefIdeal.main_arg1) = m ((c.tc : Thread Cert.AoRefIdeal.nD Cert.AoRefIdeal.τ).loc Cert.AoRefIdeal.main_arg1)
      ∧ r.2.mem ((c.tc : Thread Cert.AoRefIdeal.nD Cert.AoRefIdeal.τ).loc Cert.AoRefIdeal.main_arg2) = m ((c.tc : Thread Cert.AoRefIdeal.nD Cert.AoRefIdeal.τ).loc Cert.AoRefIdeal.main_arg2))
      ∧ r.2.sem = fun _ => 0)

def quiescent_Ma [hMa : Cert.Ma.Facts] : Prop :=
  ∀ (m : (ℓ : Loc Cert.Ma.nD Cert.Ma.τ Cert.Ma.sig) → Buf (Elt Bits) ℓ) (g : Dev Cert.Ma.nD → PrngReg), Pre_Ma m →
    θ_run (Cert.Ma.defs (F := Bits)) (onTc (τ := Cert.Ma.τ) (Cert.Ma.main (F := Bits))) ⟨m, fun _ => 0, g⟩ (fun r => (∀ c : Dev Cert.Ma.nD,
      r.2.mem ((c.tc : Thread Cert.Ma.nD Cert.Ma.τ).loc Cert.Ma.main_arg0) = m ((c.tc : Thread Cert.Ma.nD Cert.Ma.τ).loc Cert.Ma.main_arg0)
      ∧ r.2.mem ((c.tc : Thread Cert.Ma.nD Cert.Ma.τ).loc Cert.Ma.main_arg1) = m ((c.tc : Thread Cert.Ma.nD Cert.Ma.τ).loc Cert.Ma.main_arg1))
      ∧ r.2.sem = fun _ => 0)

def quiescent_MaIdeal [hMaIdeal : Cert.MaIdeal.Facts] : Prop :=
  ∀ (m : (ℓ : Loc Cert.MaIdeal.nD Cert.MaIdeal.τ Cert.MaIdeal.sig) → Buf (Elt Ideal) ℓ) (g : Dev Cert.MaIdeal.nD → PrngReg), Pre_MaIdeal m →
    θ_run (Cert.MaIdeal.defs (F := Ideal)) (onTc (τ := Cert.MaIdeal.τ) (Cert.MaIdeal.main (F := Ideal))) ⟨m, fun _ => 0, g⟩ (fun r => (∀ c : Dev Cert.MaIdeal.nD,
      r.2.mem ((c.tc : Thread Cert.MaIdeal.nD Cert.MaIdeal.τ).loc Cert.MaIdeal.main_arg0) = m ((c.tc : Thread Cert.MaIdeal.nD Cert.MaIdeal.τ).loc Cert.MaIdeal.main_arg0)
      ∧ r.2.mem ((c.tc : Thread Cert.MaIdeal.nD Cert.MaIdeal.τ).loc Cert.MaIdeal.main_arg1) = m ((c.tc : Thread Cert.MaIdeal.nD Cert.MaIdeal.τ).loc Cert.MaIdeal.main_arg1))
      ∧ r.2.sem = fun _ => 0)

def quiescent_MaRefIdeal [hMaRefIdeal : Cert.MaRefIdeal.Facts] : Prop :=
  ∀ (m : (ℓ : Loc Cert.MaRefIdeal.nD Cert.MaRefIdeal.τ Cert.MaRefIdeal.sig) → Buf (Elt Ideal) ℓ) (g : Dev Cert.MaRefIdeal.nD → PrngReg), Pre_MaRefIdeal m →
    θ_run (Cert.MaRefIdeal.defs (F := Ideal)) (onTc (τ := Cert.MaRefIdeal.τ) (Cert.MaRefIdeal.main (F := Ideal))) ⟨m, fun _ => 0, g⟩ (fun r => (∀ c : Dev Cert.MaRefIdeal.nD,
      r.2.mem ((c.tc : Thread Cert.MaRefIdeal.nD Cert.MaRefIdeal.τ).loc Cert.MaRefIdeal.main_arg0) = m ((c.tc : Thread Cert.MaRefIdeal.nD Cert.MaRefIdeal.τ).loc Cert.MaRefIdeal.main_arg0)
      ∧ r.2.mem ((c.tc : Thread Cert.MaRefIdeal.nD Cert.MaRefIdeal.τ).loc Cert.MaRefIdeal.main_arg1) = m ((c.tc : Thread Cert.MaRefIdeal.nD Cert.MaRefIdeal.τ).loc Cert.MaRefIdeal.main_arg1))
      ∧ r.2.sem = fun _ => 0)

def quiescent_Mk [hMk : Cert.Mk.Facts] : Prop :=
  ∀ (m : (ℓ : Loc Cert.Mk.nD Cert.Mk.τ Cert.Mk.sig) → Buf (Elt Bits) ℓ) (g : Dev Cert.Mk.nD → PrngReg), Pre_Mk m →
    θ_run (Cert.Mk.defs (F := Bits)) (onTc (τ := Cert.Mk.τ) (Cert.Mk.main (F := Bits))) ⟨m, fun _ => 0, g⟩ (fun r => (∀ c : Dev Cert.Mk.nD,
      r.2.mem ((c.tc : Thread Cert.Mk.nD Cert.Mk.τ).loc Cert.Mk.main_arg0) = m ((c.tc : Thread Cert.Mk.nD Cert.Mk.τ).loc Cert.Mk.main_arg0)
      ∧ r.2.mem ((c.tc : Thread Cert.Mk.nD Cert.Mk.τ).loc Cert.Mk.main_arg1) = m ((c.tc : Thread Cert.Mk.nD Cert.Mk.τ).loc Cert.Mk.main_arg1)
      ∧ r.2.mem ((c.tc : Thread Cert.Mk.nD Cert.Mk.τ).loc Cert.Mk.main_arg2) = m ((c.tc : Thread Cert.Mk.nD Cert.Mk.τ).loc Cert.Mk.main_arg2))
      ∧ r.2.sem = fun _ => 0)

def quiescent_MkIdeal [hMkIdeal : Cert.MkIdeal.Facts] : Prop :=
  ∀ (m : (ℓ : Loc Cert.MkIdeal.nD Cert.MkIdeal.τ Cert.MkIdeal.sig) → Buf (Elt Ideal) ℓ) (g : Dev Cert.MkIdeal.nD → PrngReg), Pre_MkIdeal m →
    θ_run (Cert.MkIdeal.defs (F := Ideal)) (onTc (τ := Cert.MkIdeal.τ) (Cert.MkIdeal.main (F := Ideal))) ⟨m, fun _ => 0, g⟩ (fun r => (∀ c : Dev Cert.MkIdeal.nD,
      r.2.mem ((c.tc : Thread Cert.MkIdeal.nD Cert.MkIdeal.τ).loc Cert.MkIdeal.main_arg0) = m ((c.tc : Thread Cert.MkIdeal.nD Cert.MkIdeal.τ).loc Cert.MkIdeal.main_arg0)
      ∧ r.2.mem ((c.tc : Thread Cert.MkIdeal.nD Cert.MkIdeal.τ).loc Cert.MkIdeal.main_arg1) = m ((c.tc : Thread Cert.MkIdeal.nD Cert.MkIdeal.τ).loc Cert.MkIdeal.main_arg1)
      ∧ r.2.mem ((c.tc : Thread Cert.MkIdeal.nD Cert.MkIdeal.τ).loc Cert.MkIdeal.main_arg2) = m ((c.tc : Thread Cert.MkIdeal.nD Cert.MkIdeal.τ).loc Cert.MkIdeal.main_arg2))
      ∧ r.2.sem = fun _ => 0)

def quiescent_MkRefIdeal [hMkRefIdeal : Cert.MkRefIdeal.Facts] : Prop :=
  ∀ (m : (ℓ : Loc Cert.MkRefIdeal.nD Cert.MkRefIdeal.τ Cert.MkRefIdeal.sig) → Buf (Elt Ideal) ℓ) (g : Dev Cert.MkRefIdeal.nD → PrngReg), Pre_MkRefIdeal m →
    θ_run (Cert.MkRefIdeal.defs (F := Ideal)) (onTc (τ := Cert.MkRefIdeal.τ) (Cert.MkRefIdeal.main (F := Ideal))) ⟨m, fun _ => 0, g⟩ (fun r => (∀ c : Dev Cert.MkRefIdeal.nD,
      r.2.mem ((c.tc : Thread Cert.MkRefIdeal.nD Cert.MkRefIdeal.τ).loc Cert.MkRefIdeal.main_arg0) = m ((c.tc : Thread Cert.MkRefIdeal.nD Cert.MkRefIdeal.τ).loc Cert.MkRefIdeal.main_arg0)
      ∧ r.2.mem ((c.tc : Thread Cert.MkRefIdeal.nD Cert.MkRefIdeal.τ).loc Cert.MkRefIdeal.main_arg1) = m ((c.tc : Thread Cert.MkRefIdeal.nD Cert.MkRefIdeal.τ).loc Cert.MkRefIdeal.main_arg1)
      ∧ r.2.mem ((c.tc : Thread Cert.MkRefIdeal.nD Cert.MkRefIdeal.τ).loc Cert.MkRefIdeal.main_arg2) = m ((c.tc : Thread Cert.MkRefIdeal.nD Cert.MkRefIdeal.τ).loc Cert.MkRefIdeal.main_arg2))
      ∧ r.2.sem = fun _ => 0)

def quiescent_Sg [hSg : Cert.Sg.Facts] : Prop :=
  ∀ (m : (ℓ : Loc Cert.Sg.nD Cert.Sg.τ Cert.Sg.sig) → Buf (Elt Bits) ℓ) (g : Dev Cert.Sg.nD → PrngReg), Pre_Sg m →
    θ_run (Cert.Sg.defs (F := Bits)) (onTc (τ := Cert.Sg.τ) (Cert.Sg.main (F := Bits))) ⟨m, fun _ => 0, g⟩ (fun r => (∀ c : Dev Cert.Sg.nD,
      r.2.mem ((c.tc : Thread Cert.Sg.nD Cert.Sg.τ).loc Cert.Sg.main_arg0) = m ((c.tc : Thread Cert.Sg.nD Cert.Sg.τ).loc Cert.Sg.main_arg0)
      ∧ r.2.mem ((c.tc : Thread Cert.Sg.nD Cert.Sg.τ).loc Cert.Sg.main_arg1) = m ((c.tc : Thread Cert.Sg.nD Cert.Sg.τ).loc Cert.Sg.main_arg1)
      ∧ r.2.mem ((c.tc : Thread Cert.Sg.nD Cert.Sg.τ).loc Cert.Sg.main_arg2) = m ((c.tc : Thread Cert.Sg.nD Cert.Sg.τ).loc Cert.Sg.main_arg2))
      ∧ r.2.sem = fun _ => 0)

def quiescent_SgIdeal [hSgIdeal : Cert.SgIdeal.Facts] : Prop :=
  ∀ (m : (ℓ : Loc Cert.SgIdeal.nD Cert.SgIdeal.τ Cert.SgIdeal.sig) → Buf (Elt Ideal) ℓ) (g : Dev Cert.SgIdeal.nD → PrngReg), Pre_SgIdeal m →
    θ_run (Cert.SgIdeal.defs (F := Ideal)) (onTc (τ := Cert.SgIdeal.τ) (Cert.SgIdeal.main (F := Ideal))) ⟨m, fun _ => 0, g⟩ (fun r => (∀ c : Dev Cert.SgIdeal.nD,
      r.2.mem ((c.tc : Thread Cert.SgIdeal.nD Cert.SgIdeal.τ).loc Cert.SgIdeal.main_arg0) = m ((c.tc : Thread Cert.SgIdeal.nD Cert.SgIdeal.τ).loc Cert.SgIdeal.main_arg0)
      ∧ r.2.mem ((c.tc : Thread Cert.SgIdeal.nD Cert.SgIdeal.τ).loc Cert.SgIdeal.main_arg1) = m ((c.tc : Thread Cert.SgIdeal.nD Cert.SgIdeal.τ).loc Cert.SgIdeal.main_arg1)
      ∧ r.2.mem ((c.tc : Thread Cert.SgIdeal.nD Cert.SgIdeal.τ).loc Cert.SgIdeal.main_arg2) = m ((c.tc : Thread Cert.SgIdeal.nD Cert.SgIdeal.τ).loc Cert.SgIdeal.main_arg2))
      ∧ r.2.sem = fun _ => 0)

def quiescent_SgRefIdeal [hSgRefIdeal : Cert.SgRefIdeal.Facts] : Prop :=
  ∀ (m : (ℓ : Loc Cert.SgRefIdeal.nD Cert.SgRefIdeal.τ Cert.SgRefIdeal.sig) → Buf (Elt Ideal) ℓ) (g : Dev Cert.SgRefIdeal.nD → PrngReg), Pre_SgRefIdeal m →
    θ_run (Cert.SgRefIdeal.defs (F := Ideal)) (onTc (τ := Cert.SgRefIdeal.τ) (Cert.SgRefIdeal.main (F := Ideal))) ⟨m, fun _ => 0, g⟩ (fun r => (∀ c : Dev Cert.SgRefIdeal.nD,
      r.2.mem ((c.tc : Thread Cert.SgRefIdeal.nD Cert.SgRefIdeal.τ).loc Cert.SgRefIdeal.main_arg0) = m ((c.tc : Thread Cert.SgRefIdeal.nD Cert.SgRefIdeal.τ).loc Cert.SgRefIdeal.main_arg0)
      ∧ r.2.mem ((c.tc : Thread Cert.SgRefIdeal.nD Cert.SgRefIdeal.τ).loc Cert.SgRefIdeal.main_arg1) = m ((c.tc : Thread Cert.SgRefIdeal.nD Cert.SgRefIdeal.τ).loc Cert.SgRefIdeal.main_arg1)
      ∧ r.2.mem ((c.tc : Thread Cert.SgRefIdeal.nD Cert.SgRefIdeal.τ).loc Cert.SgRefIdeal.main_arg2) = m ((c.tc : Thread Cert.SgRefIdeal.nD Cert.SgRefIdeal.τ).loc Cert.SgRefIdeal.main_arg2))
      ∧ r.2.sem = fun _ => 0)

def quiescent_Rn [hRn : Cert.Rn.Facts] : Prop :=
  ∀ (m : (ℓ : Loc Cert.Rn.nD Cert.Rn.τ Cert.Rn.sig) → Buf (Elt Bits) ℓ) (g : Dev Cert.Rn.nD → PrngReg), Pre_Rn m →
    θ_run (Cert.Rn.defs (F := Bits)) (onTc (τ := Cert.Rn.τ) (Cert.Rn.main (F := Bits))) ⟨m, fun _ => 0, g⟩ (fun r => (∀ c : Dev Cert.Rn.nD,
      r.2.mem ((c.tc : Thread Cert.Rn.nD Cert.Rn.τ).loc Cert.Rn.main_arg0) = m ((c.tc : Thread Cert.Rn.nD Cert.Rn.τ).loc Cert.Rn.main_arg0)
      ∧ r.2.mem ((c.tc : Thread Cert.Rn.nD Cert.Rn.τ).loc Cert.Rn.main_arg1) = m ((c.tc : Thread Cert.Rn.nD Cert.Rn.τ).loc Cert.Rn.main_arg1))
      ∧ r.2.sem = fun _ => 0)

def quiescent_RnIdeal [hRnIdeal : Cert.RnIdeal.Facts] : Prop :=
  ∀ (m : (ℓ : Loc Cert.RnIdeal.nD Cert.RnIdeal.τ Cert.RnIdeal.sig) → Buf (Elt Ideal) ℓ) (g : Dev Cert.RnIdeal.nD → PrngReg), Pre_RnIdeal m →
    θ_run (Cert.RnIdeal.defs (F := Ideal)) (onTc (τ := Cert.RnIdeal.τ) (Cert.RnIdeal.main (F := Ideal))) ⟨m, fun _ => 0, g⟩ (fun r => (∀ c : Dev Cert.RnIdeal.nD,
      r.2.mem ((c.tc : Thread Cert.RnIdeal.nD Cert.RnIdeal.τ).loc Cert.RnIdeal.main_arg0) = m ((c.tc : Thread Cert.RnIdeal.nD Cert.RnIdeal.τ).loc Cert.RnIdeal.main_arg0)
      ∧ r.2.mem ((c.tc : Thread Cert.RnIdeal.nD Cert.RnIdeal.τ).loc Cert.RnIdeal.main_arg1) = m ((c.tc : Thread Cert.RnIdeal.nD Cert.RnIdeal.τ).loc Cert.RnIdeal.main_arg1))
      ∧ r.2.sem = fun _ => 0)

def quiescent_RnRefIdeal [hRnRefIdeal : Cert.RnRefIdeal.Facts] : Prop :=
  ∀ (m : (ℓ : Loc Cert.RnRefIdeal.nD Cert.RnRefIdeal.τ Cert.RnRefIdeal.sig) → Buf (Elt Ideal) ℓ) (g : Dev Cert.RnRefIdeal.nD → PrngReg), Pre_RnRefIdeal m →
    θ_run (Cert.RnRefIdeal.defs (F := Ideal)) (onTc (τ := Cert.RnRefIdeal.τ) (Cert.RnRefIdeal.main (F := Ideal))) ⟨m, fun _ => 0, g⟩ (fun r => (∀ c : Dev Cert.RnRefIdeal.nD,
      r.2.mem ((c.tc : Thread Cert.RnRefIdeal.nD Cert.RnRefIdeal.τ).loc Cert.RnRefIdeal.main_arg0) = m ((c.tc : Thread Cert.RnRefIdeal.nD Cert.RnRefIdeal.τ).loc Cert.RnRefIdeal.main_arg0)
      ∧ r.2.mem ((c.tc : Thread Cert.RnRefIdeal.nD Cert.RnRefIdeal.τ).loc Cert.RnRefIdeal.main_arg1) = m ((c.tc : Thread Cert.RnRefIdeal.nD Cert.RnRefIdeal.τ).loc Cert.RnRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_prompt_rows_pre_finite_inputs [hKernelIdeal : Cert.KernelIdeal.Facts] [hReferenceIdeal : Cert.ReferenceIdeal.Facts] [hPre_finite_inputs : Cert.Pre_finite_inputs.Facts] [hOn_prompt_rows : Cert.On_prompt_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8704, 4096]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v42) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8704, 4096]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v93) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v12) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v1) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Mq_MqIdeal : Prop :=
  True

def algebraic_MqIdeal_MqRefIdeal [hMqIdeal : Cert.MqIdeal.Facts] [hMqRefIdeal : Cert.MqRefIdeal.Facts] : Prop :=
  ∀ (m : (ℓ : Loc Cert.MqIdeal.nD Cert.MqIdeal.τ Cert.MqIdeal.sig) → Buf (Elt Ideal) ℓ) (g : Dev Cert.MqIdeal.nD → PrngReg)
    (m' : (ℓ : Loc Cert.MqRefIdeal.nD Cert.MqRefIdeal.τ Cert.MqRefIdeal.sig) → Buf (Elt Ideal) ℓ) (g' : Dev Cert.MqRefIdeal.nD → PrngReg), Pre_MqIdeal m →
    (∀ c : Dev Cert.MqIdeal.nD,
      m' ((c.tc : Thread Cert.MqRefIdeal.nD Cert.MqRefIdeal.τ).loc Cert.MqRefIdeal.main_arg0) = m ((c.tc : Thread Cert.MqIdeal.nD Cert.MqIdeal.τ).loc Cert.MqIdeal.main_arg0)
      ∧ m' ((c.tc : Thread Cert.MqRefIdeal.nD Cert.MqRefIdeal.τ).loc Cert.MqRefIdeal.main_arg1) = m ((c.tc : Thread Cert.MqIdeal.nD Cert.MqIdeal.τ).loc Cert.MqIdeal.main_arg1)) →
    ∃ (v0 : (c : Dev Cert.MqIdeal.nD) → Buf (Elt Ideal) ((c.tc : Thread Cert.MqIdeal.nD Cert.MqIdeal.τ).loc Cert.MqIdeal.main_v0)),
      θ_run (Cert.MqIdeal.defs (F := Ideal)) (onTc (τ := Cert.MqIdeal.τ) (Cert.MqIdeal.main (F := Ideal))) ⟨m, fun _ => 0, g⟩ (fun r => ∀ c : Dev Cert.MqIdeal.nD,
          r.2.mem ((c.tc : Thread Cert.MqIdeal.nD Cert.MqIdeal.τ).loc Cert.MqIdeal.main_v0) = v0 c
          ∧ r.2.mem ((c.tc : Thread Cert.MqIdeal.nD Cert.MqIdeal.τ).loc Cert.MqIdeal.main_arg0) = m ((c.tc : Thread Cert.MqIdeal.nD Cert.MqIdeal.τ).loc Cert.MqIdeal.main_arg0)
          ∧ r.2.mem ((c.tc : Thread Cert.MqIdeal.nD Cert.MqIdeal.τ).loc Cert.MqIdeal.main_arg1) = m ((c.tc : Thread Cert.MqIdeal.nD Cert.MqIdeal.τ).loc Cert.MqIdeal.main_arg1))
      ∧ θ_run (Cert.MqRefIdeal.defs (F := Ideal)) (onTc (τ := Cert.MqRefIdeal.τ) (Cert.MqRefIdeal.main (F := Ideal))) ⟨m', fun _ => 0, g'⟩ (fun r => ∀ c : Dev Cert.MqRefIdeal.nD,
          r.2.mem ((c.tc : Thread Cert.MqRefIdeal.nD Cert.MqRefIdeal.τ).loc Cert.MqRefIdeal.main_v4) = v0 c
          ∧ r.2.mem ((c.tc : Thread Cert.MqRefIdeal.nD Cert.MqRefIdeal.τ).loc Cert.MqRefIdeal.main_arg0) = m' ((c.tc : Thread Cert.MqRefIdeal.nD Cert.MqRefIdeal.τ).loc Cert.MqRefIdeal.main_arg0)
          ∧ r.2.mem ((c.tc : Thread Cert.MqRefIdeal.nD Cert.MqRefIdeal.τ).loc Cert.MqRefIdeal.main_arg1) = m' ((c.tc : Thread Cert.MqRefIdeal.nD Cert.MqRefIdeal.τ).loc Cert.MqRefIdeal.main_arg1))

def preserves_Mo_MoIdeal : Prop :=
  True

def algebraic_MoIdeal_MoRefIdeal [hMoIdeal : Cert.MoIdeal.Facts] [hMoRefIdeal : Cert.MoRefIdeal.Facts] : Prop :=
  ∀ (m : (ℓ : Loc Cert.MoIdeal.nD Cert.MoIdeal.τ Cert.MoIdeal.sig) → Buf (Elt Ideal) ℓ) (g : Dev Cert.MoIdeal.nD → PrngReg)
    (m' : (ℓ : Loc Cert.MoRefIdeal.nD Cert.MoRefIdeal.τ Cert.MoRefIdeal.sig) → Buf (Elt Ideal) ℓ) (g' : Dev Cert.MoRefIdeal.nD → PrngReg), Pre_MoIdeal m →
    (∀ c : Dev Cert.MoIdeal.nD,
      m' ((c.tc : Thread Cert.MoRefIdeal.nD Cert.MoRefIdeal.τ).loc Cert.MoRefIdeal.main_arg0) = m ((c.tc : Thread Cert.MoIdeal.nD Cert.MoIdeal.τ).loc Cert.MoIdeal.main_arg0)
      ∧ m' ((c.tc : Thread Cert.MoRefIdeal.nD Cert.MoRefIdeal.τ).loc Cert.MoRefIdeal.main_arg1) = m ((c.tc : Thread Cert.MoIdeal.nD Cert.MoIdeal.τ).loc Cert.MoIdeal.main_arg1)
      ∧ m' ((c.tc : Thread Cert.MoRefIdeal.nD Cert.MoRefIdeal.τ).loc Cert.MoRefIdeal.main_arg2) = m ((c.tc : Thread Cert.MoIdeal.nD Cert.MoIdeal.τ).loc Cert.MoIdeal.main_arg2)) →
    ∃ (v0 : (c : Dev Cert.MoIdeal.nD) → Buf (Elt Ideal) ((c.tc : Thread Cert.MoIdeal.nD Cert.MoIdeal.τ).loc Cert.MoIdeal.main_v0)),
      θ_run (Cert.MoIdeal.defs (F := Ideal)) (onTc (τ := Cert.MoIdeal.τ) (Cert.MoIdeal.main (F := Ideal))) ⟨m, fun _ => 0, g⟩ (fun r => ∀ c : Dev Cert.MoIdeal.nD,
          r.2.mem ((c.tc : Thread Cert.MoIdeal.nD Cert.MoIdeal.τ).loc Cert.MoIdeal.main_v0) = v0 c
          ∧ r.2.mem ((c.tc : Thread Cert.MoIdeal.nD Cert.MoIdeal.τ).loc Cert.MoIdeal.main_arg0) = m ((c.tc : Thread Cert.MoIdeal.nD Cert.MoIdeal.τ).loc Cert.MoIdeal.main_arg0)
          ∧ r.2.mem ((c.tc : Thread Cert.MoIdeal.nD Cert.MoIdeal.τ).loc Cert.MoIdeal.main_arg1) = m ((c.tc : Thread Cert.MoIdeal.nD Cert.MoIdeal.τ).loc Cert.MoIdeal.main_arg1)
          ∧ r.2.mem ((c.tc : Thread Cert.MoIdeal.nD Cert.MoIdeal.τ).loc Cert.MoIdeal.main_arg2) = m ((c.tc : Thread Cert.MoIdeal.nD Cert.MoIdeal.τ).loc Cert.MoIdeal.main_arg2))
      ∧ θ_run (Cert.MoRefIdeal.defs (F := Ideal)) (onTc (τ := Cert.MoRefIdeal.τ) (Cert.MoRefIdeal.main (F := Ideal))) ⟨m', fun _ => 0, g'⟩ (fun r => ∀ c : Dev Cert.MoRefIdeal.nD,
          r.2.mem ((c.tc : Thread Cert.MoRefIdeal.nD Cert.MoRefIdeal.τ).loc Cert.MoRefIdeal.main_v4) = v0 c
          ∧ r.2.mem ((c.tc : Thread Cert.MoRefIdeal.nD Cert.MoRefIdeal.τ).loc Cert.MoRefIdeal.main_arg0) = m' ((c.tc : Thread Cert.MoRefIdeal.nD Cert.MoRefIdeal.τ).loc Cert.MoRefIdeal.main_arg0)
          ∧ r.2.mem ((c.tc : Thread Cert.MoRefIdeal.nD Cert.MoRefIdeal.τ).loc Cert.MoRefIdeal.main_arg1) = m' ((c.tc : Thread Cert.MoRefIdeal.nD Cert.MoRefIdeal.τ).loc Cert.MoRefIdeal.main_arg1)
          ∧ r.2.mem ((c.tc : Thread Cert.MoRefIdeal.nD Cert.MoRefIdeal.τ).loc Cert.MoRefIdeal.main_arg2) = m' ((c.tc : Thread Cert.MoRefIdeal.nD Cert.MoRefIdeal.τ).loc Cert.MoRefIdeal.main_arg2))

def preserves_Aq_AqIdeal : Prop :=
  True

def algebraic_AqIdeal_AqRefIdeal [hAqIdeal : Cert.AqIdeal.Facts] [hAqRefIdeal : Cert.AqRefIdeal.Facts] : Prop :=
  ∀ (m : (ℓ : Loc Cert.AqIdeal.nD Cert.AqIdeal.τ Cert.AqIdeal.sig) → Buf (Elt Ideal) ℓ) (g : Dev Cert.AqIdeal.nD → PrngReg)
    (m' : (ℓ : Loc Cert.AqRefIdeal.nD Cert.AqRefIdeal.τ Cert.AqRefIdeal.sig) → Buf (Elt Ideal) ℓ) (g' : Dev Cert.AqRefIdeal.nD → PrngReg), Pre_AqIdeal m →
    (∀ c : Dev Cert.AqIdeal.nD,
      m' ((c.tc : Thread Cert.AqRefIdeal.nD Cert.AqRefIdeal.τ).loc Cert.AqRefIdeal.main_arg0) = m ((c.tc : Thread Cert.AqIdeal.nD Cert.AqIdeal.τ).loc Cert.AqIdeal.main_arg0)
      ∧ m' ((c.tc : Thread Cert.AqRefIdeal.nD Cert.AqRefIdeal.τ).loc Cert.AqRefIdeal.main_arg1) = m ((c.tc : Thread Cert.AqIdeal.nD Cert.AqIdeal.τ).loc Cert.AqIdeal.main_arg1)) →
    ∃ (v0 : (c : Dev Cert.AqIdeal.nD) → Buf (Elt Ideal) ((c.tc : Thread Cert.AqIdeal.nD Cert.AqIdeal.τ).loc Cert.AqIdeal.main_v0)),
      θ_run (Cert.AqIdeal.defs (F := Ideal)) (onTc (τ := Cert.AqIdeal.τ) (Cert.AqIdeal.main (F := Ideal))) ⟨m, fun _ => 0, g⟩ (fun r => ∀ c : Dev Cert.AqIdeal.nD,
          r.2.mem ((c.tc : Thread Cert.AqIdeal.nD Cert.AqIdeal.τ).loc Cert.AqIdeal.main_v0) = v0 c
          ∧ r.2.mem ((c.tc : Thread Cert.AqIdeal.nD Cert.AqIdeal.τ).loc Cert.AqIdeal.main_arg0) = m ((c.tc : Thread Cert.AqIdeal.nD Cert.AqIdeal.τ).loc Cert.AqIdeal.main_arg0)
          ∧ r.2.mem ((c.tc : Thread Cert.AqIdeal.nD Cert.AqIdeal.τ).loc Cert.AqIdeal.main_arg1) = m ((c.tc : Thread Cert.AqIdeal.nD Cert.AqIdeal.τ).loc Cert.AqIdeal.main_arg1))
      ∧ θ_run (Cert.AqRefIdeal.defs (F := Ideal)) (onTc (τ := Cert.AqRefIdeal.τ) (Cert.AqRefIdeal.main (F := Ideal))) ⟨m', fun _ => 0, g'⟩ (fun r => ∀ c : Dev Cert.AqRefIdeal.nD,
          r.2.mem ((c.tc : Thread Cert.AqRefIdeal.nD Cert.AqRefIdeal.τ).loc Cert.AqRefIdeal.main_v3) = v0 c
          ∧ r.2.mem ((c.tc : Thread Cert.AqRefIdeal.nD Cert.AqRefIdeal.τ).loc Cert.AqRefIdeal.main_arg0) = m' ((c.tc : Thread Cert.AqRefIdeal.nD Cert.AqRefIdeal.τ).loc Cert.AqRefIdeal.main_arg0)
          ∧ r.2.mem ((c.tc : Thread Cert.AqRefIdeal.nD Cert.AqRefIdeal.τ).loc Cert.AqRefIdeal.main_arg1) = m' ((c.tc : Thread Cert.AqRefIdeal.nD Cert.AqRefIdeal.τ).loc Cert.AqRefIdeal.main_arg1))

def preserves_Ao_AoIdeal : Prop :=
  True

def algebraic_AoIdeal_AoRefIdeal [hAoIdeal : Cert.AoIdeal.Facts] [hAoRefIdeal : Cert.AoRefIdeal.Facts] : Prop :=
  ∀ (m : (ℓ : Loc Cert.AoIdeal.nD Cert.AoIdeal.τ Cert.AoIdeal.sig) → Buf (Elt Ideal) ℓ) (g : Dev Cert.AoIdeal.nD → PrngReg)
    (m' : (ℓ : Loc Cert.AoRefIdeal.nD Cert.AoRefIdeal.τ Cert.AoRefIdeal.sig) → Buf (Elt Ideal) ℓ) (g' : Dev Cert.AoRefIdeal.nD → PrngReg), Pre_AoIdeal m →
    (∀ c : Dev Cert.AoIdeal.nD,
      m' ((c.tc : Thread Cert.AoRefIdeal.nD Cert.AoRefIdeal.τ).loc Cert.AoRefIdeal.main_arg0) = m ((c.tc : Thread Cert.AoIdeal.nD Cert.AoIdeal.τ).loc Cert.AoIdeal.main_arg0)
      ∧ m' ((c.tc : Thread Cert.AoRefIdeal.nD Cert.AoRefIdeal.τ).loc Cert.AoRefIdeal.main_arg1) = m ((c.tc : Thread Cert.AoIdeal.nD Cert.AoIdeal.τ).loc Cert.AoIdeal.main_arg1)
      ∧ m' ((c.tc : Thread Cert.AoRefIdeal.nD Cert.AoRefIdeal.τ).loc Cert.AoRefIdeal.main_arg2) = m ((c.tc : Thread Cert.AoIdeal.nD Cert.AoIdeal.τ).loc Cert.AoIdeal.main_arg2)) →
    ∃ (v0 : (c : Dev Cert.AoIdeal.nD) → Buf (Elt Ideal) ((c.tc : Thread Cert.AoIdeal.nD Cert.AoIdeal.τ).loc Cert.AoIdeal.main_v0)),
      θ_run (Cert.AoIdeal.defs (F := Ideal)) (onTc (τ := Cert.AoIdeal.τ) (Cert.AoIdeal.main (F := Ideal))) ⟨m, fun _ => 0, g⟩ (fun r => ∀ c : Dev Cert.AoIdeal.nD,
          r.2.mem ((c.tc : Thread Cert.AoIdeal.nD Cert.AoIdeal.τ).loc Cert.AoIdeal.main_v0) = v0 c
          ∧ r.2.mem ((c.tc : Thread Cert.AoIdeal.nD Cert.AoIdeal.τ).loc Cert.AoIdeal.main_arg0) = m ((c.tc : Thread Cert.AoIdeal.nD Cert.AoIdeal.τ).loc Cert.AoIdeal.main_arg0)
          ∧ r.2.mem ((c.tc : Thread Cert.AoIdeal.nD Cert.AoIdeal.τ).loc Cert.AoIdeal.main_arg1) = m ((c.tc : Thread Cert.AoIdeal.nD Cert.AoIdeal.τ).loc Cert.AoIdeal.main_arg1)
          ∧ r.2.mem ((c.tc : Thread Cert.AoIdeal.nD Cert.AoIdeal.τ).loc Cert.AoIdeal.main_arg2) = m ((c.tc : Thread Cert.AoIdeal.nD Cert.AoIdeal.τ).loc Cert.AoIdeal.main_arg2))
      ∧ θ_run (Cert.AoRefIdeal.defs (F := Ideal)) (onTc (τ := Cert.AoRefIdeal.τ) (Cert.AoRefIdeal.main (F := Ideal))) ⟨m', fun _ => 0, g'⟩ (fun r => ∀ c : Dev Cert.AoRefIdeal.nD,
          r.2.mem ((c.tc : Thread Cert.AoRefIdeal.nD Cert.AoRefIdeal.τ).loc Cert.AoRefIdeal.main_v3) = v0 c
          ∧ r.2.mem ((c.tc : Thread Cert.AoRefIdeal.nD Cert.AoRefIdeal.τ).loc Cert.AoRefIdeal.main_arg0) = m' ((c.tc : Thread Cert.AoRefIdeal.nD Cert.AoRefIdeal.τ).loc Cert.AoRefIdeal.main_arg0)
          ∧ r.2.mem ((c.tc : Thread Cert.AoRefIdeal.nD Cert.AoRefIdeal.τ).loc Cert.AoRefIdeal.main_arg1) = m' ((c.tc : Thread Cert.AoRefIdeal.nD Cert.AoRefIdeal.τ).loc Cert.AoRefIdeal.main_arg1)
          ∧ r.2.mem ((c.tc : Thread Cert.AoRefIdeal.nD Cert.AoRefIdeal.τ).loc Cert.AoRefIdeal.main_arg2) = m' ((c.tc : Thread Cert.AoRefIdeal.nD Cert.AoRefIdeal.τ).loc Cert.AoRefIdeal.main_arg2))

def preserves_Ma_MaIdeal : Prop :=
  True

def algebraic_MaIdeal_MaRefIdeal_on_mem_rows [hMaIdeal : Cert.MaIdeal.Facts] [hMaRefIdeal : Cert.MaRefIdeal.Facts] [hOn_mem_rows : Cert.On_mem_rows.Facts] : Prop :=
  ∀ (m : (ℓ : Loc Cert.MaIdeal.nD Cert.MaIdeal.τ Cert.MaIdeal.sig) → Buf (Elt Ideal) ℓ) (g : Dev Cert.MaIdeal.nD → PrngReg)
    (m' : (ℓ : Loc Cert.MaRefIdeal.nD Cert.MaRefIdeal.τ Cert.MaRefIdeal.sig) → Buf (Elt Ideal) ℓ) (g' : Dev Cert.MaRefIdeal.nD → PrngReg), Pre_MaIdeal m →
    (∀ c : Dev Cert.MaIdeal.nD,
      m' ((c.tc : Thread Cert.MaRefIdeal.nD Cert.MaRefIdeal.τ).loc Cert.MaRefIdeal.main_arg0) = m ((c.tc : Thread Cert.MaIdeal.nD Cert.MaIdeal.τ).loc Cert.MaIdeal.main_arg0)
      ∧ m' ((c.tc : Thread Cert.MaRefIdeal.nD Cert.MaRefIdeal.τ).loc Cert.MaRefIdeal.main_arg1) = m ((c.tc : Thread Cert.MaIdeal.nD Cert.MaIdeal.τ).loc Cert.MaIdeal.main_arg1)) →
    ∃ (v0 : (c : Dev Cert.MaIdeal.nD) → Buf (Elt Ideal) ((c.tc : Thread Cert.MaIdeal.nD Cert.MaIdeal.τ).loc Cert.MaIdeal.main_v0)),
      θ_run (Cert.MaIdeal.defs (F := Ideal)) (onTc (τ := Cert.MaIdeal.τ) (Cert.MaIdeal.main (F := Ideal))) ⟨m, fun _ => 0, g⟩ (fun r => ∀ c : Dev Cert.MaIdeal.nD,
          (∀ i : (⟨2, ![8704, 4096]⟩ : Shape).Idx, (Cert.On_mem_rows.fn (F := Ideal) (m ((c.tc : Thread Cert.MaIdeal.nD Cert.MaIdeal.τ).loc Cert.MaIdeal.main_arg0)) (m ((c.tc : Thread Cert.MaIdeal.nD Cert.MaIdeal.τ).loc Cert.MaIdeal.main_arg1))) i = 1#1 → r.2.mem ((c.tc : Thread Cert.MaIdeal.nD Cert.MaIdeal.τ).loc Cert.MaIdeal.main_v0) i = v0 c i)
          ∧ r.2.mem ((c.tc : Thread Cert.MaIdeal.nD Cert.MaIdeal.τ).loc Cert.MaIdeal.main_arg0) = m ((c.tc : Thread Cert.MaIdeal.nD Cert.MaIdeal.τ).loc Cert.MaIdeal.main_arg0)
          ∧ r.2.mem ((c.tc : Thread Cert.MaIdeal.nD Cert.MaIdeal.τ).loc Cert.MaIdeal.main_arg1) = m ((c.tc : Thread Cert.MaIdeal.nD Cert.MaIdeal.τ).loc Cert.MaIdeal.main_arg1))
      ∧ θ_run (Cert.MaRefIdeal.defs (F := Ideal)) (onTc (τ := Cert.MaRefIdeal.τ) (Cert.MaRefIdeal.main (F := Ideal))) ⟨m', fun _ => 0, g'⟩ (fun r => ∀ c : Dev Cert.MaRefIdeal.nD,
          (∀ i : (⟨2, ![8704, 4096]⟩ : Shape).Idx, (Cert.On_mem_rows.fn (F := Ideal) (m ((c.tc : Thread Cert.MaIdeal.nD Cert.MaIdeal.τ).loc Cert.MaIdeal.main_arg0)) (m ((c.tc : Thread Cert.MaIdeal.nD Cert.MaIdeal.τ).loc Cert.MaIdeal.main_arg1))) i = 1#1 → r.2.mem ((c.tc : Thread Cert.MaRefIdeal.nD Cert.MaRefIdeal.τ).loc Cert.MaRefIdeal.main_v25) i = v0 c i)
          ∧ r.2.mem ((c.tc : Thread Cert.MaRefIdeal.nD Cert.MaRefIdeal.τ).loc Cert.MaRefIdeal.main_arg0) = m' ((c.tc : Thread Cert.MaRefIdeal.nD Cert.MaRefIdeal.τ).loc Cert.MaRefIdeal.main_arg0)
          ∧ r.2.mem ((c.tc : Thread Cert.MaRefIdeal.nD Cert.MaRefIdeal.τ).loc Cert.MaRefIdeal.main_arg1) = m' ((c.tc : Thread Cert.MaRefIdeal.nD Cert.MaRefIdeal.τ).loc Cert.MaRefIdeal.main_arg1))

def preserves_Mk_MkIdeal : Prop :=
  True

def algebraic_MkIdeal_MkRefIdeal [hMkIdeal : Cert.MkIdeal.Facts] [hMkRefIdeal : Cert.MkRefIdeal.Facts] : Prop :=
  ∀ (m : (ℓ : Loc Cert.MkIdeal.nD Cert.MkIdeal.τ Cert.MkIdeal.sig) → Buf (Elt Ideal) ℓ) (g : Dev Cert.MkIdeal.nD → PrngReg)
    (m' : (ℓ : Loc Cert.MkRefIdeal.nD Cert.MkRefIdeal.τ Cert.MkRefIdeal.sig) → Buf (Elt Ideal) ℓ) (g' : Dev Cert.MkRefIdeal.nD → PrngReg), Pre_MkIdeal m →
    (∀ c : Dev Cert.MkIdeal.nD,
      m' ((c.tc : Thread Cert.MkRefIdeal.nD Cert.MkRefIdeal.τ).loc Cert.MkRefIdeal.main_arg0) = m ((c.tc : Thread Cert.MkIdeal.nD Cert.MkIdeal.τ).loc Cert.MkIdeal.main_arg0)
      ∧ m' ((c.tc : Thread Cert.MkRefIdeal.nD Cert.MkRefIdeal.τ).loc Cert.MkRefIdeal.main_arg1) = m ((c.tc : Thread Cert.MkIdeal.nD Cert.MkIdeal.τ).loc Cert.MkIdeal.main_arg1)
      ∧ m' ((c.tc : Thread Cert.MkRefIdeal.nD Cert.MkRefIdeal.τ).loc Cert.MkRefIdeal.main_arg2) = m ((c.tc : Thread Cert.MkIdeal.nD Cert.MkIdeal.τ).loc Cert.MkIdeal.main_arg2)) →
    ∃ (v0 : (c : Dev Cert.MkIdeal.nD) → Buf (Elt Ideal) ((c.tc : Thread Cert.MkIdeal.nD Cert.MkIdeal.τ).loc Cert.MkIdeal.main_v5)) (v1 : (c : Dev Cert.MkIdeal.nD) → Buf (Elt Ideal) ((c.tc : Thread Cert.MkIdeal.nD Cert.MkIdeal.τ).loc Cert.MkIdeal.main_v10)),
      θ_run (Cert.MkIdeal.defs (F := Ideal)) (onTc (τ := Cert.MkIdeal.τ) (Cert.MkIdeal.main (F := Ideal))) ⟨m, fun _ => 0, g⟩ (fun r => ∀ c : Dev Cert.MkIdeal.nD,
          r.2.mem ((c.tc : Thread Cert.MkIdeal.nD Cert.MkIdeal.τ).loc Cert.MkIdeal.main_v5) = v0 c
          ∧ r.2.mem ((c.tc : Thread Cert.MkIdeal.nD Cert.MkIdeal.τ).loc Cert.MkIdeal.main_v10) = v1 c
          ∧ r.2.mem ((c.tc : Thread Cert.MkIdeal.nD Cert.MkIdeal.τ).loc Cert.MkIdeal.main_arg0) = m ((c.tc : Thread Cert.MkIdeal.nD Cert.MkIdeal.τ).loc Cert.MkIdeal.main_arg0)
          ∧ r.2.mem ((c.tc : Thread Cert.MkIdeal.nD Cert.MkIdeal.τ).loc Cert.MkIdeal.main_arg1) = m ((c.tc : Thread Cert.MkIdeal.nD Cert.MkIdeal.τ).loc Cert.MkIdeal.main_arg1)
          ∧ r.2.mem ((c.tc : Thread Cert.MkIdeal.nD Cert.MkIdeal.τ).loc Cert.MkIdeal.main_arg2) = m ((c.tc : Thread Cert.MkIdeal.nD Cert.MkIdeal.τ).loc Cert.MkIdeal.main_arg2))
      ∧ θ_run (Cert.MkRefIdeal.defs (F := Ideal)) (onTc (τ := Cert.MkRefIdeal.τ) (Cert.MkRefIdeal.main (F := Ideal))) ⟨m', fun _ => 0, g'⟩ (fun r => ∀ c : Dev Cert.MkRefIdeal.nD,
          r.2.mem ((c.tc : Thread Cert.MkRefIdeal.nD Cert.MkRefIdeal.τ).loc Cert.MkRefIdeal.main_v18) = v0 c
          ∧ r.2.mem ((c.tc : Thread Cert.MkRefIdeal.nD Cert.MkRefIdeal.τ).loc Cert.MkRefIdeal.main_v37) = v1 c
          ∧ r.2.mem ((c.tc : Thread Cert.MkRefIdeal.nD Cert.MkRefIdeal.τ).loc Cert.MkRefIdeal.main_arg0) = m' ((c.tc : Thread Cert.MkRefIdeal.nD Cert.MkRefIdeal.τ).loc Cert.MkRefIdeal.main_arg0)
          ∧ r.2.mem ((c.tc : Thread Cert.MkRefIdeal.nD Cert.MkRefIdeal.τ).loc Cert.MkRefIdeal.main_arg1) = m' ((c.tc : Thread Cert.MkRefIdeal.nD Cert.MkRefIdeal.τ).loc Cert.MkRefIdeal.main_arg1)
          ∧ r.2.mem ((c.tc : Thread Cert.MkRefIdeal.nD Cert.MkRefIdeal.τ).loc Cert.MkRefIdeal.main_arg2) = m' ((c.tc : Thread Cert.MkRefIdeal.nD Cert.MkRefIdeal.τ).loc Cert.MkRefIdeal.main_arg2))

def preserves_Sg_SgIdeal : Prop :=
  True

def algebraic_SgIdeal_SgRefIdeal [hSgIdeal : Cert.SgIdeal.Facts] [hSgRefIdeal : Cert.SgRefIdeal.Facts] : Prop :=
  ∀ (m : (ℓ : Loc Cert.SgIdeal.nD Cert.SgIdeal.τ Cert.SgIdeal.sig) → Buf (Elt Ideal) ℓ) (g : Dev Cert.SgIdeal.nD → PrngReg)
    (m' : (ℓ : Loc Cert.SgRefIdeal.nD Cert.SgRefIdeal.τ Cert.SgRefIdeal.sig) → Buf (Elt Ideal) ℓ) (g' : Dev Cert.SgRefIdeal.nD → PrngReg), Pre_SgIdeal m →
    (∀ c : Dev Cert.SgIdeal.nD,
      m' ((c.tc : Thread Cert.SgRefIdeal.nD Cert.SgRefIdeal.τ).loc Cert.SgRefIdeal.main_arg0) = m ((c.tc : Thread Cert.SgIdeal.nD Cert.SgIdeal.τ).loc Cert.SgIdeal.main_arg0)
      ∧ m' ((c.tc : Thread Cert.SgRefIdeal.nD Cert.SgRefIdeal.τ).loc Cert.SgRefIdeal.main_arg1) = m ((c.tc : Thread Cert.SgIdeal.nD Cert.SgIdeal.τ).loc Cert.SgIdeal.main_arg1)
      ∧ m' ((c.tc : Thread Cert.SgRefIdeal.nD Cert.SgRefIdeal.τ).loc Cert.SgRefIdeal.main_arg2) = m ((c.tc : Thread Cert.SgIdeal.nD Cert.SgIdeal.τ).loc Cert.SgIdeal.main_arg2)) →
    ∃ (v0 : (c : Dev Cert.SgIdeal.nD) → Buf (Elt Ideal) ((c.tc : Thread Cert.SgIdeal.nD Cert.SgIdeal.τ).loc Cert.SgIdeal.main_v2)),
      θ_run (Cert.SgIdeal.defs (F := Ideal)) (onTc (τ := Cert.SgIdeal.τ) (Cert.SgIdeal.main (F := Ideal))) ⟨m, fun _ => 0, g⟩ (fun r => ∀ c : Dev Cert.SgIdeal.nD,
          r.2.mem ((c.tc : Thread Cert.SgIdeal.nD Cert.SgIdeal.τ).loc Cert.SgIdeal.main_v2) = v0 c
          ∧ r.2.mem ((c.tc : Thread Cert.SgIdeal.nD Cert.SgIdeal.τ).loc Cert.SgIdeal.main_arg0) = m ((c.tc : Thread Cert.SgIdeal.nD Cert.SgIdeal.τ).loc Cert.SgIdeal.main_arg0)
          ∧ r.2.mem ((c.tc : Thread Cert.SgIdeal.nD Cert.SgIdeal.τ).loc Cert.SgIdeal.main_arg1) = m ((c.tc : Thread Cert.SgIdeal.nD Cert.SgIdeal.τ).loc Cert.SgIdeal.main_arg1)
          ∧ r.2.mem ((c.tc : Thread Cert.SgIdeal.nD Cert.SgIdeal.τ).loc Cert.SgIdeal.main_arg2) = m ((c.tc : Thread Cert.SgIdeal.nD Cert.SgIdeal.τ).loc Cert.SgIdeal.main_arg2))
      ∧ θ_run (Cert.SgRefIdeal.defs (F := Ideal)) (onTc (τ := Cert.SgRefIdeal.τ) (Cert.SgRefIdeal.main (F := Ideal))) ⟨m', fun _ => 0, g'⟩ (fun r => ∀ c : Dev Cert.SgRefIdeal.nD,
          r.2.mem ((c.tc : Thread Cert.SgRefIdeal.nD Cert.SgRefIdeal.τ).loc Cert.SgRefIdeal.main_v18) = v0 c
          ∧ r.2.mem ((c.tc : Thread Cert.SgRefIdeal.nD Cert.SgRefIdeal.τ).loc Cert.SgRefIdeal.main_arg0) = m' ((c.tc : Thread Cert.SgRefIdeal.nD Cert.SgRefIdeal.τ).loc Cert.SgRefIdeal.main_arg0)
          ∧ r.2.mem ((c.tc : Thread Cert.SgRefIdeal.nD Cert.SgRefIdeal.τ).loc Cert.SgRefIdeal.main_arg1) = m' ((c.tc : Thread Cert.SgRefIdeal.nD Cert.SgRefIdeal.τ).loc Cert.SgRefIdeal.main_arg1)
          ∧ r.2.mem ((c.tc : Thread Cert.SgRefIdeal.nD Cert.SgRefIdeal.τ).loc Cert.SgRefIdeal.main_arg2) = m' ((c.tc : Thread Cert.SgRefIdeal.nD Cert.SgRefIdeal.τ).loc Cert.SgRefIdeal.main_arg2))

def preserves_Rn_RnIdeal : Prop :=
  True

def algebraic_RnIdeal_RnRefIdeal [hRnIdeal : Cert.RnIdeal.Facts] [hRnRefIdeal : Cert.RnRefIdeal.Facts] : Prop :=
  ∀ (m : (ℓ : Loc Cert.RnIdeal.nD Cert.RnIdeal.τ Cert.RnIdeal.sig) → Buf (Elt Ideal) ℓ) (g : Dev Cert.RnIdeal.nD → PrngReg)
    (m' : (ℓ : Loc Cert.RnRefIdeal.nD Cert.RnRefIdeal.τ Cert.RnRefIdeal.sig) → Buf (Elt Ideal) ℓ) (g' : Dev Cert.RnRefIdeal.nD → PrngReg), Pre_RnIdeal m →
    (∀ c : Dev Cert.RnIdeal.nD,
      m' ((c.tc : Thread Cert.RnRefIdeal.nD Cert.RnRefIdeal.τ).loc Cert.RnRefIdeal.main_arg0) = m ((c.tc : Thread Cert.RnIdeal.nD Cert.RnIdeal.τ).loc Cert.RnIdeal.main_arg0)
      ∧ m' ((c.tc : Thread Cert.RnRefIdeal.nD Cert.RnRefIdeal.τ).loc Cert.RnRefIdeal.main_arg1) = m ((c.tc : Thread Cert.RnIdeal.nD Cert.RnIdeal.τ).loc Cert.RnIdeal.main_arg1)) →
    ∃ (v0 : (c : Dev Cert.RnIdeal.nD) → Buf (Elt Ideal) ((c.tc : Thread Cert.RnIdeal.nD Cert.RnIdeal.τ).loc Cert.RnIdeal.main_v3)),
      θ_run (Cert.RnIdeal.defs (F := Ideal)) (onTc (τ := Cert.RnIdeal.τ) (Cert.RnIdeal.main (F := Ideal))) ⟨m, fun _ => 0, g⟩ (fun r => ∀ c : Dev Cert.RnIdeal.nD,
          r.2.mem ((c.tc : Thread Cert.RnIdeal.nD Cert.RnIdeal.τ).loc Cert.RnIdeal.main_v3) = v0 c
          ∧ r.2.mem ((c.tc : Thread Cert.RnIdeal.nD Cert.RnIdeal.τ).loc Cert.RnIdeal.main_arg0) = m ((c.tc : Thread Cert.RnIdeal.nD Cert.RnIdeal.τ).loc Cert.RnIdeal.main_arg0)
          ∧ r.2.mem ((c.tc : Thread Cert.RnIdeal.nD Cert.RnIdeal.τ).loc Cert.RnIdeal.main_arg1) = m ((c.tc : Thread Cert.RnIdeal.nD Cert.RnIdeal.τ).loc Cert.RnIdeal.main_arg1))
      ∧ θ_run (Cert.RnRefIdeal.defs (F := Ideal)) (onTc (τ := Cert.RnRefIdeal.τ) (Cert.RnRefIdeal.main (F := Ideal))) ⟨m', fun _ => 0, g'⟩ (fun r => ∀ c : Dev Cert.RnRefIdeal.nD,
          r.2.mem ((c.tc : Thread Cert.RnRefIdeal.nD Cert.RnRefIdeal.τ).loc Cert.RnRefIdeal.main_v15) = v0 c
          ∧ r.2.mem ((c.tc : Thread Cert.RnRefIdeal.nD Cert.RnRefIdeal.τ).loc Cert.RnRefIdeal.main_arg0) = m' ((c.tc : Thread Cert.RnRefIdeal.nD Cert.RnRefIdeal.τ).loc Cert.RnRefIdeal.main_arg0)
          ∧ r.2.mem ((c.tc : Thread Cert.RnRefIdeal.nD Cert.RnRefIdeal.τ).loc Cert.RnRefIdeal.main_arg1) = m' ((c.tc : Thread Cert.RnRefIdeal.nD Cert.RnRefIdeal.τ).loc Cert.RnRefIdeal.main_arg1))

def Claim : Prop :=
  ∃ (hKernel : Cert.Kernel.Facts) (hKernelIdeal : Cert.KernelIdeal.Facts) (hReferenceIdeal : Cert.ReferenceIdeal.Facts) (hGlu : Cert.Glu.Facts) (hGluIdeal : Cert.GluIdeal.Facts) (hGluRefIdeal : Cert.GluRefIdeal.Facts) (hKv : Cert.Kv.Facts) (hKvIdeal : Cert.KvIdeal.Facts) (hKvRefIdeal : Cert.KvRefIdeal.Facts) (hMq : Cert.Mq.Facts) (hMqIdeal : Cert.MqIdeal.Facts) (hMqRefIdeal : Cert.MqRefIdeal.Facts) (hMo : Cert.Mo.Facts) (hMoIdeal : Cert.MoIdeal.Facts) (hMoRefIdeal : Cert.MoRefIdeal.Facts) (hAq : Cert.Aq.Facts) (hAqIdeal : Cert.AqIdeal.Facts) (hAqRefIdeal : Cert.AqRefIdeal.Facts) (hAo : Cert.Ao.Facts) (hAoIdeal : Cert.AoIdeal.Facts) (hAoRefIdeal : Cert.AoRefIdeal.Facts) (hMa : Cert.Ma.Facts) (hMaIdeal : Cert.MaIdeal.Facts) (hMaRefIdeal : Cert.MaRefIdeal.Facts) (hMk : Cert.Mk.Facts) (hMkIdeal : Cert.MkIdeal.Facts) (hMkRefIdeal : Cert.MkRefIdeal.Facts) (hSg : Cert.Sg.Facts) (hSgIdeal : Cert.SgIdeal.Facts) (hSgRefIdeal : Cert.SgRefIdeal.Facts) (hRn : Cert.Rn.Facts) (hRnIdeal : Cert.RnIdeal.Facts) (hRnRefIdeal : Cert.RnRefIdeal.Facts) (hPre_finite_inputs : Cert.Pre_finite_inputs.Facts) (hOn_prompt_rows : Cert.On_prompt_rows.Facts) (hOn_mem_rows : Cert.On_mem_rows.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Glu (hGlu := hGlu)
    ∧ quiescent_GluIdeal (hGluIdeal := hGluIdeal)
    ∧ quiescent_GluRefIdeal (hGluRefIdeal := hGluRefIdeal)
    ∧ quiescent_Kv (hKv := hKv)
    ∧ quiescent_KvIdeal (hKvIdeal := hKvIdeal)
    ∧ quiescent_KvRefIdeal (hKvRefIdeal := hKvRefIdeal)
    ∧ quiescent_Mq (hMq := hMq)
    ∧ quiescent_MqIdeal (hMqIdeal := hMqIdeal)
    ∧ quiescent_MqRefIdeal (hMqRefIdeal := hMqRefIdeal)
    ∧ quiescent_Mo (hMo := hMo)
    ∧ quiescent_MoIdeal (hMoIdeal := hMoIdeal)
    ∧ quiescent_MoRefIdeal (hMoRefIdeal := hMoRefIdeal)
    ∧ quiescent_Aq (hAq := hAq)
    ∧ quiescent_AqIdeal (hAqIdeal := hAqIdeal)
    ∧ quiescent_AqRefIdeal (hAqRefIdeal := hAqRefIdeal)
    ∧ quiescent_Ao (hAo := hAo)
    ∧ quiescent_AoIdeal (hAoIdeal := hAoIdeal)
    ∧ quiescent_AoRefIdeal (hAoRefIdeal := hAoRefIdeal)
    ∧ quiescent_Ma (hMa := hMa)
    ∧ quiescent_MaIdeal (hMaIdeal := hMaIdeal)
    ∧ quiescent_MaRefIdeal (hMaRefIdeal := hMaRefIdeal)
    ∧ quiescent_Mk (hMk := hMk)
    ∧ quiescent_MkIdeal (hMkIdeal := hMkIdeal)
    ∧ quiescent_MkRefIdeal (hMkRefIdeal := hMkRefIdeal)
    ∧ quiescent_Sg (hSg := hSg)
    ∧ quiescent_SgIdeal (hSgIdeal := hSgIdeal)
    ∧ quiescent_SgRefIdeal (hSgRefIdeal := hSgRefIdeal)
    ∧ quiescent_Rn (hRn := hRn)
    ∧ quiescent_RnIdeal (hRnIdeal := hRnIdeal)
    ∧ quiescent_RnRefIdeal (hRnRefIdeal := hRnRefIdeal)
    ∧ preserves_Kernel_KernelIdeal
    ∧ algebraic_KernelIdeal_ReferenceIdeal_on_prompt_rows_pre_finite_inputs (hKernelIdeal := hKernelIdeal) (hReferenceIdeal := hReferenceIdeal) (hPre_finite_inputs := hPre_finite_inputs) (hOn_prompt_rows := hOn_prompt_rows)
    ∧ preserves_Glu_GluIdeal
    ∧ algebraic_GluIdeal_GluRefIdeal (hGluIdeal := hGluIdeal) (hGluRefIdeal := hGluRefIdeal)
    ∧ preserves_Kv_KvIdeal
    ∧ algebraic_KvIdeal_KvRefIdeal (hKvIdeal := hKvIdeal) (hKvRefIdeal := hKvRefIdeal)
    ∧ preserves_Mq_MqIdeal
    ∧ algebraic_MqIdeal_MqRefIdeal (hMqIdeal := hMqIdeal) (hMqRefIdeal := hMqRefIdeal)
    ∧ preserves_Mo_MoIdeal
    ∧ algebraic_MoIdeal_MoRefIdeal (hMoIdeal := hMoIdeal) (hMoRefIdeal := hMoRefIdeal)
    ∧ preserves_Aq_AqIdeal
    ∧ algebraic_AqIdeal_AqRefIdeal (hAqIdeal := hAqIdeal) (hAqRefIdeal := hAqRefIdeal)
    ∧ preserves_Ao_AoIdeal
    ∧ algebraic_AoIdeal_AoRefIdeal (hAoIdeal := hAoIdeal) (hAoRefIdeal := hAoRefIdeal)
    ∧ preserves_Ma_MaIdeal
    ∧ algebraic_MaIdeal_MaRefIdeal_on_mem_rows (hMaIdeal := hMaIdeal) (hMaRefIdeal := hMaRefIdeal) (hOn_mem_rows := hOn_mem_rows)
    ∧ preserves_Mk_MkIdeal
    ∧ algebraic_MkIdeal_MkRefIdeal (hMkIdeal := hMkIdeal) (hMkRefIdeal := hMkRefIdeal)
    ∧ preserves_Sg_SgIdeal
    ∧ algebraic_SgIdeal_SgRefIdeal (hSgIdeal := hSgIdeal) (hSgRefIdeal := hSgRefIdeal)
    ∧ preserves_Rn_RnIdeal
    ∧ algebraic_RnIdeal_RnRefIdeal (hRnIdeal := hRnIdeal) (hRnRefIdeal := hRnRefIdeal)
-- ==== On_mem_rows.lean ====
abbrev S8704x4096 : Shape := ⟨2, ![8704, 4096]⟩
abbrev S256x8192 : Shape := ⟨2, ![256, 8192]⟩
abbrev S_ : Shape := ⟨0, ![]⟩

class Facts : Prop where
  bcast_S_S8704x4096 : S_.BroadcastsInDim S8704x4096 (![] : Fin 0 → Fin S8704x4096.rank)

variable [Facts]

def fn {F : FTy → Type} [FloatOps F] (main_arg0 : FVec F S8704x4096 .bf16) (main_arg1 : FVec F S256x8192 .f32) : IVec S8704x4096 1 :=
  let main_v0 : IVec S8704x4096 32 := iotaInDim S8704x4096 32 0
  let main_c : IVec S_ 32 := constantI S_ 32 8192#32
  let main_v1 : IVec S8704x4096 32 := broadcastInDim S8704x4096 ![] bcast_S_S8704x4096 main_c
  let main_v2 : IVec S8704x4096 1 := cmpi .slt main_v0 main_v1
  main_v2
-- ==== On_prompt_rows.lean ====
abbrev S8704x4096 : Shape := ⟨2, ![8704, 4096]⟩
abbrev S8704x8192 : Shape := ⟨2, ![8704, 8192]⟩
abbrev S32x513 : Shape := ⟨2, ![32, 513]⟩
abbrev S_ : Shape := ⟨0, ![]⟩

class Facts : Prop where
  bcast_S_S8704x4096 : S_.BroadcastsInDim S8704x4096 (![] : Fin 0 → Fin S8704x4096.rank)

variable [Facts]

def fn {F : FTy → Type} [FloatOps F] (main_arg0 : FVec F S8704x4096 .bf16) (main_arg1 : FVec F S8704x8192 .f32) (main_arg2 : FVec F S32x513 .f32) : IVec S8704x4096 1 :=
  let main_v0 : IVec S8704x4096 32 := iotaInDim S8704x4096 32 0
  let main_c : IVec S_ 32 := constantI S_ 32 8192#32
  let main_v1 : IVec S8704x4096 32 := broadcastInDim S8704x4096 ![] bcast_S_S8704x4096 main_c
  let main_v2 : IVec S8704x4096 1 := cmpi .slt main_v0 main_v1
  main_v2
-- ==== Pre_finite_inputs.lean ====
abbrev S8704x4096 : Shape := ⟨2, ![8704, 4096]⟩
abbrev S8704x8192 : Shape := ⟨2, ![8704, 8192]⟩
abbrev S32x513 : Shape := ⟨2, ![32, 513]⟩
abbrev S_ : Shape := ⟨0, ![]⟩

class Facts : Prop where
  bitsLt_bf16_f32 : FTy.bits .bf16 < FTy.bits .f32
  bcast_S_S8704x4096 : S_.BroadcastsInDim S8704x4096 (![] : Fin 0 → Fin S8704x4096.rank)
  bcast_S_S8704x8192 : S_.BroadcastsInDim S8704x8192 (![] : Fin 0 → Fin S8704x8192.rank)
  bcast_S_S32x513 : S_.BroadcastsInDim S32x513 (![] : Fin 0 → Fin S32x513.rank)

variable [Facts]

def fn {F : FTy → Type} [FloatOps F] (main_arg0 : FVec F S8704x4096 .bf16) (main_arg1 : FVec F S8704x8192 .f32) (main_arg2 : FVec F S32x513 .f32) : IVec S8704x4096 1 × IVec S8704x8192 1 × IVec S32x513 1 :=
  let main_v0 : FVec F S8704x4096 .f32 := (extf .f32 · bitsLt_bf16_f32) main_arg0
  let main_v1 : FVec F S8704x4096 .f32 := Host.absf main_v0
  let main_cst : FVec F S_ .f32 := constant S_ .f32 0x7F800000#32
  let main_v2 : FVec F S8704x4096 .f32 := broadcastInDim S8704x4096 ![] bcast_S_S8704x4096 main_cst
  let main_v3 : IVec S8704x4096 1 := cmpf .olt main_v1 main_v2
  let main_v4 : FVec F S8704x8192 .f32 := Host.absf main_arg1
  let main_cst_0 : FVec F S_ .f32 := constant S_ .f32 0x7F800000#32
  let main_v5 : FVec F S8704x8192 .f32 := broadcastInDim S8704x8192 ![] bcast_S_S8704x8192 main_cst_0
  let main_v6 : IVec S8704x8192 1 := cmpf .olt main_v4 main_v5
  let main_v7 : FVec F S32x513 .f32 := Host.absf main_arg2
  let main_cst_1 : FVec F S_ .f32 := constant S_ .f32 0x7F800000#32
  let main_v8 : FVec F S32x513 .f32 := broadcastInDim S32x513 ![] bcast_S_S32x513 main_cst_1
  let main_v9 : IVec S32x513 1 := cmpf .olt main_v7 main_v8
  (main_v3, main_v6, main_v9)
-- ==== Kernel.lean ====
abbrev S8704x4096 : Shape := ⟨2, ![8704, 4096]⟩
abbrev S8704x8192 : Shape := ⟨2, ![8704, 8192]⟩
abbrev S32x513 : Shape := ⟨2, ![32, 513]⟩
abbrev S256 : Shape := ⟨1, ![256]⟩
abbrev S256x1 : Shape := ⟨2, ![256, 1]⟩
abbrev S_ : Shape := ⟨0, ![]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S1024 : Shape := ⟨1, ![1024]⟩
abbrev S1024x1 : Shape := ⟨2, ![1024, 1]⟩
abbrev S32x1024 : Shape := ⟨2, ![32, 1024]⟩
abbrev S32x1x1024 : Shape := ⟨3, ![32, 1, 1024]⟩
abbrev S32x256x1024 : Shape := ⟨3, ![32, 256, 1024]⟩
abbrev S32x262144 : Shape := ⟨2, ![32, 262144]⟩
abbrev S32x261888 : Shape := ⟨2, ![32, 261888]⟩
abbrev S32x256x1023 : Shape := ⟨3, ![32, 256, 1023]⟩
abbrev S32x256x768 : Shape := ⟨3, ![32, 256, 768]⟩
abbrev S1024x128 : Shape := ⟨2, ![1024, 128]⟩
abbrev S8192x128 : Shape := ⟨2, ![8192, 128]⟩
abbrev S8704x128 : Shape := ⟨2, ![8704, 128]⟩
abbrev S512x128 : Shape := ⟨2, ![512, 128]⟩
abbrev S256x128 : Shape := ⟨2, ![256, 128]⟩
abbrev S768x128 : Shape := ⟨2, ![768, 128]⟩

abbrev nBuf : Space → Nat
  | .hbm => 82
  | .vmem => 12
  | .smem => 0
  | _ => 0

abbrev bufTy : (tb : Table) → Fin (tcTables nBuf tb) → BufTy
  | .hbm, ⟨0, _⟩ => ⟨S8704x4096, .bf16⟩
  | .hbm, ⟨1, _⟩ => ⟨S8704x8192, .f32⟩
  | .hbm, ⟨2, _⟩ => ⟨S32x513, .f32⟩
  | .hbm, ⟨3, _⟩ => ⟨S256, .i32⟩
  | .hbm, ⟨4, _⟩ => ⟨S256x1, .i32⟩
  | .hbm, ⟨5, _⟩ => ⟨S_, .i32⟩
  | .hbm, ⟨6, _⟩ => ⟨S_, .i32⟩
  | .hbm, ⟨7, _⟩ => ⟨S256x1, .i32⟩
  | .hbm, ⟨8, _⟩ => ⟨S256x1, .i32⟩
  | .hbm, ⟨9, _⟩ => ⟨S256x1, .i32⟩
  | .hbm, ⟨10, _⟩ => ⟨S_, .i32⟩
  | .hbm, ⟨11, _⟩ => ⟨S256x1, .i32⟩
  | .hbm, ⟨12, _⟩ => ⟨S256x1, .i1⟩
  | .hbm, ⟨13, _⟩ => ⟨S256x1, .i32⟩
  | .hbm, ⟨14, _⟩ => ⟨S256x1, .i32⟩
  | .hbm, ⟨15, _⟩ => ⟨S_, .i32⟩
  | .hbm, ⟨16, _⟩ => ⟨S256x1, .i32⟩
  | .hbm, ⟨17, _⟩ => ⟨S256x1, .i1⟩
  | .hbm, ⟨18, _⟩ => ⟨S256x1, .i1⟩
  | .hbm, ⟨19, _⟩ => ⟨S_, .i32⟩
  | .hbm, ⟨20, _⟩ => ⟨S256x1, .i32⟩
  | .hbm, ⟨21, _⟩ => ⟨S256x1, .i32⟩
  | .hbm, ⟨22, _⟩ => ⟨S256x1, .i32⟩
  | .hbm, ⟨23, _⟩ => ⟨S_, .i32⟩
  | .hbm, ⟨24, _⟩ => ⟨S256x1, .i32⟩
  | .hbm, ⟨25, _⟩ => ⟨S256x1, .i32⟩
  | .hbm, ⟨26, _⟩ => ⟨S768, .i32⟩
  | .hbm, ⟨27, _⟩ => ⟨S1x768, .i32⟩
  | .hbm, ⟨28, _⟩ => ⟨S256x768, .i32⟩
  | .hbm, ⟨29, _⟩ => ⟨S256x768, .i32⟩
  | .hbm, ⟨30, _⟩ => ⟨S256x768, .i1⟩
  | .hbm, ⟨31, _⟩ => ⟨S_, .i32⟩
  | .hbm, ⟨32, _⟩ => ⟨S256x1, .i32⟩
  | .hbm, ⟨33, _⟩ => ⟨S256x1, .i32⟩
  | .hbm, ⟨34, _⟩ => ⟨S256x768, .i32⟩
  | .hbm, ⟨35, _⟩ => ⟨S256x768, .i32⟩
  | .hbm, ⟨36, _⟩ => ⟨S256x768, .i1⟩
  | .hbm, ⟨37, _⟩ => ⟨S256x768, .i1⟩
  | .hbm, ⟨38, _⟩ => ⟨S1x256x768, .i1⟩
  | .hbm, ⟨39, _⟩ => ⟨S1024, .i32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1024, .i32⟩
  | .hbm, ⟨54, _⟩ => ⟨S1024, .i32⟩
  | .hbm, ⟨55, _⟩ => ⟨S_, .i32⟩
  | .hbm, ⟨56, _⟩ => ⟨S1024, .i32⟩
  | .hbm, ⟨57, _⟩ => ⟨S1024, .i32⟩
  | .hbm, ⟨58, _⟩ => ⟨S_, .i32⟩
  | .hbm, ⟨59, _⟩ => ⟨S1024, .i32⟩
  | .hbm, ⟨60, _⟩ => ⟨S1024, .i32⟩
  | .hbm, ⟨61, _⟩ => ⟨S_, .i32⟩
  | .hbm, ⟨62, _⟩ => ⟨S1024, .i32⟩
  | .hbm, ⟨63, _⟩ => ⟨S1024, .i1⟩
  | .hbm, ⟨64, _⟩ => ⟨S_, .i32⟩
  | .hbm, ⟨65, _⟩ => ⟨S1024, .i32⟩
  | .hbm, ⟨66, _⟩ => ⟨S1024, .i32⟩
  | .hbm, ⟨67, _⟩ => ⟨S1024, .i32⟩
  | .hbm, ⟨68, _⟩ => ⟨S1024x1, .i32⟩
  | .hbm, ⟨69, _⟩ => ⟨S32x1024, .f32⟩
  | .hbm, ⟨70, _⟩ => ⟨S32x1x1024, .f32⟩
  | .hbm, ⟨71, _⟩ => ⟨S32x256x1024, .f32⟩
  | .hbm, ⟨72, _⟩ => ⟨S32x262144, .f32⟩
  | .hbm, ⟨73, _⟩ => ⟨S32x261888, .f32⟩
  | .hbm, ⟨74, _⟩ => ⟨S32x256x1023, .f32⟩
  | .hbm, ⟨75, _⟩ => ⟨S32x256x768, .f32⟩
  | .hbm, ⟨76, _⟩ => ⟨S_, .f32⟩
  | .hbm, ⟨77, _⟩ => ⟨S_, .f32⟩
  | .hbm, ⟨78, _⟩ => ⟨S32x256x768, .i1⟩
  | .hbm, ⟨79, _⟩ => ⟨S32x256x768, .f32⟩
  | .hbm, ⟨80, _⟩ => ⟨S32x256x768, .f32⟩
  | .hbm, ⟨81, _⟩ => ⟨S8704x4096, .bf16⟩
  | .local _ .vmem, ⟨0, _⟩ => ⟨S1024x128, .bf16⟩
  | .local _ .vmem, ⟨1, _⟩ => ⟨S1024x128, .bf16⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x256x768, .f32⟩
  | .local _ .vmem, ⟨7, _⟩ => ⟨S1x256x768, .f32⟩
  | .local _ .vmem, ⟨8, _⟩ => ⟨S1024x128, .bf16⟩
  | .local _ .vmem, ⟨9, _⟩ => ⟨S1024x128, .bf16⟩
  | .local _ .vmem, ⟨10, _⟩ => ⟨S8704x128, .bf16⟩
  | .local _ .vmem, ⟨11, _⟩ => ⟨S8704x128, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_2 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v25 : Ref sig .tc := ⟨.hbm, 57, rfl⟩
abbrev main_c_7 : Ref sig .tc := ⟨.hbm, 58, rfl⟩
abbrev main_v26 : Ref sig .tc := ⟨.hbm, 59, rfl⟩
abbrev main_v27 : Ref sig .tc := ⟨.hbm, 60, rfl⟩
abbrev main_c_8 : Ref sig .tc := ⟨.hbm, 61, rfl⟩
abbrev main_v28 : Ref sig .tc := ⟨.hbm, 62, rfl⟩
abbrev main_v29 : Ref sig .tc := ⟨.hbm, 63, rfl⟩
abbrev main_c_9 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v41 : Ref sig .tc := ⟨.hbm, 80, rfl⟩
abbrev main_v42 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def k0_mult1 : BitVec 32 :=
  let c0_i32_3 : BitVec 32 := 0#32
  let c256_i32 : BitVec 32 := 256#32
  let v9 : BitVec 32 := Scalar.muli c0_i32_3 c256_i32
  v9
def k0_mult2 (i : grid0.Coords) : BitVec 32 :=
  let arg1 : BitVec 32 := BitVec.ofNat 32 (i 1).val
  let c4_i32 : BitVec 32 := 4#32
  let v6 : BitVec 32 := Scalar.muli arg1 c4_i32
  let c0_i32_3 : BitVec 32 := 0#32
  let v7 : BitVec 32 := Scalar.addi v6 c0_i32_3
  let c4_i32_4 : BitVec 32 := 4#32
  let v8 : BitVec 32 := Scalar.muli v7 c4_i32_4
  let c64_i32 : BitVec 32 := 64#32
  let v11 : BitVec 32 := Scalar.muli v8 c64_i32
  v11
def k0_off1 (c0_i32_3 : BitVec 32) : Fin 2 → Nat :=
  let c256_i32 : BitVec 32 := 256#32
  let v9 : BitVec 32 := Scalar.muli c0_i32_3 c256_i32
  let v10 : BitVec 32 := v9
  let v13 : Index := Scalar.indexCast v10
  let c0_5 : Index := 0#32
  ![v13.toNat, 0]
def k0_off2 (i : grid0.Coords) (c0_i32_3 : BitVec 32) : Fin 2 → Nat :=
  let arg1 : BitVec 32 := BitVec.ofNat 32 (i 1).val
  let c4_i32 : BitVec 32 := 4#32
  let v6 : BitVec 32 := Scalar.muli arg1 c4_i32
  let v7 : BitVec 32 := Scalar.addi v6 c0_i32_3
  let c4_i32_4 : BitVec 32 := 4#32
  let v8 : BitVec 32 := Scalar.muli v7 c4_i32_4
  let c64_i32 : BitVec 32 := 64#32
  let v11 : BitVec 32 := Scalar.muli v8 c64_i32
  let v12 : BitVec 32 := v11
  let v15 : Index := Scalar.indexCast v12
  let c0_6 : Index := 0#32
  ![v15.toNat, 0]
def k0_mult3 : BitVec 32 :=
  let c1_i32 : BitVec 32 := 1#32
  let c256_i32_17 : BitVec 32 := 256#32
  let v46 : BitVec 32 := Scalar.muli c1_i32 c256_i32_17
  v46
def k0_mult4 (i : grid0.Coords) : BitVec 32 :=
  let arg1 : BitVec 32 := BitVec.ofNat 32 (i 1).val
  let c4_i32_15 : BitVec 32 := 4#32
  let v43 : BitVec 32 := Scalar.muli arg1 c4_i32_15
  let c1_i32 : BitVec 32 := 1#32
  let v44 : BitVec 32 := Scalar.addi v43 c1_i32
  let c4_i32_16 : BitVec 32 := 4#32
  let v45 : BitVec 32 := Scalar.muli v44 c4_i32_16
  let c64_i32_18 : BitVec 32 := 64#32
  let v48 : BitVec 32 := Scalar.muli v45 c64_i32_18
  v48
def k0_mult5 : BitVec 32 :=
  let c2_i32 : BitVec 32 := 2#32
  let c256_i32_33 : BitVec 32 := 256#32
  let v83 : BitVec 32 := Scalar.muli c2_i32 c256_i32_33
  v83
def k0_mult6 (i : grid0.Coords) : BitVec 32 :=
  let arg1 : BitVec 32 := BitVec.ofNat 32 (i 1).val
  let c4_i32_31 : BitVec 32 := 4#32
  let v80 : BitVec 32 := Scalar.muli arg1 c4_i32_31
  let c2_i32 : BitVec 32 := 2#32
  let v81 : BitVec 32 := Scalar.addi v80 c2_i32
  let c4_i32_32 : BitVec 32 := 4#32
  let v82 : BitVec 32 := Scalar.muli v81 c4_i32_32
  let c64_i32_34 : BitVec 32 := 64#32
  let v85 : BitVec 32 := Scalar.muli v82 c64_i32_34
  v85
def k0_mult7 : BitVec 32 :=
  let c3_i32 : BitVec 32 := 3#32
  let c256_i32_49 : BitVec 32 := 256#32
  let v120 : BitVec 32 := Scalar.muli c3_i32 c256_i32_49
  v120
def k0_mult8 (i : grid0.Coords) : BitVec 32 :=
  let arg1 : BitVec 32 := BitVec.ofNat 32 (i 1).val
  let c4_i32_47 : BitVec 32 := 4#32
  let v117 : BitVec 32 := Scalar.muli arg1 c4_i32_47
  let c3_i32 : BitVec 32 := 3#32
  let v118 : BitVec 32 := Scalar.addi v117 c3_i32
  let c4_i32_48 : BitVec 32 := 4#32
  let v119 : BitVec 32 := Scalar.muli v118 c4_i32_48
  let c64_i32_50 : BitVec 32 := 64#32
  let v122 : BitVec 32 := Scalar.muli v119 c64_i32_50
  v122
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8704x4096 : Shape := ⟨2, ![8704, 4096]⟩
abbrev S8704x8192 : Shape := ⟨2, ![8704, 8192]⟩
abbrev S32x513 : Shape := ⟨2, ![32, 513]⟩
abbrev S8192x4096 : Shape := ⟨2, ![8192, 4096]⟩
abbrev S1x8192x32x128 : Shape := ⟨4, ![1, 8192, 32, 128]⟩
abbrev S_ : Shape := ⟨0, ![]⟩
abbrev S1x8704x32x128 : Shape := ⟨4, ![1, 8704, 32, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S32x64x576 : Shape := ⟨3, ![32, 64, 576]⟩
abbrev S1x128x64x32x128 : Shape := ⟨5, ![1, 128, 64, 32, 128]⟩
abbrev S128x1x64x32x128 : Shape := ⟨5, ![128, 1, 64, 32, 128]⟩
abbrev S128 : Shape := ⟨1, ![128]⟩
abbrev S128x1 : Shape := ⟨2, ![128, 1]⟩
abbrev S128x4 : Shape := ⟨2, ![128, 4]⟩
abbrev S128x1x576x32x128 : Shape := ⟨5, ![128, 1, 576, 32, 128]⟩
abbrev S128x1x32x64x576 : Shape := ⟨5, ![128, 1, 32, 64, 576]⟩
abbrev S1x32x64x576 : Shape := ⟨4, ![1, 32, 64, 576]⟩
abbrev S1x1x32x64x576 : Shape := ⟨5, ![1, 1, 32, 64, 576]⟩
abbrev S128x576 : Shape := ⟨2, ![128, 576]⟩
abbrev S128x1x32x64 : Shape := ⟨4, ![128, 1, 32, 64]⟩
abbrev S128x1x32x64x1 : Shape := ⟨5, ![128, 1, 32, 64, 1]⟩
abbrev S128x1x32x128x64 : Shape := ⟨5, ![128, 1, 32, 128, 64]⟩

abbrev nBuf : Space → Nat
  | .hbm => 138
  | .vmem => 0
  | .smem => 0
  | _ => 0

abbrev hbmTy0_0 (i : Nat) : BufTy := match i % 128 with
  | 0 => ⟨S8704x4096, .bf16⟩
  | 1 => ⟨S8704x8192, .f32⟩
  | 2 => ⟨S32x513, .f32⟩
  | 3 => ⟨S8192x4096, .bf16⟩
  | 4 => ⟨S1x8192x32x128, .bf16⟩
  | 5 => ⟨S1x8192x32x128, .f32⟩
  | 6 => ⟨S8192x4096, .f32⟩
  | 7 => ⟨S1x8192x32x128, .f32⟩
  | 8 => ⟨S8192x4096, .f32⟩
  | 9 => ⟨S1x8192x32x128, .f32⟩
  | 10 => ⟨S_, .i32⟩
  | 11 => ⟨S_, .f32⟩
  | 12 => ⟨S1x8704x32x128, .f32⟩
  | 13 => ⟨S_, .i32⟩
  | 14 => ⟨S_, .f32⟩
  | 15 => ⟨S1x8704x32x128, .f32⟩
  | 16 => ⟨S64, .i32⟩
  | 17 => ⟨S64x1, .i32⟩
  | 18 => ⟨S_, .i32⟩
  | 19 => ⟨S64x1, .i32⟩
  | 20 => ⟨S64x1, .i32⟩
  | 21 => ⟨S576, .i32⟩
  | 22 => ⟨S1x576, .i32⟩
  | 23 => ⟨S64x576, .i32⟩
  | 24 => ⟨S64x576, .i32⟩
  | 25 => ⟨S64x576, .i32⟩
  | 26 => ⟨S_, .i32⟩
  | 27 => ⟨S_, .i32⟩
  | 28 => ⟨S_, .i32⟩
  | 29 => ⟨S64x576, .i32⟩
  | 30 => ⟨S64x576, .i32⟩
  | 31 => ⟨S_, .i32⟩
  | 32 => ⟨S64x576, .i32⟩
  | 33 => ⟨S64x576, .i32⟩
  | 34 => ⟨S_, .i32⟩
  | 35 => ⟨S64x576, .i32⟩
  | 36 => ⟨S64x576, .i32⟩
  | 37 => ⟨S_, .i32⟩
  | 38 => ⟨S64x576, .i32⟩
  | 39 => ⟨S64x576, .i1⟩
  | 40 => ⟨S_, .i32⟩
  | 41 => ⟨S64x576, .i32⟩
  | 42 => ⟨S64x576, .i32⟩
  | 43 => ⟨S64x576, .i32⟩
  | 44 => ⟨S64x576x1, .i32⟩
  | 45 => ⟨S32x64x576, .f32⟩
  | 46 => ⟨S1x128x64x32x128, .f32⟩
  | 47 => ⟨S128x1x64x32x128, .f32⟩
  | 48 => ⟨S128, .i32⟩
  | 49 => ⟨S_, .i32⟩
  | 50 => ⟨S128, .i32⟩
  | 51 => ⟨S128, .i32⟩
  | 52 => ⟨S_, .i32⟩
  | 53 => ⟨S128, .i32⟩
  | 54 => ⟨S128, .i1⟩
  | 55 => ⟨S_, .i32⟩
  | 56 => ⟨S128, .i32⟩
  | 57 => ⟨S128, .i32⟩
  | 58 => ⟨S128, .i32⟩
  | 59 => ⟨S_, .i32⟩
  | 60 => ⟨S128x1, .i32⟩
  | 61 => ⟨S128x1, .i32⟩
  | 62 => ⟨S_, .i32⟩
  | 63 => ⟨S128x1, .i32⟩
  | 64 => ⟨S_, .i32⟩
  | 65 => ⟨S128x1, .i32⟩
  | 66 => ⟨S128x4, .i32⟩
  | 67 => ⟨S128x1x576x32x128, .f32⟩
  | 68 => ⟨S_, .i32⟩
  | 69 => ⟨S128, .i32⟩
  | 70 => ⟨S128, .i32⟩
  | 71 => ⟨S_, .i32⟩
  | 72 => ⟨S128, .i32⟩
  | 73 => ⟨S128, .i1⟩
  | 74 => ⟨S_, .i32⟩
  | 75 => ⟨S128, .i32⟩
  | 76 => ⟨S128, .i32⟩
  | 77 => ⟨S128, .i32⟩
  | 78 => ⟨S_, .i32⟩
  | 79 => ⟨S128x1, .i32⟩
  | 80 => ⟨S128x1, .i32⟩
  | 81 => ⟨S_, .i32⟩
  | 82 => ⟨S128x1, .i32⟩
  | 83 => ⟨S_, .i32⟩
  | 84 => ⟨S128x1, .i32⟩
  | 85 => ⟨S128x4, .i32⟩
  | 86 => ⟨S128x1x576x32x128, .f32⟩
  | 87 => ⟨S128x1x32x64x576, .f32⟩
  | 88 => ⟨S_, .f32⟩
  | 89 => ⟨S128x1x32x64x576, .f32⟩
  | 90 => ⟨S128x1x32x64x576, .f32⟩
  | 91 => ⟨S1x32x64x576, .f32⟩
  | 92 => ⟨S1x1x32x64x576, .f32⟩
  | 93 => ⟨S128x1x32x64x576, .f32⟩
  | 94 => ⟨S128x1x32x64x576, .f32⟩
  | 95 => ⟨S_, .i32⟩
  | 96 => ⟨S128, .i32⟩
  | 97 => ⟨S128, .i32⟩
  | 98 => ⟨S_, .i32⟩
  | 99 => ⟨S128, .i32⟩
  | 100 => ⟨S128, .i32⟩
  | 101 => ⟨S576, .i32⟩
  | 102 => ⟨S1x576, .i32⟩
  | 103 => ⟨S128x1, .i32⟩
  | 104 => ⟨S128x576, .i32⟩
  | 105 => ⟨S128x576, .i32⟩
  | 106 => ⟨S128x576, .i32⟩
  | 107 => ⟨S_, .i32⟩
  | 108 => ⟨S128x576, .i32⟩
  | 109 => ⟨S128x576, .i1⟩
  | 110 => ⟨S_, .f32⟩
  | 111 => ⟨S_, .f32⟩
  | 112 => ⟨S128x1x32x64x576, .i1⟩
  | 113 => ⟨S1x32x64x576, .f32⟩
  | 114 => ⟨S128x1x32x64x576, .f32⟩
  | 115 => ⟨S128x1x32x64x576, .f32⟩
  | 116 => ⟨S_, .f32⟩
  | 117 => ⟨S128x1x32x64, .f32⟩
  | 118 => ⟨S_, .f32⟩
  | 119 => ⟨S128x1x32x64, .f32⟩
  | 120 => ⟨S128x1x32x64, .f32⟩
  | 121 => ⟨S128x1x32x64x1, .f32⟩
  | 122 => ⟨S128x1x32x64x576, .f32⟩
  | 123 => ⟨S128x1x32x64x576, .f32⟩
  | 124 => ⟨S128x1x32x64x576, .f32⟩
  | 125 => ⟨S_, .f32⟩
  | 126 => ⟨S128x1x32x64, .f32⟩
  | 127 => ⟨S128x1x32x64x1, .f32⟩
  | _ => ⟨S8704x4096, .bf16⟩

abbrev hbmTy0_1 (i : Nat) : BufTy := match i % 128 with
  | 0 => ⟨S128x1x32x64x576, .f32⟩
  | 1 => ⟨S128x1x32x64x576, .f32⟩
  | 2 => ⟨S128x1x32x128x64, .f32⟩
  | 3 => ⟨S128x1x64x32x128, .f32⟩
  | 4 => ⟨S1x128x64x32x128, .f32⟩
  | 5 => ⟨S8192x4096, .f32⟩
  | 6 => ⟨S8192x4096, .bf16⟩
  | 7 => ⟨S_, .i32⟩
  | 8 => ⟨S_, .bf16⟩
  | 9 => ⟨S8704x4096, .bf16⟩
  | _ => ⟨S8704x4096, .bf16⟩

abbrev hbmTy (i : Nat) : BufTy := match i / 128 with
  | 0 => hbmTy0_0 i
  | 1 => hbmTy0_1 i
  | _ => ⟨S8704x4096, .bf16⟩

abbrev bufTy : (tb : Table) → Fin (tcTables nBuf tb) → BufTy
  | .hbm, ⟨i, _⟩ => hbmTy i
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_c_3 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_10 : Ref sig .tc := ⟨.hbm, 59, rfl⟩
abbrev main_v38 : Ref sig .tc := ⟨.hbm, 60, rfl⟩
abbrev main_v39 : Ref sig .tc := ⟨.hbm, 61, rfl⟩
abbrev main_c_11 : Ref sig .tc := ⟨.hbm, 62, rfl⟩
abbrev main_v40 : Ref sig .tc := ⟨.hbm, 63, rfl⟩
abbrev main_c_12 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_13 : Ref sig .tc := ⟨.hbm, 68, rfl⟩
abbrev main_v44 : Ref sig .tc := ⟨.hbm, 69, rfl⟩
abbrev main_v45 : Ref sig .tc := ⟨.hbm, 70, rfl⟩
abbrev main_c_14 : Ref sig .tc := ⟨.hbm, 71, rfl⟩
abbrev main_v46 : Ref sig .tc := ⟨.hbm, 72, rfl⟩
abbrev main_v47 : Ref sig .tc := ⟨.hbm, 73, rfl⟩
abbrev main_c_15 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_16 : Ref sig .tc := ⟨.hbm, 78, rfl⟩
abbrev main_v51 : Ref sig .tc := ⟨.hbm, 79, rfl⟩
abbrev main_v52 : Ref sig .tc := ⟨.hbm, 80, rfl⟩
abbrev main_c_17 : Ref sig .tc := ⟨.hbm, 81, rfl⟩
abbrev main_v53 : Ref sig .tc := ⟨.hbm, 82, rfl⟩
abbrev main_c_18 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_19 : Ref sig .tc := ⟨.hbm, 95, rfl⟩
abbrev main_v64 : Ref sig .tc := ⟨.hbm, 96, rfl⟩
abbrev main_v65 : Ref sig .tc := ⟨.hbm, 97, rfl⟩
abbrev main_c_20 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_21 : Ref sig .tc := ⟨.hbm, 107, rfl⟩
abbrev main_v74 : Ref sig .tc := ⟨.hbm, 108, rfl⟩
abbrev main_v75 : Ref sig .tc := ⟨.hbm, 109, rfl⟩
abbrev main_cst_22 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_v76 : Ref sig .tc := ⟨.hbm, 115, rfl⟩
abbrev main_cst_23 : Ref sig .tc := ⟨.hbm, 116, rfl⟩
abbrev main_v77 : Ref sig .tc := ⟨.hbm, 117, rfl⟩
abbrev main_cst_24 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_25 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_c_26 : Ref sig .tc := ⟨.hbm, 135, rfl⟩
abbrev main_call4_v0 : Ref sig .tc := ⟨.hbm, 136, rfl⟩
abbrev main_v93 : Ref sig .tc := ⟨.hbm, 137, rfl⟩

abbrev nD : Nat := 1
abbrev τ : Topo := Topo.v7x

variable {F : FTy → Type} [FloatOps F]
-- ==== Glu.lean ====
abbrev S8704x4096 : Shape := ⟨2, ![8704, 4096]⟩
abbrev S1x4096x8192 : Shape := ⟨3, ![1, 4096, 8192]⟩
abbrev S1088x4096 : Shape := ⟨2, ![1088, 4096]⟩
abbrev S1x4096x256 : Shape := ⟨3, ![1, 4096, 256]⟩
abbrev S1088x256 : Shape := ⟨2, ![1088, 256]⟩
abbrev S4096x256 : Shape := ⟨2, ![4096, 256]⟩

abbrev nBuf : Space → Nat
  | .hbm => 4
  | .vmem => 12
  | .smem => 0
  | _ => 0

abbrev bufTy : (tb : Table) → Fin (tcTables nBuf tb) → BufTy
  | .hbm, ⟨0, _⟩ => ⟨S8704x4096, .bf16⟩
  | .hbm, ⟨1, _⟩ => ⟨S1x4096x8192, .f32⟩
  | .hbm, ⟨2, _⟩ => ⟨S8704x4096, .f32⟩
  | .hbm, ⟨3, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1088x256, .f32⟩
  | .local _ .vmem, ⟨7, _⟩ => ⟨S1088x256, .f32⟩
  | .local _ .vmem, ⟨8, _⟩ => ⟨S1088x256, .f32⟩
  | .local _ .vmem, ⟨9, _⟩ => ⟨S1088x256, .f32⟩
  | .local _ .vmem, ⟨10, _⟩ => ⟨S4096x256, .bf16⟩
  | .local _ .vmem, ⟨11, _⟩ => ⟨S4096x256, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1088x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GluRefIdeal.lean ====
abbrev S8704x4096 : Shape := ⟨2, ![8704, 4096]⟩
abbrev S1x4096x8192 : Shape := ⟨3, ![1, 4096, 8192]⟩
abbrev S4096x8192 : Shape := ⟨2, ![4096, 8192]⟩
abbrev S8704x8192 : Shape := ⟨2, ![8704, 8192]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S1x4096x8192, .f32⟩
  | .hbm, ⟨2, _⟩ => ⟨S8704x4096, .f32⟩
  | .hbm, ⟨3, _⟩ => ⟨S8704x4096, .f32⟩
  | .hbm, ⟨4, _⟩ => ⟨S4096x8192, .f32⟩
  | .hbm, ⟨5, _⟩ => ⟨S8704x8192, .f32⟩
  | .hbm, ⟨6, _⟩ => ⟨S8704x4096, .f32⟩
  | .hbm, ⟨7, _⟩ => ⟨S8704x4096, .f32⟩
  | .hbm, ⟨8, _⟩ => ⟨S8704x4096, .f32⟩
  | .hbm, ⟨9, _⟩ => ⟨S8704x4096, .f32⟩
  | .hbm, ⟨10, _⟩ => ⟨S_, .f32⟩
  | .hbm, ⟨11, _⟩ => ⟨S8704x4096, .f32⟩
  | .hbm, ⟨12, _⟩ => ⟨S8704x4096, .f32⟩
  | .hbm, ⟨13, _⟩ => ⟨S_, .f32⟩
  | .hbm, ⟨14, _⟩ => ⟨S8704x4096, .f32⟩
  | .hbm, ⟨15, _⟩ => ⟨S8704x4096, .f32⟩
  | .hbm, ⟨16, _⟩ => ⟨S8704x4096, .f32⟩
  | .hbm, ⟨17, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kv.lean ====
abbrev S8704x4096 : Shape := ⟨2, ![8704, 4096]⟩
abbrev S4096x8192 : Shape := ⟨2, ![4096, 8192]⟩
abbrev S8704x8192 : Shape := ⟨2, ![8704, 8192]⟩
abbrev S1088x4096 : Shape := ⟨2, ![1088, 4096]⟩
abbrev S4096x512 : Shape := ⟨2, ![4096, 512]⟩
abbrev S1088x512 : Shape := ⟨2, ![1088, 512]⟩

abbrev nBuf : Space → Nat
  | .hbm => 3
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S4096x8192, .f32⟩
  | .hbm, ⟨2, _⟩ => ⟨S8704x8192, .f32⟩
  | .local _ .vmem, ⟨0, _⟩ => ⟨S1088x4096, .bf16⟩
  | .local _ .vmem, ⟨1, _⟩ => ⟨S1088x4096, .bf16⟩
  | .local _ .vmem, ⟨2, _⟩ => ⟨S4096x512, .f32⟩
  | .local _ .vmem, ⟨3, _⟩ => ⟨S4096x512, .f32⟩
  | .local _ .vmem, ⟨4, _⟩ => ⟨S1088x512, .f32⟩
  | .local _ .vmem, ⟨5, _⟩ => ⟨S1088x512, .f32⟩
  | .local _ .vmem, ⟨6, _⟩ => ⟨S4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvRefIdeal.lean ====
abbrev S8704x4096 : Shape := ⟨2, ![8704, 4096]⟩
abbrev S4096x8192 : Shape := ⟨2, ![4096, 8192]⟩
abbrev S8704x8192 : Shape := ⟨2, ![8704, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x8192, .f32⟩
  | .hbm, ⟨2, _⟩ => ⟨S8704x4096, .f32⟩
  | .hbm, ⟨3, _⟩ => ⟨S8704x8192, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Mq.lean ====
abbrev S8704x4096 : Shape := ⟨2, ![8704, 4096]⟩
abbrev S2x4096x4096 : Shape := ⟨3, ![2, 4096, 4096]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S2x4096x4096, .f32⟩
  | .hbm, ⟨2, _⟩ => ⟨S8704x4096, .bf16⟩
  | .local _ .vmem, ⟨0, _⟩ => ⟨S1088x4096, .bf16⟩
  | .local _ .vmem, ⟨1, _⟩ => ⟨S1088x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1088x512, .bf16⟩
  | .local _ .vmem, ⟨5, _⟩ => ⟨S1088x512, .bf16⟩
  | .local _ .vmem, ⟨6, _⟩ => ⟨S4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MqRefIdeal.lean ====
abbrev S8704x4096 : Shape := ⟨2, ![8704, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x4096, .f32⟩
  | .hbm, ⟨2, _⟩ => ⟨S8704x4096, .f32⟩
  | .hbm, ⟨3, _⟩ => ⟨S1x4096x4096, .f32⟩
  | .hbm, ⟨4, _⟩ => ⟨S4096x4096, .f32⟩
  | .hbm, ⟨5, _⟩ => ⟨S8704x4096, .f32⟩
  | .hbm, ⟨6, _⟩ => ⟨S8704x4096, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mo.lean ====
abbrev S8704x4096 : Shape := ⟨2, ![8704, 4096]⟩
abbrev S2x4096x4096 : Shape := ⟨3, ![2, 4096, 4096]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩

abbrev nBuf : Space → Nat
  | .hbm => 4
  | .vmem => 9
  | .smem => 0
  | _ => 0

abbrev bufTy : (tb : Table) → Fin (tcTables nBuf tb) → BufTy
  | .hbm, ⟨0, _⟩ => ⟨S8704x4096, .bf16⟩
  | .hbm, ⟨1, _⟩ => ⟨S2x4096x4096, .f32⟩
  | .hbm, ⟨2, _⟩ => ⟨S8704x4096, .f32⟩
  | .hbm, ⟨3, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | .local _ .vmem, ⟨8, _⟩ => ⟨S4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoRefIdeal.lean ====
abbrev S8704x4096 : Shape := ⟨2, ![8704, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x4096, .f32⟩
  | .hbm, ⟨2, _⟩ => ⟨S8704x4096, .f32⟩
  | .hbm, ⟨3, _⟩ => ⟨S8704x4096, .f32⟩
  | .hbm, ⟨4, _⟩ => ⟨S1x4096x4096, .f32⟩
  | .hbm, ⟨5, _⟩ => ⟨S4096x4096, .f32⟩
  | .hbm, ⟨6, _⟩ => ⟨S8704x4096, .f32⟩
  | .hbm, ⟨7, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Aq.lean ====
abbrev S8704x4096 : Shape := ⟨2, ![8704, 4096]⟩
abbrev S1x4096x4096 : Shape := ⟨3, ![1, 4096, 4096]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S1x4096x4096, .f32⟩
  | .hbm, ⟨2, _⟩ => ⟨S8704x4096, .bf16⟩
  | .local _ .vmem, ⟨0, _⟩ => ⟨S1088x4096, .bf16⟩
  | .local _ .vmem, ⟨1, _⟩ => ⟨S1088x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1088x512, .bf16⟩
  | .local _ .vmem, ⟨5, _⟩ => ⟨S1088x512, .bf16⟩
  | .local _ .vmem, ⟨6, _⟩ => ⟨S4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AqRefIdeal.lean ====
abbrev S8704x4096 : Shape := ⟨2, ![8704, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S1x4096x4096, .f32⟩
  | .hbm, ⟨2, _⟩ => ⟨S8704x4096, .f32⟩
  | .hbm, ⟨3, _⟩ => ⟨S4096x4096, .f32⟩
  | .hbm, ⟨4, _⟩ => ⟨S8704x4096, .f32⟩
  | .hbm, ⟨5, _⟩ => ⟨S8704x4096, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ao.lean ====
abbrev S8704x4096 : Shape := ⟨2, ![8704, 4096]⟩
abbrev S1x4096x4096 : Shape := ⟨3, ![1, 4096, 4096]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩

abbrev nBuf : Space → Nat
  | .hbm => 4
  | .vmem => 9
  | .smem => 0
  | _ => 0

abbrev bufTy : (tb : Table) → Fin (tcTables nBuf tb) → BufTy
  | .hbm, ⟨0, _⟩ => ⟨S8704x4096, .bf16⟩
  | .hbm, ⟨1, _⟩ => ⟨S1x4096x4096, .f32⟩
  | .hbm, ⟨2, _⟩ => ⟨S8704x4096, .f32⟩
  | .hbm, ⟨3, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | .local _ .vmem, ⟨8, _⟩ => ⟨S4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AoRefIdeal.lean ====
abbrev S8704x4096 : Shape := ⟨2, ![8704, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S1x4096x4096, .f32⟩
  | .hbm, ⟨2, _⟩ => ⟨S8704x4096, .f32⟩
  | .hbm, ⟨3, _⟩ => ⟨S8704x4096, .f32⟩
  | .hbm, ⟨4, _⟩ => ⟨S4096x4096, .f32⟩
  | .hbm, ⟨5, _⟩ => ⟨S8704x4096, .f32⟩
  | .hbm, ⟨6, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ma.lean ====
abbrev S8704x4096 : Shape := ⟨2, ![8704, 4096]⟩
abbrev S256x8192 : Shape := ⟨2, ![256, 8192]⟩
abbrev S512x4096 : Shape := ⟨2, ![512, 4096]⟩
abbrev S256x4096 : Shape := ⟨2, ![256, 4096]⟩
abbrev S512x1024 : Shape := ⟨2, ![512, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S8704x4096, .bf16⟩
  | .hbm, ⟨1, _⟩ => ⟨S256x8192, .f32⟩
  | .hbm, ⟨2, _⟩ => ⟨S8704x4096, .bf16⟩
  | .local _ .vmem, ⟨0, _⟩ => ⟨S512x4096, .bf16⟩
  | .local _ .vmem, ⟨1, _⟩ => ⟨S512x4096, .bf16⟩
  | .local _ .vmem, ⟨2, _⟩ => ⟨S256x4096, .f32⟩
  | .local _ .vmem, ⟨3, _⟩ => ⟨S256x4096, .f32⟩
  | .local _ .vmem, ⟨4, _⟩ => ⟨S512x4096, .bf16⟩
  | .local _ .vmem, ⟨5, _⟩ => ⟨S512x4096, .bf16⟩
  | .local _ .vmem, ⟨6, _⟩ => ⟨S256x4096, .bf16⟩
  | .local _ .vmem, ⟨7, _⟩ => ⟨S256x4096, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MaRefIdeal.lean ====
abbrev S8704x4096 : Shape := ⟨2, ![8704, 4096]⟩
abbrev S256x8192 : Shape := ⟨2, ![256, 8192]⟩
abbrev S8192x4096 : Shape := ⟨2, ![8192, 4096]⟩
abbrev S1x8192x4x1024 : Shape := ⟨4, ![1, 8192, 4, 1024]⟩
abbrev S256x4096 : Shape := ⟨2, ![256, 4096]⟩
abbrev S1x256x4x1024 : Shape := ⟨4, ![1, 256, 4, 1024]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x1024x8192 : Shape := ⟨4, ![1, 4, 1024, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S256x8192, .f32⟩
  | .hbm, ⟨2, _⟩ => ⟨S8192x4096, .bf16⟩
  | .hbm, ⟨3, _⟩ => ⟨S8192x4096, .f32⟩
  | .hbm, ⟨4, _⟩ => ⟨S1x8192x4x1024, .f32⟩
  | .hbm, ⟨5, _⟩ => ⟨S256x4096, .f32⟩
  | .hbm, ⟨6, _⟩ => ⟨S1x256x4x1024, .f32⟩
  | .hbm, ⟨7, _⟩ => ⟨S256x4096, .f32⟩
  | .hbm, ⟨8, _⟩ => ⟨S1x256x4x1024, .f32⟩
  | .hbm, ⟨9, _⟩ => ⟨S1x4x8192x256, .f32⟩
  | .hbm, ⟨10, _⟩ => ⟨S_, .f32⟩
  | .hbm, ⟨11, _⟩ => ⟨S1x4x8192x256, .f32⟩
  | .hbm, ⟨12, _⟩ => ⟨S1x4x8192x256, .f32⟩
  | .hbm, ⟨13, _⟩ => ⟨S_, .f32⟩
  | .hbm, ⟨14, _⟩ => ⟨S1x4x8192, .f32⟩
  | .hbm, ⟨15, _⟩ => ⟨S_, .f32⟩
  | .hbm, ⟨16, _⟩ => ⟨S1x4x8192, .f32⟩
  | .hbm, ⟨17, _⟩ => ⟨S1x4x8192, .f32⟩
  | .hbm, ⟨18, _⟩ => ⟨S1x4x8192x1, .f32⟩
  | .hbm, ⟨19, _⟩ => ⟨S1x4x8192x256, .f32⟩
  | .hbm, ⟨20, _⟩ => ⟨S1x4x8192x256, .f32⟩
  | .hbm, ⟨21, _⟩ => ⟨S1x4x8192x256, .f32⟩
  | .hbm, ⟨22, _⟩ => ⟨S_, .f32⟩
  | .hbm, ⟨23, _⟩ => ⟨S1x4x8192, .f32⟩
  | .hbm, ⟨24, _⟩ => ⟨S1x4x8192x1, .f32⟩
  | .hbm, ⟨25, _⟩ => ⟨S1x4x8192x256, .f32⟩
  | .hbm, ⟨26, _⟩ => ⟨S1x4x8192x256, .f32⟩
  | .hbm, ⟨27, _⟩ => ⟨S1x4x1024x8192, .f32⟩
  | .hbm, ⟨28, _⟩ => ⟨S1x8192x4x1024, .f32⟩
  | .hbm, ⟨29, _⟩ => ⟨S8192x4096, .f32⟩
  | .hbm, ⟨30, _⟩ => ⟨S8192x4096, .bf16⟩
  | .hbm, ⟨31, _⟩ => ⟨S_, .i32⟩
  | .hbm, ⟨32, _⟩ => ⟨S_, .bf16⟩
  | .hbm, ⟨33, _⟩ => ⟨S8704x4096, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Mk.lean ====
abbrev S1x256x4096 : Shape := ⟨3, ![1, 256, 4096]⟩
abbrev S2x4096 : Shape := ⟨2, ![2, 4096]⟩
abbrev S2x4096x8192 : Shape := ⟨3, ![2, 4096, 8192]⟩
abbrev S256x4096 : Shape := ⟨2, ![256, 4096]⟩
abbrev S1x4096 : Shape := ⟨2, ![1, 4096]⟩
abbrev S4096 : Shape := ⟨1, ![4096]⟩
abbrev S256 : Shape := ⟨1, ![256]⟩
abbrev S256x1 : Shape := ⟨2, ![256, 1]⟩
abbrev S256x8192 : Shape := ⟨2, ![256, 8192]⟩
abbrev S1x4096x512 : Shape := ⟨3, ![1, 4096, 512]⟩
abbrev S256x512 : Shape := ⟨2, ![256, 512]⟩
abbrev S4096x512 : Shape := ⟨2, ![4096, 512]⟩

abbrev nBuf : Space → Nat
  | .hbm => 14
  | .vmem => 18
  | .smem => 0
  | _ => 0

abbrev bufTy : (tb : Table) → Fin (tcTables nBuf tb) → BufTy
  | .hbm, ⟨0, _⟩ => ⟨S1x256x4096, .f32⟩
  | .hbm, ⟨1, _⟩ => ⟨S2x4096, .f32⟩
  | .hbm, ⟨2, _⟩ => ⟨S2x4096x8192, .f32⟩
  | .hbm, ⟨3, _⟩ => ⟨S256x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S256x4096, .bf16⟩
  | .hbm, ⟨8, _⟩ => ⟨S256x8192, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S256x4096, .bf16⟩
  | .hbm, ⟨13, _⟩ => ⟨S256x8192, .f32⟩
  | .local _ .vmem, ⟨0, _⟩ => ⟨S256x4096, .f32⟩
  | .local _ .vmem, ⟨1, _⟩ => ⟨S1x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096x512, .f32⟩
  | .local _ .vmem, ⟨5, _⟩ => ⟨S1x4096x512, .f32⟩
  | .local _ .vmem, ⟨6, _⟩ => ⟨S256x512, .f32⟩
  | .local _ .vmem, ⟨7, _⟩ => ⟨S256x512, .f32⟩
  | .local _ .vmem, ⟨8, _⟩ => ⟨S4096x512, .bf16⟩
  | .local _ .vmem, ⟨9, _⟩ => ⟨S256x4096, .f32⟩
  | .local _ .vmem, ⟨10, _⟩ => ⟨S1x4096, .f32⟩
  | .local _ .vmem, ⟨11, _⟩ => ⟨S256x4096, .bf16⟩
  | .local _ .vmem, ⟨12, _⟩ => ⟨S256x4096, .bf16⟩
  | .local _ .vmem, ⟨13, _⟩ => ⟨S1x4096x512, .f32⟩
  | .local _ .vmem, ⟨14, _⟩ => ⟨S1x4096x512, .f32⟩
  | .local _ .vmem, ⟨15, _⟩ => ⟨S256x512, .f32⟩
  | .local _ .vmem, ⟨16, _⟩ => ⟨S256x512, .f32⟩
  | .local _ .vmem, ⟨17, _⟩ => ⟨S4096x512, .bf16⟩
  | _, _ => ⟨S1x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_scratch0 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc3_stg0_0 : Ref sig .tc := ⟨.vmem, 12, rfl⟩
abbrev cc3_stg1_0 : Ref sig .tc := ⟨.vmem, 13, rfl⟩
abbrev cc3_stg1_1 : Ref sig .tc := ⟨.vmem, 14, rfl⟩
abbrev cc3_stg2_0 : Ref sig .tc := ⟨.vmem, 15, rfl⟩
abbrev cc3_stg2_1 : Ref sig .tc := ⟨.vmem, 16, rfl⟩
abbrev cc3_scratch0 : Ref sig .tc := ⟨.vmem, 17, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem2_0 : DmaSem sig := 10
abbrev cc3_sem0_0 : DmaSem sig := 11
abbrev cc3_sem1_0 : DmaSem sig := 12
abbrev cc3_sem1_1 : DmaSem sig := 13
abbrev cc3_sem2_0 : DmaSem sig := 14
abbrev cc3_sem2_1 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S256x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S1x4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S256x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x4096 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev grid3 : Pipeline.Grid := ⟨2, ![16, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .vmem S256x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 2 → Memref sig .tc .vmem S1x4096x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S256x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== MkRefIdeal.lean ====
abbrev S1x256x4096 : Shape := ⟨3, ![1, 256, 4096]⟩
abbrev S2x4096 : Shape := ⟨2, ![2, 4096]⟩
abbrev S2x4096x8192 : Shape := ⟨3, ![2, 4096, 8192]⟩
abbrev S256x4096 : Shape := ⟨2, ![256, 4096]⟩
abbrev S_ : Shape := ⟨0, ![]⟩
abbrev S256 : Shape := ⟨1, ![256]⟩
abbrev S256x1 : Shape := ⟨2, ![256, 1]⟩
abbrev S1x4096 : Shape := ⟨2, ![1, 4096]⟩
abbrev S4096 : Shape := ⟨1, ![4096]⟩
abbrev S1x4096x8192 : Shape := ⟨3, ![1, 4096, 8192]⟩
abbrev S4096x8192 : Shape := ⟨2, ![4096, 8192]⟩
abbrev S256x8192 : Shape := ⟨2, ![256, 8192]⟩

abbrev nBuf : Space → Nat
  | .hbm => 47
  | .vmem => 0
  | .smem => 0
  | _ => 0

abbrev bufTy : (tb : Table) → Fin (tcTables nBuf tb) → BufTy
  | .hbm, ⟨0, _⟩ => ⟨S1x256x4096, .f32⟩
  | .hbm, ⟨1, _⟩ => ⟨S2x4096, .f32⟩
  | .hbm, ⟨2, _⟩ => ⟨S2x4096x8192, .f32⟩
  | .hbm, ⟨3, _⟩ => ⟨S256x4096, .f32⟩
  | .hbm, ⟨4, _⟩ => ⟨S256x4096, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x4096, .f32⟩
  | .hbm, ⟨16, _⟩ => ⟨S256x4096, .f32⟩
  | .hbm, ⟨17, _⟩ => ⟨S1x4096, .f32⟩
  | .hbm, ⟨18, _⟩ => ⟨S4096, .f32⟩
  | .hbm, ⟨19, _⟩ => ⟨S1x4096, .f32⟩
  | .hbm, ⟨20, _⟩ => ⟨S256x4096, .f32⟩
  | .hbm, ⟨21, _⟩ => ⟨S256x4096, .f32⟩
  | .hbm, ⟨22, _⟩ => ⟨S1x4096x8192, .f32⟩
  | .hbm, ⟨23, _⟩ => ⟨S4096x8192, .f32⟩
  | .hbm, ⟨24, _⟩ => ⟨S256x8192, .f32⟩
  | .hbm, ⟨25, _⟩ => ⟨S256x4096, .f32⟩
  | .hbm, ⟨26, _⟩ => ⟨S256x4096, .f32⟩
  | .hbm, ⟨27, _⟩ => ⟨S_, .f32⟩
  | .hbm, ⟨28, _⟩ => ⟨S256, .f32⟩
  | .hbm, ⟨29, _⟩ => ⟨S256x1, .f32⟩
  | .hbm, ⟨30, _⟩ => ⟨S_, .f32⟩
  | .hbm, ⟨31, _⟩ => ⟨S256x1, .f32⟩
  | .hbm, ⟨32, _⟩ => ⟨S256x1, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S256x1, .f32⟩
  | .hbm, ⟨37, _⟩ => ⟨S256x4096, .f32⟩
  | .hbm, ⟨38, _⟩ => ⟨S256x4096, .f32⟩
  | .hbm, ⟨39, _⟩ => ⟨S1x4096, .f32⟩
  | .hbm, ⟨40, _⟩ => ⟨S4096, .f32⟩
  | .hbm, ⟨41, _⟩ => ⟨S1x4096, .f32⟩
  | .hbm, ⟨42, _⟩ => ⟨S256x4096, .f32⟩
  | .hbm, ⟨43, _⟩ => ⟨S256x4096, .f32⟩
  | .hbm, ⟨44, _⟩ => ⟨S1x4096x8192, .f32⟩
  | .hbm, ⟨45, _⟩ => ⟨S4096x8192, .f32⟩
  | .hbm, ⟨46, _⟩ => ⟨S256x8192, .f32⟩
  | _, _ => ⟨S1x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Sg.lean ====
abbrev S8704x4096 : Shape := ⟨2, ![8704, 4096]⟩
abbrev S1x4096 : Shape := ⟨2, ![1, 4096]⟩
abbrev S4096 : Shape := ⟨1, ![4096]⟩
abbrev S256x4096 : Shape := ⟨2, ![256, 4096]⟩

abbrev nBuf : Space → Nat
  | .hbm => 6
  | .vmem => 7
  | .smem => 0
  | _ => 0

abbrev bufTy : (tb : Table) → Fin (tcTables nBuf tb) → BufTy
  | .hbm, ⟨0, _⟩ => ⟨S8704x4096, .f32⟩
  | .hbm, ⟨1, _⟩ => ⟨S8704x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S8704x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SgRefIdeal.lean ====
abbrev S8704x4096 : Shape := ⟨2, ![8704, 4096]⟩
abbrev S1x4096 : Shape := ⟨2, ![1, 4096]⟩
abbrev S4096 : Shape := ⟨1, ![4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S8704x4096, .f32⟩
  | .hbm, ⟨6, _⟩ => ⟨S8704x4096, .f32⟩
  | .hbm, ⟨7, _⟩ => ⟨S8704x4096, .f32⟩
  | .hbm, ⟨8, _⟩ => ⟨S8704x4096, .f32⟩
  | .hbm, ⟨9, _⟩ => ⟨S8704x4096, .f32⟩
  | .hbm, ⟨10, _⟩ => ⟨S_, .f32⟩
  | .hbm, ⟨11, _⟩ => ⟨S8704x4096, .f32⟩
  | .hbm, ⟨12, _⟩ => ⟨S8704x4096, .f32⟩
  | .hbm, ⟨13, _⟩ => ⟨S8704x4096, .f32⟩
  | .hbm, ⟨14, _⟩ => ⟨S_, .f32⟩
  | .hbm, ⟨15, _⟩ => ⟨S8704x4096, .f32⟩
  | .hbm, ⟨16, _⟩ => ⟨S8704x4096, .f32⟩
  | .hbm, ⟨17, _⟩ => ⟨S8704x4096, .f32⟩
  | .hbm, ⟨18, _⟩ => ⟨S_, .f32⟩
  | .hbm, ⟨19, _⟩ => ⟨S8704x4096, .f32⟩
  | .hbm, ⟨20, _⟩ => ⟨S8704x4096, .f32⟩
  | .hbm, ⟨21, _⟩ => ⟨S_, .f32⟩
  | .hbm, ⟨22, _⟩ => ⟨S8704x4096, .f32⟩
  | .hbm, ⟨23, _⟩ => ⟨S8704x4096, .f32⟩
  | .hbm, ⟨24, _⟩ => ⟨S8704x4096, .f32⟩
  | .hbm, ⟨25, _⟩ => ⟨S8704x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Rn.lean ====
abbrev S8704x4096 : Shape := ⟨2, ![8704, 4096]⟩
abbrev S2x4096 : Shape := ⟨2, ![2, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S8704x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S8704x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RnRefIdeal.lean ====
abbrev S8704x4096 : Shape := ⟨2, ![8704, 4096]⟩
abbrev S2x4096 : Shape := ⟨2, ![2, 4096]⟩
abbrev S_ : Shape := ⟨0, ![]⟩
abbrev S8704 : Shape := ⟨1, ![8704]⟩
abbrev S8704x1 : Shape := ⟨2, ![8704, 1]⟩
abbrev S1x4096 : Shape := ⟨2, ![1, 4096]⟩
abbrev S4096 : Shape := ⟨1, ![4096]⟩

abbrev nBuf : Space → Nat
  | .hbm => 21
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S2x4096, .f32⟩
  | .hbm, ⟨2, _⟩ => ⟨S8704x4096, .f32⟩
  | .hbm, ⟨3, _⟩ => ⟨S_, .f32⟩
  | .hbm, ⟨4, _⟩ => ⟨S8704, .f32⟩
  | .hbm, ⟨5, _⟩ => ⟨S8704x1, .f32⟩
  | .hbm, ⟨6, _⟩ => ⟨S_, .f32⟩
  | .hbm, ⟨7, _⟩ => ⟨S8704x1, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S8704x1, .f32⟩
  | .hbm, ⟨13, _⟩ => ⟨S8704x4096, .f32⟩
  | .hbm, ⟨14, _⟩ => ⟨S8704x4096, .f32⟩
  | .hbm, ⟨15, _⟩ => ⟨S1x4096, .f32⟩
  | .hbm, ⟨16, _⟩ => ⟨S4096, .f32⟩
  | .hbm, ⟨17, _⟩ => ⟨S1x4096, .f32⟩
  | .hbm, ⟨18, _⟩ => ⟨S8704x4096, .f32⟩
  | .hbm, ⟨19, _⟩ => ⟨S8704x4096, .f32⟩
  | .hbm, ⟨20, _⟩ => ⟨S8704x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.Softmax.lean ====
module

public import Idealize.ShloMosaic.Lib.Pointwise

@[expose] public section

set_option maxRecDepth 16384

noncomputable section

namespace Cert.Softmax

open Idealize.ShloMosaic

/-- The largest of `n` scores, from `-∞` up. -/
def top {n : ℕ} (s : Fin n → EReal) : EReal := Finset.univ.fold max ⊥ s

/-- The softmax of `n` scores `s` applied to `n` values `v`: `∑ exp (s j - max s) / (∑ exp (s k - max s)) * v j`. -/
def mix {n : ℕ} (s v : Fin n → EReal) : EReal :=
  ∑ j, Ideal.div (Ideal.exp (s j - top s)) (∑ k, Ideal.exp (s k - top s)) * v j

theorem le_top {n : ℕ} (s : Fin n → EReal) (j : Fin n) : s j ≤ top s :=
  Finset.le_fold_max (s j) |>.2 (Or.inr ⟨j, Finset.mem_univ j, le_rfl⟩)

theorem top_le {n : ℕ} (s : Fin n → EReal) (b : EReal) (h : ∀ j, s j ≤ b) : top s ≤ b :=
  Finset.fold_max_le b |>.2 ⟨bot_le, fun j _ => h j⟩

/-- The maximum of a nonempty family is one of its members, or `-∞`. -/
theorem top_mem {n : ℕ} (s : Fin n → EReal) (j₀ : Fin n) (hj : s j₀ ≠ ⊥) : ∃ j, s j = top s := by
  by_contra hne
  have hne' : ∀ j, s j ≠ top s := fun j hj => hne ⟨j, hj⟩
  have hlt : ∀ j, s j < top s := fun j => lt_of_le_of_ne (le_top s j) (hne' j)
  have : top s < top s :=
    (Finset.fold_max_lt (top s)).2 ⟨lt_of_le_of_lt bot_le (hlt j₀), fun j _ => hlt j⟩
  exact lt_irrefl _ this

theorem exp_nonneg (x : EReal) : 0 ≤ Ideal.exp x := by
  induction x with
  | bot => exact le_rfl
  | top => exact _root_.le_top
  | coe r => exact EReal.coe_nonneg.2 (Real.exp_pos r).le

theorem bot_sub (x : EReal) : (⊥ : EReal) - x = ⊥ := by rw [sub_eq_add_neg, EReal.bot_add]

/-- The denominator is not zero once one score is above `-∞` and none is `+∞`. -/
theorem den_ne_zero {n : ℕ} (s : Fin n → EReal) (j₀ : Fin n) (hj : s j₀ ≠ ⊥) (hT : ∀ j, s j ≠ ⊤) :
    (∑ k, Ideal.exp (s k - top s)) ≠ 0 := by
  obtain ⟨j, hj'⟩ := top_mem s j₀ hj
  have hb : top s ≠ ⊥ := fun h => hj (le_bot_iff.1 (h ▸ le_top s j₀))
  have ht : top s ≠ ⊤ := hj' ▸ hT j
  have h1 : Ideal.exp (s j - top s) = 1 := by
    rw [hj']
    obtain ⟨r, hr⟩ : ∃ r : ℝ, (r : EReal) = top s := ⟨_, EReal.coe_toReal ht hb⟩
    rw [← hr, ← EReal.coe_sub, sub_self]
    show ((Real.exp 0 : ℝ) : EReal) = 1
    rw [Real.exp_zero, EReal.coe_one]
  have h2 : Ideal.exp (s j - top s) ≤ ∑ k, Ideal.exp (s k - top s) :=
    Finset.single_le_sum (f := fun k => Ideal.exp (s k - top s)) (fun k _ => exp_nonneg _) (Finset.mem_univ j)
  intro h0
  rw [h1, h0] at h2
  exact absurd h2 (by simp)

/-- WINDOW AND BAND. Scores that are `-∞` off the image of `e` have the softmax of the scores on it. -/
theorem mix_window {n m : ℕ} (e : Fin n → Fin m) (he : Function.Injective e) (s v : Fin m → EReal) (s' v' : Fin n → EReal)
    (hs : ∀ j, s (e j) = s' j) (hv : ∀ j, v (e j) = v' j) (hout : ∀ i, i ∉ Set.range e → s i = ⊥)
    (j₀ : Fin n) (hj : s' j₀ ≠ ⊥) (hT : ∀ j, s' j ≠ ⊤) : mix s v = mix s' v' := by
  have htop : top s = top s' := by
    refine le_antisymm (top_le _ _ fun i => ?_) (top_le _ _ fun j => ?_)
    · by_cases hi : i ∈ Set.range e
      · obtain ⟨j, rfl⟩ := hi
        rw [hs]; exact le_top s' j
      · rw [hout i hi]; exact bot_le
    · rw [← hs]; exact le_top s (e j)
  have hden : (∑ k, Ideal.exp (s k - top s)) = ∑ k, Ideal.exp (s' k - top s') := by
    symm
    refine Fintype.sum_of_injective e he _ _ (fun i hi => ?_) fun j => ?_
    · rw [hout i hi, bot_sub, Ideal.exp_bot]
    · rw [hs, htop]
  unfold mix
  symm
  refine Fintype.sum_of_injective e he _ _ (fun i hi => ?_) fun j => ?_
  · rw [hout i hi, bot_sub, Ideal.exp_bot, hden]
    unfold Ideal.div
    rw [if_neg (den_ne_zero s' j₀ hj hT), zero_mul, zero_mul]
  · rw [hs, hv, hden, htop]

end Cert.Softmax

end
-- ==== Proof.Group.lean ====
module

public import proofs.«01_k».proof.Proof.Gen.KernelIdeal.Skeleton
public import Idealize.ShloMosaic.Lib.Pointwise
public import Idealize.ShloMosaic.Lib.Tactic
public import proofs.«01_k».proof.Proof.Softmax

@[expose] public section

set_option maxRecDepth 16384

noncomputable section

namespace Cert.Band

open Idealize.ShloMosaic Idealize.ShloMosaic.TcCoe Idealize.SL.Sem
open Cert.KernelIdeal Cert.KernelIdeal.Gen Cert.Softmax

/-- The named mask of the kernel's body is `-∞`. -/
theorem mask_bot : Named.named (F := Ideal) Cert.KernelIdeal.κ "mask" (φ := .f32) 0xF149F2CA#32 = (⊥ : EReal) :=
  IdealRules.named_const.ideal_named_scalar _ _ _ _ rfl

/-- The pattern of `-∞`. -/
theorem ninf : Ideal.ofBits .f32 0xFF800000#32 = (⊥ : EReal) := by
  simp [Ideal.ofBits, Ideal.ieee]

/-- The scale `1 / √128` as it is written in binary32. -/
def scl : EReal := Ideal.ofBits .f32 0x3DB504F3#32

theorem bound_toInt : ∀ (n : Fin 8) (g : Fin 4),
    (Scalar.muli (Scalar.subi 8#32 (Scalar.muli (Scalar.addi (Scalar.muli (BitVec.ofNat 32 n.val) 4#32) (BitVec.ofNat 32 g.val)) 4#32)) 64#32 : BitVec 32).toInt
      = 512 - ((n.val : ℤ) * 4 + g.val) * 256 := by decide

theorem toInt_small (j : ℕ) (h : j < 8704) : (BitVec.ofNat 32 j).toInt = j := by
  rw [BitVec.toInt_ofNat', Int.bmod_eq_of_le] <;> omega

/-- The mask's comparison: the window's column `j` is at or after the first key. -/
theorem cond_word (n : Fin 8) (g : Fin 4) (w : BitVec 32) (hw : BitVec.ofNat 32 g.val = w) (j : Fin 768) :
    IntOp.cmpi CmpIPredicate.sge (BitVec.ofNat 32 j.val)
      (Scalar.muli (Scalar.subi 8#32 (Scalar.muli (Scalar.addi (Scalar.muli (BitVec.ofNat 32 n.val) 4#32) w) 4#32)) 64#32)
      = BitVec.ofBool (decide (512 ≤ (n.val * 4 + g.val) * 256 + j.val)) := by
  subst hw
  show BitVec.ofBool (BitVec.sle _ _) = _
  rw [BitVec.sle_eq_decide, bound_toInt, toInt_small _ (by omega)]
  refine congrArg BitVec.ofBool (decide_eq_decide.2 ?_)
  omega

theorem sel_ofBool {α : Type} (p : Prop) [Decidable p] (a b : α) :
    Scalar.select (BitVec.ofBool (decide p)) a b = if p then a else b := by
  by_cases h : p
  · simp [h, Scalar.select]
  · simp [h, Scalar.select]

/-- One row of one group: the scores against the window's 768 keys, keys before the first one masked, bias added. -/
def wscore (n : Fin 8) (g : Fin 4) (b : FVec Ideal S256x768 .f32) (q : FVec Ideal S256x128 .bf16) (k : FVec Ideal S768x128 .bf16)
    (r : Fin 256) (j : Fin 768) : EReal :=
  if 512 ≤ (n.val * 4 + g.val) * 256 + j.val then
    (∑ e : Fin 128, (show EReal from q (ix2 r e)) * (show EReal from k (ix2 j e))) * scl + (show EReal from b (ix2 r j)) else ⊥

theorem wscore_fun (n : Fin 8) (g : Fin 4) (b : FVec Ideal S256x768 .f32) (q : FVec Ideal S256x128 .bf16) (k : FVec Ideal S768x128 .bf16)
    (r : Fin 256) : wscore n g b q k r = fun j : Fin 768 => if 512 ≤ (n.val * 4 + g.val) * 256 + j.val then
      (∑ e : Fin 128, (show EReal from q (ix2 r e)) * (show EReal from k (ix2 j e))) * scl + (show EReal from b (ix2 r j)) else ⊥ := rfl

/-- What a group stores, at one element. -/
def grp (n : Fin 8) (g : Fin 4) (b : FVec Ideal S256x768 .f32) (q : FVec Ideal S256x128 .bf16) (k v : FVec Ideal S768x128 .bf16)
    (r : Fin 256) (d : Fin 128) : EReal := mix (wscore n g b q k r) (fun j => v (ix2 j d))

variable (n : Fin 8) (b : FVec Ideal S256x768 .f32) (q : FVec Ideal S256x128 .bf16) (k v : FVec Ideal S768x128 .bf16)
    (r : Fin 256) (d : Fin 128)

theorem pay1_at :
    k0_pay1 (F := Ideal) (BitVec.ofNat 32 n.val) b (iota .tc S256x768 32 [1] iota_S256x768_d1_w32) 3#32 q k v (ix2 r d)
      = grp n 3 b q k v r d := by
  pointwise [k0_pay1]
  simp only [cond_word n 3 3#32 rfl, sel_ofBool, mask_bot, ninf, grp, mix, wscore_fun, top, scl]

theorem pay10_at :
    k0_pay10 (F := Ideal) (BitVec.ofNat 32 n.val) b (iota .tc S256x768 32 [1] iota_S256x768_d1_w32) q k v (ix2 r d)
      = grp n 2 b q k v r d := by
  pointwise [k0_pay10]
  simp only [cond_word n 2 2#32 rfl, sel_ofBool, mask_bot, ninf, grp, mix, wscore_fun, top, scl]

theorem pay9_at :
    k0_pay9 (F := Ideal) (BitVec.ofNat 32 n.val) b (iota .tc S256x768 32 [1] iota_S256x768_d1_w32) q k v (ix2 r d)
      = grp n 1 b q k v r d := by
  pointwise [k0_pay9]
  simp only [cond_word n 1 1#32 rfl, sel_ofBool, mask_bot, ninf, grp, mix, wscore_fun, top, scl]

theorem pay8_at (i : grid0.Coords) (hi : (i 1).val = n.val) (b3 : FVec Ideal S1x256x768 .f32) :
    k0_pay8 (F := Ideal) (k0_pay7 i b3 q k) v (ix2 r d)
      = grp n 0 (k0_pay6 b3) q k v r d := by
  pointwise [k0_pay8, k0_pay7]
  rw [hi]
  simp only [cond_word n 0 0#32 rfl, sel_ofBool, mask_bot, ninf, grp, mix, wscore_fun, top, scl]

/-- A group's element over what its operands read. -/
theorem grp_of (g : Fin 4) (q' : Fin 128 → EReal) (k' : Fin 768 → Fin 128 → EReal) (v' b' : Fin 768 → EReal)
    (hq : ∀ e, q (ix2 r e) = q' e) (hk : ∀ j e, k (ix2 j e) = k' j e) (hv : ∀ j, v (ix2 j d) = v' j) (hb : ∀ j, b (ix2 r j) = b' j) :
    grp n g b q k v r d
      = mix (fun j : Fin 768 => if 512 ≤ (n.val * 4 + g.val) * 256 + j.val then (∑ e, q' e * k' j e) * scl + b' j else ⊥) v' := by
  have h1 : wscore n g b q k r = fun j : Fin 768 => if 512 ≤ (n.val * 4 + g.val) * 256 + j.val then (∑ e, q' e * k' j e) * scl + b' j else ⊥ := by
    funext j
    show (if 512 ≤ (n.val * 4 + g.val) * 256 + j.val then
      (∑ e : Fin 128, (show EReal from q (ix2 r e)) * (show EReal from k (ix2 j e))) * scl + (show EReal from b (ix2 r j)) else ⊥) = _
    rw [hb]; simp only [hq, hk]
  have h2 : (fun j => v (ix2 j d)) = v' := funext hv
  show mix (wscore n g b q k r) (fun j => v (ix2 j d)) = _
  rw [h1, h2]

end Cert.Band
end
-- ==== Proof.Bias.lean ====
module

public import proofs.«01_k».proof.Proof.Gen.KernelIdeal.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

namespace Cert.Band

open Idealize.ShloMosaic Idealize.ShloMosaic.TcCoe Idealize.SL.Sem
open Cert.KernelIdeal Cert.KernelIdeal.Gen

/-- A column of the table read at a table of columns: row `h` is kept, the column is the start index, clamped. -/
theorem gather_cols {α : Type} (x : S32x513.Idx → α) (idx : IVec S1024x1 32) (h : Fin 32) (p : Fin 1024) :
    Host.gather gather_S32x513_S1024x1_S32x1024_0_1_n_n_1_1_321 x idx (ix2 h p)
      = x (ix2 h ⟨min (idx (ix2 p 0)).toInt.toNat 512, by omega⟩) := by
  unfold Host.gather
  refine congrArg x (funext fun a => Fin.ext ?_)
  match a with
  | ⟨0, _⟩ => simp [GatherDims.operandIdx, GatherDims.start, GatherDims.batchCoord, GatherDims.offCoord, gather_S32x513_S1024x1_S32x1024_0_1_n_n_1_1_321, ix2]; rfl
  | ⟨1, _⟩ =>
    have e : gather_S32x513_S1024x1_S32x1024_0_1_n_n_1_1_321.siIdx (ix2 h p) ⟨0, Nat.zero_lt_one⟩ = ix2 p 0 := by
      funext b
      match b with
      | ⟨0, _⟩ => rfl
      | ⟨1, _⟩ => rfl
    show min (idx (gather_S32x513_S1024x1_S32x1024_0_1_n_n_1_1_321.siIdx (ix2 h p) ⟨0, Nat.zero_lt_one⟩)).toInt.toNat 512 = _
    rw [e]; rfl

/-- The first column of row `i`'s band, as the host computes it: `64 ⌊i / 64⌋`. -/
def loW (i : ℕ) : BitVec 32 :=
  IntOp.muli
    (Scalar.select
      (IntOp.andi
        (IntOp.cmpi (w := 32) CmpIPredicate.ne
          (if BitVec.ofNat 32 i = 0 then 0 else if (BitVec.ofNat 32 i).msb = true then -1 else 1)
          (if 64#32 = 0 then 0 else if (64#32).msb = true then -1 else 1))
        (IntOp.cmpi CmpIPredicate.ne (IntOp.remsi ArithUnit.host (BitVec.ofNat 32 i) 64#32) 0#32))
      (IntOp.subi (IntOp.divsi ArithUnit.host (BitVec.ofNat 32 i) 64#32) 1#32)
      (IntOp.divsi ArithUnit.host (BitVec.ofNat 32 i) 64#32))
    64#32

theorem loW_eq : ∀ i : Fin 256, loW i.val = BitVec.ofNat 32 (i.val / 64 * 64) := by decide +kernel

/-- The table's column at relative position `d`, as the host computes it: `clip d + 256`, a negative one wrapped, clamped into the table. -/
def tcol (d : BitVec 32) : ℕ :=
  min (BitVec.toInt
    (Scalar.select
      (IntOp.cmpi CmpIPredicate.slt (IntOp.addi (IntOp.minsi (256#32) (IntOp.maxsi (4294967040#32) d)) 256#32) 0#32)
      (IntOp.addi (IntOp.addi (IntOp.minsi (256#32) (IntOp.maxsi (4294967040#32) d)) 256#32) 513#32)
      (IntOp.addi (IntOp.minsi (256#32) (IntOp.maxsi (4294967040#32) d)) 256#32))).toNat 512

theorem tcol_nat : ∀ t : Fin 2048, tcol (BitVec.ofNat 32 t.val - 1024#32) = min (t.val - 768) 512 := by decide +kernel

/-- The relative position the Toeplitz form of the bias keeps at flat column `k`. -/
def relW (k : ℕ) : BitVec 32 :=
  IntOp.subi (512#32)
    (Scalar.select (IntOp.cmpi CmpIPredicate.slt (BitVec.ofNat 32 k) 768#32) (BitVec.ofNat 32 k) (IntOp.subi (BitVec.ofNat 32 k) 1024#32))

theorem relW_eq : ∀ k : Fin 1024,
    relW k.val = BitVec.ofNat 32 (if k.val < 768 then 1536 - k.val else 2560 - k.val) - 1024#32 := by decide +kernel

/-- The table's column of row `i` against the window's column `j`. -/
theorem tcol_rel (i : Fin 256) (j : Fin 768) :
    tcol (relW ((i.val * 1023 + j.val) % 1024)) = min (768 + i.val - j.val) 512 := by
  have hk : (i.val * 1023 + j.val) % 1024 < 1024 := Nat.mod_lt _ (by omega)
  rw [relW_eq ⟨_, hk⟩]
  obtain ⟨k, hk'⟩ : ∃ k, (i.val * 1023 + j.val) % 1024 = k := ⟨_, rfl⟩
  simp only [hk'] at hk ⊢
  by_cases hc : k < 768
  · rw [if_pos hc]
    refine (tcol_nat ⟨1536 - k, by omega⟩).trans ?_
    show min (1536 - k - 768) 512 = _
    omega
  · rw [if_neg hc]
    refine (tcol_nat ⟨2560 - k, by omega⟩).trans ?_
    show min (2560 - k - 768) 512 = _
    omega

theorem toInt_nat (j : ℕ) (h : j < 8704) : (BitVec.ofNat 32 j).toInt = j := by
  rw [BitVec.toInt_ofNat', Int.bmod_eq_of_le] <;> omega

theorem sel_and {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp [hp, hq, Scalar.select, IntOp.andi]

theorem sge_nat (j k : ℕ) (hj : j < 8704) (hk : k < 8704) :
    IntOp.cmpi CmpIPredicate.sge (BitVec.ofNat 32 j) (BitVec.ofNat 32 k) = BitVec.ofBool (decide (k ≤ j)) := by
  show BitVec.ofBool (BitVec.sle _ _) = _
  rw [BitVec.sle_eq_decide, toInt_nat _ hj, toInt_nat _ hk]
  exact congrArg BitVec.ofBool (decide_eq_decide.2 (by omega))

theorem slt_nat (j k : ℕ) (hj : j < 8704) (hk : k < 8704) :
    IntOp.cmpi CmpIPredicate.slt (BitVec.ofNat 32 j) (BitVec.ofNat 32 k) = BitVec.ofBool (decide (j < k)) := by
  show BitVec.ofBool (BitVec.slt _ _) = _
  rw [BitVec.slt_eq_decide, toInt_nat _ hj, toInt_nat _ hk]
  exact congrArg BitVec.ofBool (decide_eq_decide.2 (by omega))

/-- THE BIAS of head `h`, as the host hands it to the call: in row `i`'s band the table's entry, outside it `-∞`. -/
theorem bias_at (m : (ℓ : Loc nD τ sig) → Buf (Elt Ideal) ℓ) (c : Dev nD) (h : Fin 32) (i : Fin 256) (j : Fin 768) :
    V m c main_v41 (ix3 h i j) = if i.val / 64 * 64 ≤ j.val ∧ j.val < i.val / 64 * 64 + 576 then
      (m ((c.tc : Thread nD τ).loc main_arg2) (ix2 h ⟨min (768 + i.val - j.val) 512, by omega⟩) : EReal) else (⊥ : EReal) := by
  show StableHlo.after [hostOps0, hostOps0_1, hostOps0_2, hostOps0_3, hostOps0_4, hostOps0_5, hostOps0_6, hostOps0_7].flatten
      (fun b => m (c, b)) (Proc.tc.devRef main_v41) (ix3 h i j) = _
  simp only [hostOps0, hostOps0_1, hostOps0_2, hostOps0_3, hostOps0_4, hostOps0_5, hostOps0_6, hostOps0_7, List.flatten_cons, List.flatten_nil,
    List.cons_append, List.nil_append, List.append_nil]
  entry_read
  simp -implicitDefEqProofs only [StableHlo.TRef.toBuf, StableHlo.TRef.ofBuf, cast_cast, cast_eq]
  pointwise
  rw [gather_cols]
  pointwise
  change Scalar.select (IntOp.andi (IntOp.cmpi CmpIPredicate.sge (BitVec.ofNat 32 j.val) (loW i.val))
      (IntOp.cmpi CmpIPredicate.slt (BitVec.ofNat 32 j.val) (IntOp.addi (loW i.val) 576#32)))
      (m (c, Proc.tc.devRef main_arg2) (ix2 h ⟨tcol (relW ((i.val * 1023 + j.val) % 1024)), Nat.lt_succ_of_le (Nat.min_le_right _ _)⟩))
      (Ideal.ofBits FTy.f32 4286578688#32) = _
  have ha : IntOp.addi (BitVec.ofNat 32 (i.val / 64 * 64)) 576#32 = BitVec.ofNat 32 (i.val / 64 * 64 + 576) :=
    (BitVec.ofNat_add _ _).symm
  rw [loW_eq, ha, sge_nat _ _ (by omega) (by omega), slt_nat _ _ (by omega) (by omega), sel_and]
  have hn : Ideal.ofBits .f32 4286578688#32 = (⊥ : EReal) := by simp [Ideal.ofBits, Ideal.ieee]
  have hi : (⟨tcol (relW ((i.val * 1023 + j.val) % 1024)), Nat.lt_succ_of_le (Nat.min_le_right _ _)⟩ : Fin 513)
      = ⟨min (768 + i.val - j.val) 512, by omega⟩ := Fin.ext (tcol_rel i j)
  rw [hn, hi]

end Cert.Band
end
-- ==== Proof.Out.lean ====
module

public import proofs.«01_k».proof.Proof.Gen.KernelIdeal.Value
public import Idealize.ShloMosaic.Lib.Pipeline.ValueKit
public import Idealize.ShloMosaic.Lib.Pointwise
public import Idealize.ShloMosaic.Lib.Tactic
public import Idealize.ShloMosaic.Lib.Claim
public import proofs.«01_k».proof.Proof.Group
public import proofs.«01_k».proof.Proof.Bias

@[expose] public section

set_option maxRecDepth 16384

noncomputable section

namespace Cert.Band

open Idealize.ShloMosaic Idealize.ShloMosaic.TcCoe Idealize.SL.Sem
open Cert.KernelIdeal Cert.KernelIdeal.Gen Cert.Softmax

variable (m : (ℓ : Loc nD τ sig) → Buf (Elt Ideal) ℓ) (c : Dev nD)

/-- A padded column of keys or values: 512 zero rows, then the 8192 prompt rows. -/
def padcol (kv : S8704x8192.Idx → EReal) (o : Fin 8192) (p : ℕ) : EReal :=
  if hp : 512 ≤ p ∧ p < 8704 then kv (ix2 ⟨p - 512, by omega⟩ o) else 0

theorem idx_val : ∀ t : Fin cfg0.N, (grid0.coords t 0).val = t.val / 8 ∧ (grid0.coords t 1).val = t.val % 8 := by decide +kernel

/-- The relative bias a row of a block adds to a column of its window: the table's entry in the row's band, `-∞` outside it. -/
def biasv (T : S32x513.Idx → EReal) (h : Fin 32) (i j : ℕ) : EReal :=
  if i / 64 * 64 ≤ j ∧ j < i / 64 * 64 + 576 then T (ix2 h ⟨min (768 + i - j) 512, by omega⟩) else ⊥

/-- What the kernel computes for row `r` of group `g` of query block `n`, head `h`, lane `d`: the softmax over the window's 768 columns. -/
def krow (Q : S8704x4096.Idx → EReal) (KV : S8704x8192.Idx → EReal) (T : S32x513.Idx → EReal)
    (n : Fin 8) (g : Fin 4) (h : Fin 32) (r : Fin 256) (d : Fin 128) : EReal :=
  mix (fun j : Fin 768 => if 512 ≤ (n.val * 4 + g.val) * 256 + j.val then
      (∑ e : Fin 128, Q (ix2 ⟨n.val * 1024 + g.val * 256 + r.val, by omega⟩ ⟨h.val * 128 + e.val, by omega⟩)
        * padcol KV ⟨h.val * 128 + e.val, by omega⟩ ((n.val * 4 + g.val) * 256 + j.val)) * scl + biasv T h r.val j.val else ⊥)
    (fun j => padcol KV ⟨4096 + h.val * 128 + d.val, by omega⟩ ((n.val * 4 + g.val) * 256 + j.val))

theorem core (Q : S8704x4096.Idx → EReal) (KV : S8704x8192.Idx → EReal) (T : S32x513.Idx → EReal)
    (n : Fin 8) (g : Fin 4) (h : Fin 32) (r : Fin 256) (d : Fin 128)
    (b : FVec Ideal S256x768 .f32) (q : FVec Ideal S256x128 .bf16) (k v : FVec Ideal S768x128 .bf16)
    (hq : ∀ e : Fin 128, q (ix2 r e) = Q (ix2 ⟨n.val * 1024 + g.val * 256 + r.val, by omega⟩ ⟨h.val * 128 + e.val, by omega⟩))
    (hk : ∀ (j : Fin 768) (e : Fin 128), k (ix2 j e) = padcol KV ⟨h.val * 128 + e.val, by omega⟩ ((n.val * 4 + g.val) * 256 + j.val))
    (hv : ∀ j : Fin 768, v (ix2 j d) = padcol KV ⟨4096 + h.val * 128 + d.val, by omega⟩ ((n.val * 4 + g.val) * 256 + j.val))
    (hb : ∀ j : Fin 768, b (ix2 r j) = biasv T h r.val j.val) :
    grp n g b q k v r d = krow Q KV T n g h r d :=
  grp_of n b q k v r d g _ (fun j e => padcol KV ⟨h.val * 128 + e.val, by omega⟩ ((n.val * 4 + g.val) * 256 + j.val)) _ _ hq hk hv hb

theorem off2_val : ∀ (t : Fin cfg0.N) (g : Fin 4),
    k0_off2 (grid0.coords t) (BitVec.ofNat 32 g.val) = ![(t.val % 8 * 4 + g.val) * 256, 0] := by decide +kernel

theorem idx0 : ∀ t : Fin cfg0.N, win0_0.index t (0 : Fin 2) = t.val % 8 ∧ win0_0.index t (1 : Fin 2) = t.val / 8 := by decide +kernel
theorem idx1 : ∀ t : Fin cfg0.N, win0_1.index t (0 : Fin 2) = 0 ∧ win0_1.index t (1 : Fin 2) = t.val / 8 := by decide +kernel
theorem idx2 : ∀ t : Fin cfg0.N, win0_2.index t (0 : Fin 2) = 0 ∧ win0_2.index t (1 : Fin 2) = 32 + t.val / 8 := by decide +kernel
theorem idx3 : ∀ t : Fin cfg0.N, win0_3.index t (0 : Fin 3) = t.val / 8 ∧ win0_3.index t (1 : Fin 3) = 0 ∧ win0_3.index t (2 : Fin 3) = 0 := by
  decide +kernel
theorem idx4 : ∀ t : Fin cfg0.N, win0_4.index t (0 : Fin 2) = t.val % 8 ∧ win0_4.index t (1 : Fin 2) = t.val / 8 := by decide +kernel

theorem bias_blk (t : Fin cfg0.N) (h : Fin 32) (hh : h.val = t.val / 8) (r : Fin 256) (j : Fin 768) :
    k0_pay6 (F := Ideal) (iblk m c 3 t) (ix2 r j) = biasv (m ((c.tc : Thread nD τ).loc main_arg2)) h r.val j.val := by
  refine Eq.trans ?_ (bias_at m c h r j)
  pointwise [k0_pay6]
  blk_simp [iblk, idx_val t]
  refine congrArg (V m c main_v41) ?_
  blk_ext [idx3 t]

theorem q_blk (t : Fin cfg0.N) (n : Fin 8) (h : Fin 32) (hn : n.val = t.val % 8) (hh : h.val = t.val / 8) (r : Fin 1024) (e : Fin 128)
    (R : Fin 8704) (hR : R.val = n.val * 1024 + r.val) :
    X0_0 m c t (ix2 r e) = m ((c.tc : Thread nD τ).loc main_arg0) (ix2 R ⟨h.val * 128 + e.val, by omega⟩) := by
  unfold X0_0 Pipeline.Window.fill
  rw [dif_pos (moved0_0 t _)]
  unfold iblk
  show V m c main_arg0 _ = _
  rw [V_main_arg0]
  blk_ext [idx0 t]

theorem k_blk (t : Fin cfg0.N) (h : Fin 32) (hh : h.val = t.val / 8) (r : Fin 8192) (e : Fin 128)
    (R : Fin 8704) (hR : R.val = r.val) (C : Fin 8192) (hC : C.val = h.val * 128 + e.val) :
    X0_1 m c t (ix2 r e) = m ((c.tc : Thread nD τ).loc main_arg1) (ix2 R C) := by
  unfold X0_1 Pipeline.Window.fill
  rw [dif_pos (moved0_1 t _)]
  unfold iblk
  show V m c main_arg1 _ = _
  rw [V_main_arg1]
  blk_ext [idx1 t]

theorem v_blk (t : Fin cfg0.N) (h : Fin 32) (hh : h.val = t.val / 8) (r : Fin 8192) (e : Fin 128)
    (R : Fin 8704) (hR : R.val = r.val) (C : Fin 8192) (hC : C.val = 4096 + h.val * 128 + e.val) :
    X0_2 m c t (ix2 r e) = m ((c.tc : Thread nD τ).loc main_arg1) (ix2 R C) := by
  unfold X0_2 Pipeline.Window.fill
  rw [dif_pos (moved0_2 t _)]
  unfold iblk
  show V m c main_arg1 _ = _
  rw [V_main_arg1]
  blk_ext [idx2 t]

theorem scrA0 (t : Fin cfg0.N) (h : Fin 32) (hh : h.val = t.val / 8) (ht : t.val % 8 = 0) (p : Fin 8704) (e : Fin 128) :
    (outsAt0 m c t.val t.isLt).2.1 (ix2 p e)
      = padcol (m ((c.tc : Thread nD τ).loc main_arg1)) ⟨h.val * 128 + e.val, by omega⟩ p.val := by
  rw [outsAt0_A m c t ht]
  frame_out
  canon_tiles x w using (View.cover_of_tiledBy _ ![512, 128] (by sl_kernel_rfl) _)
  · idx_vars x
    unfold padcol
    rw [dif_pos (by omega)]
    pointwise [k0_pay3]
    exact k_blk m c t h hh _ _ _ (by show p.val - 512 = _; omega) _ (by show h.val * 128 + e.val = _; omega)
  · idx_vars x
    unfold padcol
    rw [dif_neg (by omega)]
    pointwise [k0_pay2]

theorem scrA1 (t : Fin cfg0.N) (h : Fin 32) (hh : h.val = t.val / 8) (ht : t.val % 8 = 0) (p : Fin 8704) (e : Fin 128) :
    (outsAt0 m c t.val t.isLt).2.2 (ix2 p e)
      = padcol (m ((c.tc : Thread nD τ).loc main_arg1)) ⟨4096 + h.val * 128 + e.val, by omega⟩ p.val := by
  rw [outsAt0_A m c t ht]
  frame_out
  canon_tiles x w using (View.cover_of_tiledBy _ ![512, 128] (by sl_kernel_rfl) _)
  · idx_vars x
    unfold padcol
    rw [dif_pos (by omega)]
    pointwise [k0_pay5]
    exact v_blk m c t h hh _ _ _ (by show p.val - 512 = _; omega) _ (by show 4096 + h.val * 128 + e.val = _; omega)
  · idx_vars x
    unfold padcol
    rw [dif_neg (by omega)]
    pointwise [k0_pay4]

theorem padcol_congr (kv : S8704x8192.Idx → EReal) {o o' : Fin 8192} {p p' : ℕ} (ho : o.val = o'.val) (hp : p = p') :
    padcol kv o p = padcol kv o' p' := by rw [Fin.ext ho, hp]

/-- What the two scratches hold after every point of head `h`: its padded key and value columns. -/
theorem scr_all (n : ℕ) : ∀ (hn : n < cfg0.N) (h : Fin 32), h.val = n / 8 →
    (∀ (p : Fin 8704) (e : Fin 128), (outsAt0 m c n hn).2.1 (ix2 p e)
      = padcol (m ((c.tc : Thread nD τ).loc main_arg1)) ⟨h.val * 128 + e.val, by omega⟩ p.val)
    ∧ (∀ (p : Fin 8704) (e : Fin 128), (outsAt0 m c n hn).2.2 (ix2 p e)
      = padcol (m ((c.tc : Thread nD τ).loc main_arg1)) ⟨4096 + h.val * 128 + e.val, by omega⟩ p.val) := by
  induction n using Nat.strong_induction_on with
  | _ n ih =>
    intro hn h hh
    by_cases ht : n % 8 = 0
    · exact ⟨scrA0 m c ⟨n, hn⟩ h hh ht, scrA1 m c ⟨n, hn⟩ h hh ht⟩
    · obtain ⟨i1, i2⟩ := ih (n - 1) (by omega) (Nat.lt_of_le_of_lt (Nat.sub_le _ _) hn) h (by omega)
      have e := outsAt0_B m c ⟨n, hn⟩ ht
      dsimp only at e
      refine ⟨fun p e' => ?_, fun p e' => ?_⟩
      · rw [e]; exact i1 p e'
      · rw [e]; exact i2 p e'

/-- The output block of a point that is not the first of its head. -/
theorem outB (n : Fin 8) (h : Fin 32) (t : Fin cfg0.N) (ht : ¬ t.val % 8 = 0) (hn : n.val = t.val % 8) (hh : h.val = t.val / 8)
    (g : Fin 4) (r : Fin 256) (d : Fin 128) :
    (outsAt0 m c t.val t.isLt).1 (ix2 ⟨g.val * 256 + r.val, by omega⟩ d)
      = krow (m ((c.tc : Thread nD τ).loc main_arg0)) (m ((c.tc : Thread nD τ).loc main_arg1)) (m ((c.tc : Thread nD τ).loc main_arg2)) n g h r d := by
  have hi : (grid0.coords t 1).val = n.val := (idx_val t).2.trans hn.symm
  obtain ⟨i1, i2⟩ := scr_all m c (t.val - 1) (Nat.lt_of_le_of_lt (Nat.sub_le _ _) t.isLt) h (by omega)
  have ho : ∀ g : Fin 4, k0_off2 (grid0.coords t) (BitVec.ofNat 32 g.val) (0 : Fin 2) = (n.val * 4 + g.val) * 256
      ∧ k0_off2 (grid0.coords t) (BitVec.ofNat 32 g.val) (1 : Fin 2) = 0 := fun g => by rw [off2_val t g, hn]; exact ⟨rfl, rfl⟩
  rw [outsAt0_B m c t ht]
  frame_out
  canon_tiles x w
  all_goals
    idx_vars x
    obtain rfl : d = x1 := Fin.ext w1
  · obtain rfl : g = 3 := Fin.ext (by show g.val = 3; omega)
    obtain rfl : r = x0 := Fin.ext (by have : ((3 : Fin 4) : ℕ) = 3 := rfl; omega)
    have h0 : k0_off2 (grid0.coords t) 3#32 (0 : Fin 2) = (n.val * 4 + 3) * 256 ∧ k0_off2 (grid0.coords t) 3#32 (1 : Fin 2) = 0 := ho 3
    rw [hi]
    refine (pay1_at n _ _ _ _ _ _).trans (core _ _ _ n 3 h _ _ _ _ _ _ (fun e => ?_) (fun j e => ?_) (fun j => ?_) (fun j => ?_))
    · pointwise
      exact q_blk m c t n h hn hh _ e _ (by show n.val * 1024 + 3 * 256 + r.val = n.val * 1024 + (768 + r.val); omega)
    · pointwise
      refine (congrFun (Memref.IsWhole.read_unread (Memref.isWhole_whole _) _) _).trans ((i1 _ _).trans (padcol_congr _ ?_ ?_))
      · show h.val * 128 + (k0_off2 (grid0.coords t) 3#32 (1 : Fin 2) + e.val) = h.val * 128 + e.val
        rw [h0.2]; omega
      · show (k0_off2 (grid0.coords t) 3#32 (0 : Fin 2) + j.val) = (n.val * 4 + 3) * 256 + j.val
        rw [h0.1]
    · pointwise
      refine (congrFun (Memref.IsWhole.read_unread (Memref.isWhole_whole _) _) _).trans ((i2 _ _).trans (padcol_congr _ ?_ ?_))
      · show 4096 + h.val * 128 + (k0_off2 (grid0.coords t) 3#32 (1 : Fin 2) + d.val) = 4096 + h.val * 128 + d.val
        rw [h0.2]; omega
      · show (k0_off2 (grid0.coords t) 3#32 (0 : Fin 2) + j.val) = (n.val * 4 + 3) * 256 + j.val
        rw [h0.1]
    · exact bias_blk m c t h hh _ _
  · obtain rfl : g = 2 := Fin.ext (by show g.val = 2; omega)
    obtain rfl : r = x0 := Fin.ext (by have : ((2 : Fin 4) : ℕ) = 2 := rfl; omega)
    have h0 : k0_off2 (grid0.coords t) 2#32 (0 : Fin 2) = (n.val * 4 + 2) * 256 ∧ k0_off2 (grid0.coords t) 2#32 (1 : Fin 2) = 0 := ho 2
    rw [hi]
    refine (pay10_at n _ _ _ _ _ _).trans (core _ _ _ n 2 h _ _ _ _ _ _ (fun e => ?_) (fun j e => ?_) (fun j => ?_) (fun j => ?_))
    · pointwise
      exact q_blk m c t n h hn hh _ e _ (by show n.val * 1024 + 2 * 256 + r.val = n.val * 1024 + (512 + r.val); omega)
    · pointwise
      refine (congrFun (Memref.IsWhole.read_unread (Memref.isWhole_whole _) _) _).trans ((i1 _ _).trans (padcol_congr _ ?_ ?_))
      · show h.val * 128 + (k0_off2 (grid0.coords t) 2#32 (1 : Fin 2) + e.val) = h.val * 128 + e.val
        rw [h0.2]; omega
      · show (k0_off2 (grid0.coords t) 2#32 (0 : Fin 2) + j.val) = (n.val * 4 + 2) * 256 + j.val
        rw [h0.1]
    · pointwise
      refine (congrFun (Memref.IsWhole.read_unread (Memref.isWhole_whole _) _) _).trans ((i2 _ _).trans (padcol_congr _ ?_ ?_))
      · show 4096 + h.val * 128 + (k0_off2 (grid0.coords t) 2#32 (1 : Fin 2) + d.val) = 4096 + h.val * 128 + d.val
        rw [h0.2]; omega
      · show (k0_off2 (grid0.coords t) 2#32 (0 : Fin 2) + j.val) = (n.val * 4 + 2) * 256 + j.val
        rw [h0.1]
    · exact bias_blk m c t h hh _ _
  · obtain rfl : g = 1 := Fin.ext (by show g.val = 1; omega)
    obtain rfl : r = x0 := Fin.ext (by have : ((1 : Fin 4) : ℕ) = 1 := rfl; omega)
    have h0 : k0_off2 (grid0.coords t) 1#32 (0 : Fin 2) = (n.val * 4 + 1) * 256 ∧ k0_off2 (grid0.coords t) 1#32 (1 : Fin 2) = 0 := ho 1
    rw [hi]
    refine (pay9_at n _ _ _ _ _ _).trans (core _ _ _ n 1 h _ _ _ _ _ _ (fun e => ?_) (fun j e => ?_) (fun j => ?_) (fun j => ?_))
    · pointwise
      exact q_blk m c t n h hn hh _ e _ (by show n.val * 1024 + 1 * 256 + r.val = n.val * 1024 + (256 + r.val); omega)
    · pointwise
      refine (congrFun (Memref.IsWhole.read_unread (Memref.isWhole_whole _) _) _).trans ((i1 _ _).trans (padcol_congr _ ?_ ?_))
      · show h.val * 128 + (k0_off2 (grid0.coords t) 1#32 (1 : Fin 2) + e.val) = h.val * 128 + e.val
        rw [h0.2]; omega
      · show (k0_off2 (grid0.coords t) 1#32 (0 : Fin 2) + j.val) = (n.val * 4 + 1) * 256 + j.val
        rw [h0.1]
    · pointwise
      refine (congrFun (Memref.IsWhole.read_unread (Memref.isWhole_whole _) _) _).trans ((i2 _ _).trans (padcol_congr _ ?_ ?_))
      · show 4096 + h.val * 128 + (k0_off2 (grid0.coords t) 1#32 (1 : Fin 2) + d.val) = 4096 + h.val * 128 + d.val
        rw [h0.2]; omega
      · show (k0_off2 (grid0.coords t) 1#32 (0 : Fin 2) + j.val) = (n.val * 4 + 1) * 256 + j.val
        rw [h0.1]
    · exact bias_blk m c t h hh _ _
  · obtain rfl : g = 0 := Fin.ext (by show g.val = 0; omega)
    obtain rfl : r = x0 := Fin.ext (by have : ((0 : Fin 4) : ℕ) = 0 := rfl; omega)
    have h0 : k0_off2 (grid0.coords t) 0#32 (0 : Fin 2) = (n.val * 4 + 0) * 256 ∧ k0_off2 (grid0.coords t) 0#32 (1 : Fin 2) = 0 := ho 0
    refine (pay8_at n _ _ _ _ _ _ hi _).trans (core _ _ _ n 0 h _ _ _ _ _ _ (fun e => ?_) (fun j e => ?_) (fun j => ?_) (fun j => ?_))
    · pointwise
      exact q_blk m c t n h hn hh _ e _ rfl
    · pointwise
      refine (congrFun (Memref.IsWhole.read_unread (Memref.isWhole_whole _) _) _).trans ((i1 _ _).trans (padcol_congr _ ?_ ?_))
      · show h.val * 128 + (k0_off2 (grid0.coords t) 0#32 (1 : Fin 2) + e.val) = h.val * 128 + e.val
        rw [h0.2]; omega
      · show (k0_off2 (grid0.coords t) 0#32 (0 : Fin 2) + j.val) = (n.val * 4 + 0) * 256 + j.val
        rw [h0.1]
    · pointwise
      refine (congrFun (Memref.IsWhole.read_unread (Memref.isWhole_whole _) _) _).trans ((i2 _ _).trans (padcol_congr _ ?_ ?_))
      · show 4096 + h.val * 128 + (k0_off2 (grid0.coords t) 0#32 (1 : Fin 2) + d.val) = 4096 + h.val * 128 + d.val
        rw [h0.2]; omega
      · show (k0_off2 (grid0.coords t) 0#32 (0 : Fin 2) + j.val) = (n.val * 4 + 0) * 256 + j.val
        rw [h0.1]
    · exact bias_blk m c t h hh _ _

/-- The output block of the first point of a head, which also fills the scratches. -/
theorem outA (n : Fin 8) (h : Fin 32) (t : Fin cfg0.N) (ht : t.val % 8 = 0) (hn : n.val = t.val % 8) (hh : h.val = t.val / 8)
    (g : Fin 4) (r : Fin 256) (d : Fin 128) :
    (outsAt0 m c t.val t.isLt).1 (ix2 ⟨g.val * 256 + r.val, by omega⟩ d)
      = krow (m ((c.tc : Thread nD τ).loc main_arg0)) (m ((c.tc : Thread nD τ).loc main_arg1)) (m ((c.tc : Thread nD τ).loc main_arg2)) n g h r d := by
  have hi : (grid0.coords t 1).val = n.val := (idx_val t).2.trans hn.symm
  have ho : ∀ g : Fin 4, k0_off2 (grid0.coords t) (BitVec.ofNat 32 g.val) (0 : Fin 2) = (n.val * 4 + g.val) * 256
      ∧ k0_off2 (grid0.coords t) (BitVec.ofNat 32 g.val) (1 : Fin 2) = 0 := fun g => by rw [off2_val t g, hn]; exact ⟨rfl, rfl⟩
  rw [outsAt0_A m c t ht]
  frame_out
  canon_tiles x w
  all_goals
    idx_vars x
    obtain rfl : d = x1 := Fin.ext w1
  · obtain rfl : g = 3 := Fin.ext (by show g.val = 3; omega)
    obtain rfl : r = x0 := Fin.ext (by have : ((3 : Fin 4) : ℕ) = 3 := rfl; omega)
    have h0 : k0_off2 (grid0.coords t) 3#32 (0 : Fin 2) = (n.val * 4 + 3) * 256 ∧ k0_off2 (grid0.coords t) 3#32 (1 : Fin 2) = 0 := ho 3
    rw [hi]
    refine (pay1_at n _ _ _ _ _ _).trans (core _ _ _ n 3 h _ _ _ _ _ _ (fun e => ?_) (fun j e => ?_) (fun j => ?_) (fun j => ?_))
    · pointwise
      exact q_blk m c t n h hn hh _ e _ (by show n.val * 1024 + 3 * 256 + r.val = n.val * 1024 + (768 + r.val); omega)
    · pointwise
      refine Eq.trans (b := (outsAt0 m c t.val t.isLt).2.1 (ix2 ⟨k0_off2 (grid0.coords t) 3#32 (0 : Fin 2) + j.val, by rw [h0.1]; omega⟩
        ⟨k0_off2 (grid0.coords t) 3#32 (1 : Fin 2) + e.val, by rw [h0.2]; omega⟩)) ?_ ((scrA0 m c t h hh ht _ _).trans (padcol_congr _ ?_ ?_))
      · rw [outsAt0_A m c t ht]; frame_out
      · show h.val * 128 + (k0_off2 (grid0.coords t) 3#32 (1 : Fin 2) + e.val) = h.val * 128 + e.val
        rw [h0.2]; omega
      · show (k0_off2 (grid0.coords t) 3#32 (0 : Fin 2) + j.val) = (n.val * 4 + 3) * 256 + j.val
        rw [h0.1]
    · pointwise
      refine Eq.trans (b := (outsAt0 m c t.val t.isLt).2.2 (ix2 ⟨k0_off2 (grid0.coords t) 3#32 (0 : Fin 2) + j.val, by rw [h0.1]; omega⟩
        ⟨k0_off2 (grid0.coords t) 3#32 (1 : Fin 2) + d.val, by rw [h0.2]; omega⟩)) ?_ ((scrA1 m c t h hh ht _ _).trans (padcol_congr _ ?_ ?_))
      · rw [outsAt0_A m c t ht]; frame_out
      · show 4096 + h.val * 128 + (k0_off2 (grid0.coords t) 3#32 (1 : Fin 2) + d.val) = 4096 + h.val * 128 + d.val
        rw [h0.2]; omega
      · show (k0_off2 (grid0.coords t) 3#32 (0 : Fin 2) + j.val) = (n.val * 4 + 3) * 256 + j.val
        rw [h0.1]
    · exact bias_blk m c t h hh _ _
  · obtain rfl : g = 2 := Fin.ext (by show g.val = 2; omega)
    obtain rfl : r = x0 := Fin.ext (by have : ((2 : Fin 4) : ℕ) = 2 := rfl; omega)
    have h0 : k0_off2 (grid0.coords t) 2#32 (0 : Fin 2) = (n.val * 4 + 2) * 256 ∧ k0_off2 (grid0.coords t) 2#32 (1 : Fin 2) = 0 := ho 2
    rw [hi]
    refine (pay10_at n _ _ _ _ _ _).trans (core _ _ _ n 2 h _ _ _ _ _ _ (fun e => ?_) (fun j e => ?_) (fun j => ?_) (fun j => ?_))
    · pointwise
      exact q_blk m c t n h hn hh _ e _ (by show n.val * 1024 + 2 * 256 + r.val = n.val * 1024 + (512 + r.val); omega)
    · pointwise
      refine Eq.trans (b := (outsAt0 m c t.val t.isLt).2.1 (ix2 ⟨k0_off2 (grid0.coords t) 2#32 (0 : Fin 2) + j.val, by rw [h0.1]; omega⟩
        ⟨k0_off2 (grid0.coords t) 2#32 (1 : Fin 2) + e.val, by rw [h0.2]; omega⟩)) ?_ ((scrA0 m c t h hh ht _ _).trans (padcol_congr _ ?_ ?_))
      · rw [outsAt0_A m c t ht]; frame_out
      · show h.val * 128 + (k0_off2 (grid0.coords t) 2#32 (1 : Fin 2) + e.val) = h.val * 128 + e.val
        rw [h0.2]; omega
      · show (k0_off2 (grid0.coords t) 2#32 (0 : Fin 2) + j.val) = (n.val * 4 + 2) * 256 + j.val
        rw [h0.1]
    · pointwise
      refine Eq.trans (b := (outsAt0 m c t.val t.isLt).2.2 (ix2 ⟨k0_off2 (grid0.coords t) 2#32 (0 : Fin 2) + j.val, by rw [h0.1]; omega⟩
        ⟨k0_off2 (grid0.coords t) 2#32 (1 : Fin 2) + d.val, by rw [h0.2]; omega⟩)) ?_ ((scrA1 m c t h hh ht _ _).trans (padcol_congr _ ?_ ?_))
      · rw [outsAt0_A m c t ht]; frame_out
      · show 4096 + h.val * 128 + (k0_off2 (grid0.coords t) 2#32 (1 : Fin 2) + d.val) = 4096 + h.val * 128 + d.val
        rw [h0.2]; omega
      · show (k0_off2 (grid0.coords t) 2#32 (0 : Fin 2) + j.val) = (n.val * 4 + 2) * 256 + j.val
        rw [h0.1]
    · exact bias_blk m c t h hh _ _
  · obtain rfl : g = 1 := Fin.ext (by show g.val = 1; omega)
    obtain rfl : r = x0 := Fin.ext (by have : ((1 : Fin 4) : ℕ) = 1 := rfl; omega)
    have h0 : k0_off2 (grid0.coords t) 1#32 (0 : Fin 2) = (n.val * 4 + 1) * 256 ∧ k0_off2 (grid0.coords t) 1#32 (1 : Fin 2) = 0 := ho 1
    rw [hi]
    refine (pay9_at n _ _ _ _ _ _).trans (core _ _ _ n 1 h _ _ _ _ _ _ (fun e => ?_) (fun j e => ?_) (fun j => ?_) (fun j => ?_))
    · pointwise
      exact q_blk m c t n h hn hh _ e _ (by show n.val * 1024 + 1 * 256 + r.val = n.val * 1024 + (256 + r.val); omega)
    · pointwise
      refine Eq.trans (b := (outsAt0 m c t.val t.isLt).2.1 (ix2 ⟨k0_off2 (grid0.coords t) 1#32 (0 : Fin 2) + j.val, by rw [h0.1]; omega⟩
        ⟨k0_off2 (grid0.coords t) 1#32 (1 : Fin 2) + e.val, by rw [h0.2]; omega⟩)) ?_ ((scrA0 m c t h hh ht _ _).trans (padcol_congr _ ?_ ?_))
      · rw [outsAt0_A m c t ht]; frame_out
      · show h.val * 128 + (k0_off2 (grid0.coords t) 1#32 (1 : Fin 2) + e.val) = h.val * 128 + e.val
        rw [h0.2]; omega
      · show (k0_off2 (grid0.coords t) 1#32 (0 : Fin 2) + j.val) = (n.val * 4 + 1) * 256 + j.val
        rw [h0.1]
    · pointwise
      refine Eq.trans (b := (outsAt0 m c t.val t.isLt).2.2 (ix2 ⟨k0_off2 (grid0.coords t) 1#32 (0 : Fin 2) + j.val, by rw [h0.1]; omega⟩
        ⟨k0_off2 (grid0.coords t) 1#32 (1 : Fin 2) + d.val, by rw [h0.2]; omega⟩)) ?_ ((scrA1 m c t h hh ht _ _).trans (padcol_congr _ ?_ ?_))
      · rw [outsAt0_A m c t ht]; frame_out
      · show 4096 + h.val * 128 + (k0_off2 (grid0.coords t) 1#32 (1 : Fin 2) + d.val) = 4096 + h.val * 128 + d.val
        rw [h0.2]; omega
      · show (k0_off2 (grid0.coords t) 1#32 (0 : Fin 2) + j.val) = (n.val * 4 + 1) * 256 + j.val
        rw [h0.1]
    · exact bias_blk m c t h hh _ _
  · obtain rfl : g = 0 := Fin.ext (by show g.val = 0; omega)
    obtain rfl : r = x0 := Fin.ext (by have : ((0 : Fin 4) : ℕ) = 0 := rfl; omega)
    have h0 : k0_off2 (grid0.coords t) 0#32 (0 : Fin 2) = (n.val * 4 + 0) * 256 ∧ k0_off2 (grid0.coords t) 0#32 (1 : Fin 2) = 0 := ho 0
    refine (pay8_at n _ _ _ _ _ _ hi _).trans (core _ _ _ n 0 h _ _ _ _ _ _ (fun e => ?_) (fun j e => ?_) (fun j => ?_) (fun j => ?_))
    · pointwise
      exact q_blk m c t n h hn hh _ e _ rfl
    · pointwise
      refine Eq.trans (b := (outsAt0 m c t.val t.isLt).2.1 (ix2 ⟨k0_off2 (grid0.coords t) 0#32 (0 : Fin 2) + j.val, by rw [h0.1]; omega⟩
        ⟨k0_off2 (grid0.coords t) 0#32 (1 : Fin 2) + e.val, by rw [h0.2]; omega⟩)) ?_ ((scrA0 m c t h hh ht _ _).trans (padcol_congr _ ?_ ?_))
      · rw [outsAt0_A m c t ht]; frame_out
      · show h.val * 128 + (k0_off2 (grid0.coords t) 0#32 (1 : Fin 2) + e.val) = h.val * 128 + e.val
        rw [h0.2]; omega
      · show (k0_off2 (grid0.coords t) 0#32 (0 : Fin 2) + j.val) = (n.val * 4 + 0) * 256 + j.val
        rw [h0.1]
    · pointwise
      refine Eq.trans (b := (outsAt0 m c t.val t.isLt).2.2 (ix2 ⟨k0_off2 (grid0.coords t) 0#32 (0 : Fin 2) + j.val, by rw [h0.1]; omega⟩
        ⟨k0_off2 (grid0.coords t) 0#32 (1 : Fin 2) + d.val, by rw [h0.2]; omega⟩)) ?_ ((scrA1 m c t h hh ht _ _).trans (padcol_congr _ ?_ ?_))
      · rw [outsAt0_A m c t ht]; frame_out
      · show 4096 + h.val * 128 + (k0_off2 (grid0.coords t) 0#32 (1 : Fin 2) + d.val) = 4096 + h.val * 128 + d.val
        rw [h0.2]; omega
      · show (k0_off2 (grid0.coords t) 0#32 (0 : Fin 2) + j.val) = (n.val * 4 + 0) * 256 + j.val
        rw [h0.1]
    · exact bias_blk m c t h hh _ _

end Cert.Band
end
-- ==== Proof.Final.lean ====
module

public import proofs.«01_k».proof.Proof.Gen.KernelIdeal.Value
public import Idealize.ShloMosaic.Lib.Pipeline.ValueKit
public import Idealize.ShloMosaic.Lib.Pointwise
public import Idealize.ShloMosaic.Lib.Tactic
public import Idealize.ShloMosaic.Lib.Claim
public import proofs.«01_k».proof.Proof.Out

@[expose] public section

set_option maxRecDepth 16384

noncomputable section

namespace Cert.Band

open Idealize.ShloMosaic Idealize.ShloMosaic.TcCoe Idealize.SL.Sem
open Cert.KernelIdeal Cert.KernelIdeal.Gen Cert.Softmax

variable (m : (ℓ : Loc nD τ sig) → Buf (Elt Ideal) ℓ) (c : Dev nD)

/-- The whole result, element by element, on the prompt rows. -/
def kout (Q : S8704x4096.Idx → EReal) (KV : S8704x8192.Idx → EReal) (T : S32x513.Idx → EReal) (i : S8704x4096.Idx) : EReal :=
  krow Q KV T ⟨(i 0).val / 1024 % 8, by omega⟩ ⟨(i 0).val % 1024 / 256, by omega⟩
    ⟨(i 1).val / 128, by have := (i 1).isLt; change _ < 4096 at this; omega⟩ ⟨(i 0).val % 256, by omega⟩ ⟨(i 1).val % 128, by omega⟩

theorem kout_eq (Q : S8704x4096.Idx → EReal) (KV : S8704x8192.Idx → EReal) (T : S32x513.Idx → EReal) (i : S8704x4096.Idx)
    (n : Fin 8) (g : Fin 4) (h : Fin 32) (r : Fin 256) (d : Fin 128)
    (h0 : (i 0 : ℕ) = n.val * 1024 + g.val * 256 + r.val) (h1 : (i 1 : ℕ) = h.val * 128 + d.val) :
    krow Q KV T n g h r d = kout Q KV T i := by
  unfold kout
  congr 1 <;> exact Fin.ext (by dsimp only; omega)

/-- The output block of every point. -/
theorem out_pt (n : Fin 8) (h : Fin 32) (t : Fin cfg0.N) (hn : n.val = t.val % 8) (hh : h.val = t.val / 8)
    (g : Fin 4) (r : Fin 256) (d : Fin 128) :
    (outsAt0 m c t.val t.isLt).1 (ix2 ⟨g.val * 256 + r.val, by omega⟩ d)
      = krow (m ((c.tc : Thread nD τ).loc main_arg0)) (m ((c.tc : Thread nD τ).loc main_arg1)) (m ((c.tc : Thread nD τ).loc main_arg2)) n g h r d := by
  by_cases ht : t.val % 8 = 0
  · exact outA m c n h t ht hn hh g r d
  · exact outB m c n h t ht hn hh g r d

theorem final : (dats m 0 c).arrAt 4 cfg0.N
    = fun i => if (i 0 : ℕ) < 8192 then kout (m ((c.tc : Thread nD τ).loc main_arg0)) (m ((c.tc : Thread nD τ).loc main_arg1))
        (m ((c.tc : Thread nD τ).loc main_arg2)) i else V m c main_v42 i := by
  refine (dats m 0 c).arrAt_eq_of_coversWhere 4 _ (fun β => β 0 < 8) (by decide +kernel) (fun t hf y => ?_)
    (fun j => by blk_simp [Pipeline.Window.cell_apply]; omega)
  blk_simp
  rw [after0_4]
  have h1 : t.val < 256 := t.isLt
  have e := out_pt m c ⟨t.val % 8, by omega⟩ ⟨t.val / 8, by omega⟩ t rfl rfl
  have l0 := (y 0).isLt
  have l1 := (y 1).isLt
  have e0 : ((win0_4.blk t).view.emb y 0 : ℕ) = t.val % 8 * 1024 + (y 0).val := by
    blk_simp [idx4 t]
  have e1 : ((win0_4.blk t).view.emb y 1 : ℕ) = t.val / 8 * 128 + (y 1).val := by
    blk_simp [idx4 t]
  have b0 : (y 0).val < 1024 := ((cfg0.win 4).xinj (grid0.coords t) y 0).isLt
  have b1 : (y 1).val < 128 := ((cfg0.win 4).xinj (grid0.coords t) y 1).isLt
  have eY : (cfg0.win 4).xinj (grid0.coords t) y
      = ix2 ⟨(y 0).val / 256 * 256 + (y 0).val % 256, by omega⟩ ⟨(y 1).val, b1⟩ := by
    funext a
    match a with
    | ⟨0, _⟩ => exact Fin.ext (by show (y 0).val = (y 0).val / 256 * 256 + (y 0).val % 256; omega)
    | ⟨1, _⟩ => rfl
  have ee := e ⟨(y 0).val / 256, by omega⟩ ⟨(y 0).val % 256, by omega⟩ ⟨(y 1).val, b1⟩
  exact (congrArg (outsAt0 m c t.val t.isLt).1 eY).trans (ee.trans (kout_eq _ _ _ _ _ _ _ _ _
    (e0.trans (by show t.val % 8 * 1024 + (y 0).val = t.val % 8 * 1024 + (y 0).val / 256 * 256 + (y 0).val % 256; omega)) e1))

end Cert.Band
end
-- ==== Proof.Ref.lean ====
module

public import proofs.«01_k».proof.Proof.Gen.ReferenceIdeal.Run
public import Idealize.ShloMosaic.Lib.Pointwise
public import Idealize.ShloMosaic.Lib.Tactic
public import Idealize.ShloMosaic.Lib.Claim
public import proofs.«01_k».proof.Proof.Group
public import proofs.«01_k».proof.Proof.Bias

@[expose] public section

set_option maxRecDepth 16384

noncomputable section

namespace Cert.Ref

open Idealize.ShloMosaic Idealize.ShloMosaic.TcCoe Idealize.SL.Sem
open Cert.ReferenceIdeal Cert.ReferenceIdeal.Gen Cert.ReferenceIdeal.Value Cert.Softmax Cert.Band

variable (m : (ℓ : Loc nD τ sig) → Buf (Elt Ideal) ℓ) (c : Dev nD)
/-- A window of the padded keys or values read at a table of starts: only the row moves. -/
theorem gkv {α : Type} (x : S1x8704x32x128.Idx → α) (idx : IVec S128x4 32) (b : Fin 128) (z : Fin 1) (w : Fin 576) (h : Fin 32) (d : Fin 128) :
    Host.gather gather_S1x8704x32x128_S128x4_S128x1x576x32x128_1234_n_n_n_0123_1_157632128 x idx (ix5 b z w h d)
      = x (ix4 0 ⟨min (idx (ix2 b 1)).toInt.toNat 8128 + w.val, by omega⟩ h d) := by
  unfold Host.gather
  refine congrArg x (funext fun a => Fin.ext ?_)
  have e : ∀ k : Fin 4, gather_S1x8704x32x128_S128x4_S128x1x576x32x128_1234_n_n_n_0123_1_157632128.siIdx (ix5 b z w h d) k = ix2 b k := by
    intro k
    funext a
    match a with
    | ⟨0, _⟩ => rfl
    | ⟨1, _⟩ => rfl
  match a with
  | ⟨0, _⟩ =>
    have := z.isLt
    show min (idx (gather_S1x8704x32x128_S128x4_S128x1x576x32x128_1234_n_n_n_0123_1_157632128.siIdx (ix5 b z w h d) ⟨0, by decide⟩)).toInt.toNat 0 + 0 + z.val = 0
    omega
  | ⟨1, _⟩ =>
    show min (idx (gather_S1x8704x32x128_S128x4_S128x1x576x32x128_1234_n_n_n_0123_1_157632128.siIdx (ix5 b z w h d) ⟨1, by decide⟩)).toInt.toNat 8128 + 0 + w.val = _
    exact congrArg (fun z => min (idx z).toInt.toNat 8128 + w.val) (e ⟨1, by decide⟩)
  | ⟨2, _⟩ =>
    show min (idx (gather_S1x8704x32x128_S128x4_S128x1x576x32x128_1234_n_n_n_0123_1_157632128.siIdx (ix5 b z w h d) ⟨2, by decide⟩)).toInt.toNat 0 + 0 + h.val = h.val
    omega
  | ⟨3, _⟩ =>
    show min (idx (gather_S1x8704x32x128_S128x4_S128x1x576x32x128_1234_n_n_n_0123_1_157632128.siIdx (ix5 b z w h d) ⟨3, by decide⟩)).toInt.toNat 0 + 0 + d.val = d.val
    omega

/-- The bias table read at a table of columns. -/
theorem gtab {α : Type} (x : S32x513.Idx → α) (idx : IVec S64x576x1 32) (h : Fin 32) (i : Fin 64) (j : Fin 576) :
    Host.gather gather_S32x513_S64x576x1_S32x64x576_0_1_n_n_1_2_321 x idx (ix3 h i j)
      = x (ix2 h ⟨min (idx (ix3 i j 0)).toInt.toNat 512, by omega⟩) := by
  unfold Host.gather
  refine congrArg x (funext fun a => Fin.ext ?_)
  match a with
  | ⟨0, _⟩ => simp [GatherDims.operandIdx, GatherDims.start, GatherDims.batchCoord, GatherDims.offCoord, gather_S32x513_S64x576x1_S32x64x576_0_1_n_n_1_2_321, ix2]; rfl
  | ⟨1, _⟩ =>
    have e : gather_S32x513_S64x576x1_S32x64x576_0_1_n_n_1_2_321.siIdx (ix3 h i j) ⟨0, Nat.zero_lt_one⟩ = ix3 i j 0 := by
      funext b
      match b with
      | ⟨0, _⟩ => rfl
      | ⟨1, _⟩ => rfl
      | ⟨2, _⟩ => rfl
    show min (idx (gather_S32x513_S64x576x1_S32x64x576_0_1_n_n_1_2_321.siIdx (ix3 h i j) ⟨0, Nat.zero_lt_one⟩)).toInt.toNat 512 = _
    rw [e]; rfl

theorem mask_cond : ∀ k : Fin 8768, IntOp.cmpi (w := 32) CmpIPredicate.sge (BitVec.ofNat 32 k.val - 512#32) 0#32 = BitVec.ofBool (decide (512 ≤ k.val)) := by
  decide +kernel

theorem start_word : ∀ b : Fin 128, min (BitVec.toInt (Scalar.select
    (IntOp.cmpi CmpIPredicate.slt (IntOp.muli (BitVec.ofNat 32 b.val) 64#32) 0#32)
    (IntOp.addi (IntOp.muli (BitVec.ofNat 32 b.val) 64#32) 8704#32) (IntOp.muli (BitVec.ofNat 32 b.val) 64#32))).toNat 8128 = b.val * 64 := by decide +kernel

theorem lay_at (o : FVec Ideal S128x1x32x128x64 .f32) (R : Fin 8704) (hR : R.val < 8192) (C : Fin 4096) :
    (pad S8704x4096 ![0, 0] ![512, 0] ![0, 0] (truncf .bf16 (shapeCast _ (transpose S1x128x64x32x128 [1, 0, 2, 3, 4] (transpose S128x1x64x32x128 [0, 1, 4,
      2, 3] o transposes_S128x1x32x128x64_S128x1x64x32x128_0_1_4_2_3) transposes_S128x1x64x32x128_S1x128x64x32x128_1_0_2_3_4)
      shapeCasts_S1x128x64x32x128_S8192x4096) bitsLt_bf16_f32) (sitofp .bf16 (constantI S_ 32 0#32)) pads_S8192x4096_S8704x4096_05120_000 h_S_ : FVec Ideal S8704x4096 .bf16) (ix2 R C)
      = o (ix5 ⟨R.val / 64, by omega⟩ 0 ⟨C.val / 128, by omega⟩ ⟨C.val % 128, by omega⟩ ⟨R.val % 64, by omega⟩) := by
  pointwise
  rw [dif_pos hR]

theorem dot_at (p : FVec Ideal S128x1x32x64x576 .f32) (v : FVec Ideal S128x1x576x32x128 .f32) (b : Fin 128) (h : Fin 32) (i : Fin 64) (d : Fin 128) :
    ((Host.dotGeneral dot_S128x1x576x32x128_S128x1x32x64x576_S128x1x32x128x64_2_4_4_3_013_012 none v p) : FVec Ideal S128x1x32x128x64 .f32) (ix5 b 0 h d i)
      = ∑ j : Fin 576, (show EReal from v (ix5 b 0 j h d)) * (show EReal from p (ix5 b 0 h i j)) := by
  pointwise

theorem div_at (x : FVec Ideal S128x1x32x64x576 .f32) (b : Fin 128) (h : Fin 32) (i : Fin 64) (j : Fin 576) :
    ((Host.divf x (broadcastInDim S128x1x32x64x576 ![0, 1, 2, 3, 4] bcast_S128x1x32x64x1_S128x1x32x64x576_0_1_2_3_4 (broadcastInDim S128x1x32x64x1 ![0, 1,
      2, 3] bcast_S128x1x32x64_S128x1x32x64x1_0_1_2_3 (Host.reduceAdd x (constant S_ .f32 0x00000000#32) reducesTo_S128x1x32x64x576_S128x1x32x64_d4 h_S_)))) : FVec Ideal S128x1x32x64x576 .f32) (ix5 b 0 h i j)
      = Ideal.div (x (ix5 b 0 h i j)) (∑ k : Fin 576, x (ix5 b 0 h i k)) := by
  pointwise

theorem red_at (s : FVec Ideal S128x1x32x64x576 .f32) (b : Fin 128) (h : Fin 32) (i : Fin 64) :
    ((Host.reduce FloatOps.maximumf s (constant S_ .f32 0xFF800000#32) reducesTo_S128x1x32x64x576_S128x1x32x64_d4 h_S_) : FVec Ideal S128x1x32x64 .f32) (ix4 b 0 h i) = top fun k : Fin 576 => s (ix5 b 0 h i k) := by
  rw [Host.reduce_eq_fold, Shape.ReducesTo.fold_fiber_r5_a4]
  exact congrArg₂ (fun (z : EReal) (f : Fin 576 → EReal) => Finset.univ.fold max z f) ninf rfl

theorem bcm_at (r : FVec Ideal S128x1x32x64 .f32) (b : Fin 128) (h : Fin 32) (i : Fin 64) (j : Fin 576) :
    ((broadcastInDim S128x1x32x64x576 ![0, 1, 2, 3, 4] bcast_S128x1x32x64x1_S128x1x32x64x576_0_1_2_3_4 (broadcastInDim S128x1x32x64x1 ![0, 1, 2, 3]
      bcast_S128x1x32x64_S128x1x32x64x1_0_1_2_3 (maximumf (broadcastInDim S128x1x32x64 ![] bcast_S_S128x1x32x64 (constant S_ .f32 0xFF800000#32)) r))) : FVec Ideal S128x1x32x64x576 .f32) (ix5 b 0 h i j) = r (ix4 b 0 h i) := by
  pointwise
  rw [ninf]
  exact max_bot_left _

theorem max_at (s : FVec Ideal S128x1x32x64x576 .f32) (b : Fin 128) (h : Fin 32) (i : Fin 64) (j : Fin 576) (y : EReal)
    (hy : y = top fun k : Fin 576 => s (ix5 b 0 h i k)) :
    ((broadcastInDim S128x1x32x64x576 ![0, 1, 2, 3, 4] bcast_S128x1x32x64x1_S128x1x32x64x576_0_1_2_3_4 (broadcastInDim S128x1x32x64x1 ![0, 1, 2, 3]
      bcast_S128x1x32x64_S128x1x32x64x1_0_1_2_3 (maximumf (broadcastInDim S128x1x32x64 ![] bcast_S_S128x1x32x64 (constant S_ .f32 0xFF800000#32))
      (Host.reduce FloatOps.maximumf s (constant S_ .f32 0xFF800000#32) reducesTo_S128x1x32x64x576_S128x1x32x64_d4 h_S_)))) : FVec Ideal S128x1x32x64x576 .f32) (ix5 b 0 h i j) = y :=
  (bcm_at _ b h i j).trans ((red_at s b h i).trans hy.symm)

/-- Everything after the scores: the softmax of a row's scores applied to the window's values. -/
theorem tail_at (s : FVec Ideal S128x1x32x64x576 .f32) (v : FVec Ideal S128x1x576x32x128 .f32) (R : Fin 8704) (hR : R.val < 8192) (C : Fin 4096) :
    (pad S8704x4096 ![0, 0] ![512, 0] ![0, 0] (truncf .bf16 (shapeCast _ (transpose S1x128x64x32x128 [1, 0, 2, 3, 4] (transpose S128x1x64x32x128 [0, 1, 4,
      2, 3] (Host.dotGeneral dot_S128x1x576x32x128_S128x1x32x64x576_S128x1x32x128x64_2_4_4_3_013_012 none v (Host.divf (Host.exp (subf s (broadcastInDim
      S128x1x32x64x576 ![0, 1, 2, 3, 4] bcast_S128x1x32x64x1_S128x1x32x64x576_0_1_2_3_4 (broadcastInDim S128x1x32x64x1 ![0, 1, 2, 3]
      bcast_S128x1x32x64_S128x1x32x64x1_0_1_2_3 (maximumf (broadcastInDim S128x1x32x64 ![] bcast_S_S128x1x32x64 (constant S_ .f32 0xFF800000#32))
      (Host.reduce FloatOps.maximumf s (constant S_ .f32 0xFF800000#32) reducesTo_S128x1x32x64x576_S128x1x32x64_d4 h_S_)))))) (broadcastInDim
      S128x1x32x64x576 ![0, 1, 2, 3, 4] bcast_S128x1x32x64x1_S128x1x32x64x576_0_1_2_3_4 (broadcastInDim S128x1x32x64x1 ![0, 1, 2, 3]
      bcast_S128x1x32x64_S128x1x32x64x1_0_1_2_3 (Host.reduceAdd (Host.exp (subf s (broadcastInDim S128x1x32x64x576 ![0, 1, 2, 3, 4]
      bcast_S128x1x32x64x1_S128x1x32x64x576_0_1_2_3_4 (broadcastInDim S128x1x32x64x1 ![0, 1, 2, 3] bcast_S128x1x32x64_S128x1x32x64x1_0_1_2_3 (maximumf
      (broadcastInDim S128x1x32x64 ![] bcast_S_S128x1x32x64 (constant S_ .f32 0xFF800000#32)) (Host.reduce FloatOps.maximumf s (constant S_ .f32
      0xFF800000#32) reducesTo_S128x1x32x64x576_S128x1x32x64_d4 h_S_)))))) (constant S_ .f32 0x00000000#32) reducesTo_S128x1x32x64x576_S128x1x32x64_d4
      h_S_))))) transposes_S128x1x32x128x64_S128x1x64x32x128_0_1_4_2_3) transposes_S128x1x64x32x128_S1x128x64x32x128_1_0_2_3_4)
      shapeCasts_S1x128x64x32x128_S8192x4096) bitsLt_bf16_f32) (sitofp .bf16 (constantI S_ 32 0#32)) pads_S8192x4096_S8704x4096_05120_000 h_S_ : FVec Ideal S8704x4096 .bf16) (ix2 R C)
      = mix (fun j : Fin 576 => s (ix5 ⟨R.val / 64, by omega⟩ 0 ⟨C.val / 128, by omega⟩ ⟨R.val % 64, by omega⟩ j))
        (fun j => v (ix5 ⟨R.val / 64, by omega⟩ 0 j ⟨C.val / 128, by omega⟩ ⟨C.val % 128, by omega⟩)) := by
  refine (lay_at _ R hR C).trans ((dot_at _ _ _ _ _ _).trans (Finset.sum_congr rfl fun j _ => ?_))
  refine (congrArg (fun z : EReal => (v (ix5 ⟨R.val / 64, by omega⟩ 0 j ⟨C.val / 128, by omega⟩ ⟨C.val % 128, by omega⟩) : EReal) * z)
    (div_at _ _ _ _ _)).trans ((mul_comm _ _).trans ?_)
  have hx : ∀ k : Fin 576, _ = _ := fun k =>
    congrArg (fun z : EReal => Ideal.exp ((s (ix5 ⟨R.val / 64, by omega⟩ 0 ⟨C.val / 128, by omega⟩ ⟨R.val % 64, by omega⟩ k) : EReal) - z))
      (max_at s ⟨R.val / 64, by omega⟩ ⟨C.val / 128, by omega⟩ ⟨R.val % 64, by omega⟩ k _ rfl)
  exact congrArg (fun z : EReal => z * (v (ix5 ⟨R.val / 64, by omega⟩ 0 j ⟨C.val / 128, by omega⟩ ⟨C.val % 128, by omega⟩) : EReal))
    (congrArg₂ Ideal.div (hx j) (Finset.sum_congr rfl fun k _ => hx k))

theorem score_at (qa : FVec Ideal S128x1x64x32x128 .f32) (ka : FVec Ideal S128x1x576x32x128 .f32) (ba : FVec Ideal S32x64x576 .f32)
    (b : Fin 128) (h : Fin 32) (i : Fin 64) (j : Fin 576) :
    ((select (broadcastInDim S128x1x32x64x576 ![0, 4] bcast_S128x576_S128x1x32x64x576_0_4 (cmpi .sge (addi (broadcastInDim S128x576 ![0, 1]
      bcast_S128x1_S128x576_0_1 (broadcastInDim S128x1 ![0] bcast_S128_S128x1_0 (muli (subi (iotaInDim S128 32 0) (broadcastInDim S128 ![] bcast_S_S128
      (constantI S_ 32 8#32))) (broadcastInDim S128 ![] bcast_S_S128 (constantI S_ 32 64#32))))) (broadcastInDim S128x576 ![0, 1] bcast_S1x576_S128x576_0_1
      (broadcastInDim S1x576 ![1] bcast_S576_S1x576_1 (iotaInDim S576 32 0)))) (broadcastInDim S128x576 ![] bcast_S_S128x576 (constantI S_ 32 0#32)))) (addf
      (mulf (Host.dotGeneral dot_S128x1x64x32x128_S128x1x576x32x128_S128x1x32x64x576_4_4_2_2_013_013 none qa ka) (broadcastInDim S128x1x32x64x576 ![]
      bcast_S_S128x1x32x64x576 (constant S_ .f32 0x3DB504F3#32))) (broadcastInDim S128x1x32x64x576 ![0, 1, 2, 3, 4]
      bcast_S1x1x32x64x576_S128x1x32x64x576_0_1_2_3_4 (broadcastInDim S1x1x32x64x576 ![1, 2, 3, 4] bcast_S1x32x64x576_S1x1x32x64x576_1_2_3_4 (broadcastInDim
      S1x32x64x576 ![1, 2, 3] bcast_S32x64x576_S1x32x64x576_1_2_3 ba)))) (broadcastInDim S128x1x32x64x576 ![1, 2, 3, 4]
      bcast_S1x32x64x576_S128x1x32x64x576_1_2_3_4 (broadcastInDim S1x32x64x576 ![] bcast_S_S1x32x64x576 (id (constant S_ .f32 0xFF800000#32))))) : FVec Ideal S128x1x32x64x576 .f32) (ix5 b 0 h i j)
      = if 512 ≤ b.val * 64 + j.val then (∑ e : Fin 128, (show EReal from qa (ix5 b 0 i h e)) * (show EReal from ka (ix5 b 0 j h e))) * scl + (show EReal from ba (ix3 h i j)) else ⊥ := by
  pointwise
  have e : IntOp.addi (IntOp.muli (IntOp.subi (BitVec.ofNat 32 b.val) 8#32) 64#32) (BitVec.ofNat 32 j.val)
      = BitVec.ofNat 32 (b.val * 64 + j.val) - 512#32 := by
    apply BitVec.eq_of_toNat_eq
    simp [IntOp.addi, IntOp.muli, IntOp.subi]
    omega
  rw [e, mask_cond ⟨b.val * 64 + j.val, by omega⟩, sel_ofBool]
  have hn : id (constant (F := Ideal) S_ FTy.f32 4286578688#32) ix0 = (⊥ : EReal) := ninf
  rw [hn]
  rfl

theorem q_at (b : Fin 128) (h : Fin 32) (i : Fin 64) (e : Fin 128) :
    ((transpose S128x1x64x32x128 [1, 0, 2, 3, 4] (shapeCast _ (extf .f32 (shapeCast _ (extractStridedSlice S8192x4096 ![0, 0] (m ((c.tc : Thread nD τ).loc
      main_arg0)) slices_S8704x4096_S8192x4096_0_0) shapeCasts_S8192x4096_S1x8192x32x128) bitsLt_bf16_f32) shapeCasts_S1x8192x32x128_S1x128x64x32x128)
      transposes_S1x128x64x32x128_S128x1x64x32x128_1_0_2_3_4) : FVec Ideal S128x1x64x32x128 .f32) (ix5 b 0 i h e)
      = m ((c.tc : Thread nD τ).loc main_arg0) (ix2 ⟨b.val * 64 + i.val, by omega⟩ ⟨h.val * 128 + e.val, by omega⟩) := by
  pointwise

theorem pad_at (x : FVec Ideal S8192x4096 .f32) (h : Fin 32) (e : Fin 128) (q : ℕ) (hq : q < 8704) (p : Fin 8704) (hp : p.val = q) :
    ((pad S1x8704x32x128 ![0, 512, 0, 0] ![0, 0, 0, 0] ![0, 0, 0, 0] (shapeCast _ x shapeCasts_S8192x4096_S1x8192x32x128) (sitofp .f32 (constantI S_ 32
      0#32)) pads_S1x8192x32x128_S1x8704x32x128_000_51200_000_000 h_S_) : FVec Ideal S1x8704x32x128 .f32) (ix4 0 p h e)
      = if hp : 512 ≤ q then x (ix2 ⟨q - 512, by omega⟩ ⟨h.val * 128 + e.val, by omega⟩) else (0 : EReal) := by
  subst hp
  pointwise
  by_cases hp : 512 ≤ p.val
  · rw [dif_pos ⟨hp, by omega⟩, dif_pos hp]
  · rw [dif_neg (fun h => hp h.1), dif_neg hp]
    show (((0#32 : BitVec 32).toInt : ℝ) : EReal) = 0
    simp

theorem idx_at (b : Fin 128) : min (BitVec.toInt ((((concatenate S128x4 1 [⟨S128x1, ((broadcastInDim S128x1 ![] bcast_S_S128x1 (constantI S_ 32 0#32)) : (⟨S128x1, .i32⟩ : BufTy).Contents (Elt Ideal))⟩,
      ⟨S128x1, ((broadcastInDim S128x1 ![0] bcast_S128_S128x1_0 (select (cmpi .slt (muli (iotaInDim S128 32 0) (broadcastInDim S128 ![] bcast_S_S128
      (constantI S_ 32 64#32))) (broadcastInDim S128 ![] bcast_S_S128 (constantI S_ 32 0#32))) (addi (muli (iotaInDim S128 32 0) (broadcastInDim S128 ![]
      bcast_S_S128 (constantI S_ 32 64#32))) (broadcastInDim S128 ![] bcast_S_S128 (constantI S_ 32 8704#32))) (muli (iotaInDim S128 32 0) (broadcastInDim
      S128 ![] bcast_S_S128 (constantI S_ 32 64#32))))) : (⟨S128x1, .i32⟩ : BufTy).Contents (Elt Ideal))⟩, ⟨S128x1, ((broadcastInDim S128x1 ![]
      bcast_S_S128x1 (constantI S_ 32 0#32)) : (⟨S128x1, .i32⟩ : BufTy).Contents (Elt Ideal))⟩, ⟨S128x1, ((broadcastInDim S128x1 ![] bcast_S_S128x1
      (constantI S_ 32 0#32)) : (⟨S128x1, .i32⟩ : BufTy).Contents (Elt Ideal))⟩] concatenates_S128x1_S128x1_S128x1_S128x1_S128x4_d1 : (⟨S128x4, .i32⟩ :
      BufTy).Contents (Elt Ideal))) : IVec S128x4 32) (ix2 b 1))).toNat 8128 = b.val * 64 := by
  refine Eq.trans ?_ (start_word b)
  pointwise

theorem kv_at (x : FVec Ideal S8192x4096 .f32) (b : Fin 128) (h : Fin 32) (j : Fin 576) (e : Fin 128) :
    ((Host.gather gather_S1x8704x32x128_S128x4_S128x1x576x32x128_1234_n_n_n_0123_1_157632128 (pad S1x8704x32x128 ![0, 512, 0, 0] ![0, 0, 0, 0] ![0, 0, 0,
      0] (shapeCast _ x shapeCasts_S8192x4096_S1x8192x32x128) (sitofp .f32 (constantI S_ 32 0#32)) pads_S1x8192x32x128_S1x8704x32x128_000_51200_000_000
      h_S_) ((concatenate S128x4 1 [⟨S128x1, ((broadcastInDim S128x1 ![] bcast_S_S128x1 (constantI S_ 32 0#32)) : (⟨S128x1, .i32⟩ : BufTy).Contents (Elt
      Ideal))⟩, ⟨S128x1, ((broadcastInDim S128x1 ![0] bcast_S128_S128x1_0 (select (cmpi .slt (muli (iotaInDim S128 32 0) (broadcastInDim S128 ![]
      bcast_S_S128 (constantI S_ 32 64#32))) (broadcastInDim S128 ![] bcast_S_S128 (constantI S_ 32 0#32))) (addi (muli (iotaInDim S128 32 0)
      (broadcastInDim S128 ![] bcast_S_S128 (constantI S_ 32 64#32))) (broadcastInDim S128 ![] bcast_S_S128 (constantI S_ 32 8704#32))) (muli (iotaInDim
      S128 32 0) (broadcastInDim S128 ![] bcast_S_S128 (constantI S_ 32 64#32))))) : (⟨S128x1, .i32⟩ : BufTy).Contents (Elt Ideal))⟩, ⟨S128x1,
      ((broadcastInDim S128x1 ![] bcast_S_S128x1 (constantI S_ 32 0#32)) : (⟨S128x1, .i32⟩ : BufTy).Contents (Elt Ideal))⟩, ⟨S128x1, ((broadcastInDim S128x1
      ![] bcast_S_S128x1 (constantI S_ 32 0#32)) : (⟨S128x1, .i32⟩ : BufTy).Contents (Elt Ideal))⟩] concatenates_S128x1_S128x1_S128x1_S128x1_S128x4_d1 :
      (⟨S128x4, .i32⟩ : BufTy).Contents (Elt Ideal)))) : FVec Ideal S128x1x576x32x128 .f32) (ix5 b 0 j h e)
      = if hp : 512 ≤ b.val * 64 + j.val then x (ix2 ⟨b.val * 64 + j.val - 512, by omega⟩ ⟨h.val * 128 + e.val, by omega⟩) else (0 : EReal) :=
  (gkv _ _ _ _ _ _ _).trans (pad_at x h e (b.val * 64 + j.val) (by omega) _ (congrArg (fun z => z + j.val) (idx_at b)))

theorem tab_at (T : S32x513.Idx → EReal) (w : IVec S64x576 32) (h : Fin 32) (i : Fin 64) (j : Fin 576) :
    ((Host.gather gather_S32x513_S64x576x1_S32x64x576_0_1_n_n_1_2_321 T (broadcastInDim S64x576x1 ![0, 1] bcast_S64x576_S64x576x1_0_1 (select (cmpi .slt
      (addi (minsi (broadcastInDim S64x576 ![] bcast_S_S64x576 (id (constantI S_ 32 256#32))) (maxsi (broadcastInDim S64x576 ![] bcast_S_S64x576 (id
      (constantI S_ 32 4294967040#32))) w)) (broadcastInDim S64x576 ![] bcast_S_S64x576 (constantI S_ 32 256#32))) (broadcastInDim S64x576 ![]
      bcast_S_S64x576 (constantI S_ 32 0#32))) (addi (addi (minsi (broadcastInDim S64x576 ![] bcast_S_S64x576 (id (constantI S_ 32 256#32))) (maxsi
      (broadcastInDim S64x576 ![] bcast_S_S64x576 (id (constantI S_ 32 4294967040#32))) w)) (broadcastInDim S64x576 ![] bcast_S_S64x576 (constantI S_ 32
      256#32))) (broadcastInDim S64x576 ![] bcast_S_S64x576 (constantI S_ 32 513#32))) (addi (minsi (broadcastInDim S64x576 ![] bcast_S_S64x576 (id
      (constantI S_ 32 256#32))) (maxsi (broadcastInDim S64x576 ![] bcast_S_S64x576 (id (constantI S_ 32 4294967040#32))) w)) (broadcastInDim S64x576 ![]
      bcast_S_S64x576 (constantI S_ 32 256#32)))))) : FVec Ideal S32x64x576 .f32) (ix3 h i j)
      = T (ix2 h ⟨tcol (w (ix2 i j)), Nat.lt_succ_of_le (Nat.min_le_right _ _)⟩) := by
  rw [gtab]
  pointwise
  rfl

theorem w_at (i : Fin 64) (j : Fin 576) :
    ((subi (broadcastInDim S64x576 ![0, 1] bcast_S64x1_S64x576_0_1 (addi (broadcastInDim S64x1 ![] bcast_S_S64x1 (constantI S_ 32 512#32)) (broadcastInDim
      S64x1 ![0] bcast_S64_S64x1_0 (iotaInDim S64 32 0)))) (broadcastInDim S64x576 ![0, 1] bcast_S1x576_S64x576_0_1 (broadcastInDim S1x576 ![1]
      bcast_S576_S1x576_1 (iotaInDim S576 32 0)))) : IVec S64x576 32) (ix2 i j) = BitVec.ofNat 32 (1536 + i.val - j.val) - 1024#32 := by
  pointwise
  apply BitVec.eq_of_toNat_eq
  simp [IntOp.addi, IntOp.subi]
  omega

/-- A padded column of keys or values: 512 zero rows, then the prompt rows of the chosen half. -/
def pcol (kv : S8704x8192.Idx → EReal) (o : Fin 8192) (p : ℕ) : EReal :=
  if hp : 512 ≤ p ∧ p < 8704 then kv (ix2 ⟨p - 512, by omega⟩ o) else 0

/-- One element of a prompt row: the softmax of the scores against the row's band of 576 keys, applied to the band's values. -/
def rout (Q : S8704x4096.Idx → EReal) (KV : S8704x8192.Idx → EReal) (T : S32x513.Idx → EReal) (R : Fin 8704) (C : Fin 4096) : EReal :=
  mix (fun j : Fin 576 => if 512 ≤ R.val / 64 * 64 + j.val then
      (∑ e : Fin 128, Q (ix2 R ⟨C.val / 128 * 128 + e.val, by omega⟩)
        * pcol KV ⟨C.val / 128 * 128 + e.val, by omega⟩ (R.val / 64 * 64 + j.val)) * scl
      + T (ix2 ⟨C.val / 128, by omega⟩ ⟨min (768 + R.val % 64 - j.val) 512, by omega⟩) else ⊥)
    (fun j => pcol KV ⟨4096 + C.val, by omega⟩ (R.val / 64 * 64 + j.val))

/-- THE REFERENCE at a prompt row. -/
theorem ref_at (R : Fin 8704) (hR : R.val < 8192) (C : Fin 4096) : res_main_v93 m c (ix2 R C)
    = rout (m ((c.tc : Thread nD τ).loc main_arg0)) (m ((c.tc : Thread nD τ).loc main_arg1)) (m ((c.tc : Thread nD τ).loc main_arg2)) R C := by
  unfold res_main_v93
  refine (tail_at _ _ R hR C).trans ?_
  refine congrArg₂ mix (funext fun j => ?_) (funext fun j => ?_)
  · refine (score_at _ _ _ _ _ _ _).trans ?_
    refine if_congr Iff.rfl (congrArg₂ (fun a b : EReal => a * scl + b) (Finset.sum_congr rfl fun e _ => congrArg₂ (fun a b : EReal => a * b) ?_ ?_) ?_) rfl
    · refine (q_at m c _ _ _ _).trans (congrArg (m ((c.tc : Thread nD τ).loc main_arg0)) ?_)
      exact congrArg₂ ix2 (Fin.ext (by show R.val / 64 * 64 + R.val % 64 = R.val; omega)) rfl
    · refine (kv_at _ _ _ _ _).trans ?_
      unfold pcol
      refine dite_congr (propext ⟨fun h => ⟨h, by have : j.val < 576 := j.isLt; show R.val / 64 * 64 + j.val < 8704; omega⟩, fun h => h.1⟩) (fun h => ?_) (fun _ => rfl)
      pointwise
    · refine (tab_at _ _ _ _ _).trans (congrArg (m ((c.tc : Thread nD τ).loc main_arg2)) (congrArg₂ ix2 rfl (Fin.ext ?_)))
      refine (congrArg tcol (w_at _ _)).trans ?_
      refine (tcol_nat ⟨1536 + R.val % 64 - j.val, by omega⟩).trans ?_
      show min (1536 + R.val % 64 - j.val - 768) 512 = _
      congr 1
      omega
  · refine (kv_at _ _ _ _ _).trans ?_
    unfold pcol
    refine dite_congr (propext ⟨fun h => ⟨h, by have : j.val < 576 := j.isLt; show R.val / 64 * 64 + j.val < 8704; omega⟩, fun h => h.1⟩) (fun h => ?_) (fun _ => rfl)
    pointwise
    exact congrArg (m ((c.tc : Thread nD τ).loc main_arg1)) (congrArg₂ ix2 rfl (Fin.ext (by show 4096 + (C.val / 128 * 128 + C.val % 128) = 4096 + C.val; omega)))

end Cert.Ref
end
-- ==== Proof.Spec.lean ====
module

public import proofs.«01_k».proof.Defs
public import proofs.«01_k».proof.Proof.Gen.Pre_finite_inputs
public import proofs.«01_k».proof.Proof.Gen.On_prompt_rows
public import proofs.«01_k».proof.Proof.Final
public import proofs.«01_k».proof.Proof.Ref

@[expose] public section

set_option maxRecDepth 16384

noncomputable section

namespace Cert.Spec

open Idealize.ShloMosaic Idealize.ShloMosaic.TcCoe Idealize.SL.Sem
open Cert.Softmax Cert.Band Cert.Ref Cert.KernelIdeal

/-- An extended real that is a real number. -/
def Real1 (x : EReal) : Prop := ∃ r : ℝ, x = (r : EReal)

theorem Real1.mul {x y : EReal} : Real1 x → Real1 y → Real1 (x * y) := fun ⟨r, hr⟩ ⟨s, hs⟩ => ⟨r * s, by rw [hr, hs, EReal.coe_mul]⟩
theorem Real1.add {x y : EReal} : Real1 x → Real1 y → Real1 (x + y) := fun ⟨r, hr⟩ ⟨s, hs⟩ => ⟨r + s, by rw [hr, hs, EReal.coe_add]⟩
theorem Real1.zero : Real1 0 := ⟨0, rfl⟩
theorem Real1.sum {ι : Type} (s : Finset ι) (f : ι → EReal) (h : ∀ i, Real1 (f i)) : Real1 (∑ i ∈ s, f i) :=
  Finset.sum_induction f Real1 (fun _ _ => Real1.add) Real1.zero fun i _ => h i
theorem Real1.ne_bot {x : EReal} : Real1 x → x ≠ ⊥ := fun ⟨r, hr⟩ => hr ▸ EReal.coe_ne_bot r
theorem Real1.ne_top {x : EReal} : Real1 x → x ≠ ⊤ := fun ⟨r, hr⟩ => hr ▸ EReal.coe_ne_top r

theorem scl_real : Real1 scl := by
  unfold scl
  simp [Ideal.ofBits, Ideal.ieee]
  exact ⟨_, rfl⟩

/-- What the comparison with `+∞` says: the value is a real number. -/
theorem real_of_lt (x : EReal) (h : max x (-x) < ⊤) : Real1 x := by
  induction x with
  | bot => simp at h
  | top => simp at h
  | coe r => exact ⟨r, rfl⟩

theorem pcol_real (KV : S8704x8192.Idx → EReal) (h : ∀ i, Real1 (KV i)) (o : Fin 8192) (p : ℕ) : Real1 (pcol KV o p) := by
  unfold pcol
  split
  · exact h _
  · exact Real1.zero

/-- The kernel's window of 768 columns and the reference's band of 576 keys give one softmax: the other columns are masked. -/
theorem krow_eq_rout (Q : S8704x4096.Idx → EReal) (KV : S8704x8192.Idx → EReal) (T : S32x513.Idx → EReal)
    (hQ : ∀ i, Real1 (Q i)) (hK : ∀ i, Real1 (KV i)) (hT : ∀ i, Real1 (T i))
    (n : Fin 8) (g : Fin 4) (h : Fin 32) (r : Fin 256) (d : Fin 128) (R : Fin 8704) (C : Fin 4096)
    (hR : R.val = n.val * 1024 + g.val * 256 + r.val) (hC : C.val = h.val * 128 + d.val) :
    krow Q KV T n g h r d = rout Q KV T R C := by
  have hs : ∀ j : Fin 576, Real1 ((∑ e : Fin 128, Q (ix2 R ⟨C.val / 128 * 128 + e.val, by omega⟩)
        * pcol KV ⟨C.val / 128 * 128 + e.val, by omega⟩ (R.val / 64 * 64 + j.val)) * scl
      + T (ix2 ⟨C.val / 128, by omega⟩ ⟨min (768 + R.val % 64 - j.val) 512, by omega⟩)) := fun j =>
    ((Real1.sum _ _ fun e => (hQ _).mul (pcol_real KV hK _ _)).mul scl_real).add (hT _)
  have hR' : (⟨n.val * 1024 + g.val * 256 + r.val, by omega⟩ : Fin 8704) = R := Fin.ext hR.symm
  have hh : h = (⟨C.val / 128, by omega⟩ : Fin 32) := Fin.ext (by show h.val = C.val / 128; omega)
  have hp : ∀ j : Fin 576, (n.val * 4 + g.val) * 256 + (r.val / 64 * 64 + j.val) = R.val / 64 * 64 + j.val := fun j => by omega
  have hc : ∀ e : Fin 128, (⟨h.val * 128 + e.val, by omega⟩ : Fin 8192) = ⟨C.val / 128 * 128 + e.val, by omega⟩ := fun e =>
    Fin.ext (by show h.val * 128 + e.val = C.val / 128 * 128 + e.val; omega)
  have hc' : ∀ e : Fin 128, (⟨h.val * 128 + e.val, by omega⟩ : Fin 4096) = ⟨C.val / 128 * 128 + e.val, by omega⟩ := fun e =>
    Fin.ext (by show h.val * 128 + e.val = C.val / 128 * 128 + e.val; omega)
  have hv : (⟨4096 + h.val * 128 + d.val, by omega⟩ : Fin 8192) = ⟨4096 + C.val, by omega⟩ :=
    Fin.ext (by show 4096 + h.val * 128 + d.val = 4096 + C.val; omega)
  have hb : ∀ j : Fin 576, biasv T h r.val (r.val / 64 * 64 + j.val)
      = T (ix2 ⟨C.val / 128, by omega⟩ ⟨min (768 + R.val % 64 - j.val) 512, by omega⟩) := fun j => by
    unfold biasv
    rw [if_pos ⟨by omega, by omega⟩]
    refine congrArg T (congrArg₂ ix2 hh (Fin.ext ?_))
    show min (768 + r.val - (r.val / 64 * 64 + j.val)) 512 = min (768 + R.val % 64 - j.val) 512
    congr 1
    omega
  unfold krow rout
  refine mix_window (fun j : Fin 576 => (⟨r.val / 64 * 64 + j.val, by omega⟩ : Fin 768))
    (fun a b h => Fin.ext (by have := congrArg Fin.val h; dsimp only at this; omega)) _ _ _ _ (fun j => ?_) (fun j => ?_) (fun i hi => ?_)
    (575 : Fin 576) ?_ (fun j => ?_)
  · dsimp only
    rw [hp j, hb j, hR']
    refine if_congr Iff.rfl (congrArg (fun z : EReal => z * scl + _) (Finset.sum_congr rfl fun e _ => ?_)) rfl
    rw [hc e, hc' e]
    rfl
  · dsimp only
    rw [hp j, hv]
    rfl
  · have hb : biasv T h r.val i.val = ⊥ := by
      unfold biasv
      refine if_neg fun h => hi ⟨⟨i.val - r.val / 64 * 64, by omega⟩, Fin.ext ?_⟩
      show r.val / 64 * 64 + (i.val - r.val / 64 * 64) = i.val
      omega
    rw [hb, EReal.add_bot, ite_self]
  · rw [if_pos (by show 512 ≤ R.val / 64 * 64 + 575; omega)]
    exact (hs _).ne_bot
  · split
    · exact (hs j).ne_top
    · exact bot_ne_top

theorem kout_eq_rout (Q : S8704x4096.Idx → EReal) (KV : S8704x8192.Idx → EReal) (T : S32x513.Idx → EReal)
    (hQ : ∀ i, Real1 (Q i)) (hK : ∀ i, Real1 (KV i)) (hT : ∀ i, Real1 (T i)) (R : Fin 8704) (hR : R.val < 8192) (C : Fin 4096) :
    kout Q KV T (ix2 R C) = rout Q KV T R C := by
  have h0 : R.val = R.val / 1024 * 1024 + R.val % 1024 / 256 * 256 + R.val % 256 := by omega
  have h1 : C.val = C.val / 128 * 128 + C.val % 128 := by omega
  exact (kout_eq Q KV T (ix2 R C) ⟨R.val / 1024, by omega⟩ ⟨R.val % 1024 / 256, by omega⟩ ⟨C.val / 128, by omega⟩ ⟨R.val % 256, by omega⟩
    ⟨C.val % 128, by omega⟩ h0 h1).symm.trans (krow_eq_rout Q KV T hQ hK hT _ _ _ _ _ R C h0 h1)

end Cert.Spec
end
-- ==== Proof.Claims.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite_inputs
public import proofs.«01_k».proof.Proof.Gen.On_prompt_rows
public import proofs.«01_k».proof.Proof.Spec
public import Idealize.ShloMosaic.Lib.Quiescent

@[expose] public section

set_option maxRecDepth 16384

noncomputable section

namespace Cert.Spec

open Idealize.ShloMosaic Idealize.ShloMosaic.TcCoe Idealize.SL.Sem
open Cert.Softmax Cert.Band Cert.Ref

/-- The prompt mask at an index: the row is below 8192. -/
theorem mask_iff (x y z) (i : (⟨2, ![8704, 4096]⟩ : Shape).Idx) :
    Cert.On_prompt_rows.fn (F := Ideal) x y z i = 1#1 ↔ (i 0 : ℕ) < 8192 := by
  have key : ∀ r : Fin 8704, IntOp.cmpi .slt (BitVec.ofNat 32 r.val) 8192#32 = 1#1 ↔ r.val < 8192 := by decide +kernel
  show IntOp.cmpi .slt (BitVec.ofNat 32 (i 0 : ℕ)) 8192#32 = 1#1 ↔ _
  exact key ⟨(i 0).val, (i 0).isLt⟩

/-- The precondition's comparison at one element. -/
theorem real_of_cmp (x : EReal) (h : FloatOps.cmpf (F := Ideal) (φ := .f32) .olt (FloatOps.hostAbsf (F := Ideal) (φ := .f32) x) (FloatOps.ofBits (F := Ideal) .f32 0x7F800000#32) = 1#1) :
    Real1 x := by
  refine real_of_lt x ?_
  have e : FloatOps.ofBits (F := Ideal) .f32 0x7F800000#32 = (⊤ : EReal) := by
    show Ideal.ofBits .f32 0x7F800000#32 = ⊤
    simp [Ideal.ofBits, Ideal.ieee]
  rw [e] at h
  by_contra hc
  have h' : BitVec.ofBool (decide (max x (-x) < (⊤ : EReal))) = 1#1 := by
    simp [FloatOps.cmpf, Ideal.cmp] at h
    exact h
  rw [decide_eq_false hc] at h'
  exact absurd h' (by decide)

theorem pre_real (m : (ℓ : Loc Cert.KernelIdeal.nD Cert.KernelIdeal.τ Cert.KernelIdeal.sig) → Buf (Elt Ideal) ℓ) (h : Cert.Pre_KernelIdeal_finite_inputs m)
    (c : Dev Cert.KernelIdeal.nD) :
    (∀ i, Real1 (m ((c.tc : Thread Cert.KernelIdeal.nD Cert.KernelIdeal.τ).loc Cert.KernelIdeal.main_arg0) i))
    ∧ (∀ i, Real1 (m ((c.tc : Thread Cert.KernelIdeal.nD Cert.KernelIdeal.τ).loc Cert.KernelIdeal.main_arg1) i))
    ∧ (∀ i, Real1 (m ((c.tc : Thread Cert.KernelIdeal.nD Cert.KernelIdeal.τ).loc Cert.KernelIdeal.main_arg2) i)) := by
  obtain ⟨h0, h1, h2⟩ := h c
  exact ⟨fun i => real_of_cmp _ (congrFun h0 i), fun i => real_of_cmp _ (congrFun h1 i), fun i => real_of_cmp _ (congrFun h2 i)⟩

theorem frame_k : Cert.quiescent_Kernel := fun m ρ _ => Cert.Kernel.Gen.frame m ρ
theorem frame_ki : Cert.quiescent_KernelIdeal := fun m ρ _ => Cert.KernelIdeal.Gen.frame m ρ
theorem frame_kip : Cert.quiescent_KernelIdeal_pre_finite_inputs := fun m ρ _ => Cert.KernelIdeal.Gen.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_rip : Cert.quiescent_ReferenceIdeal_pre_finite_inputs := fun m ρ _ => frame_ri m ρ trivial

theorem preserves : Cert.preserves_Kernel_KernelIdeal :=
  IdealRules.named_const.statement Cert.KernelIdeal.κ "mask" .f32 0xF149F2CA#32 ⊥ rfl

theorem algebraic : Cert.algebraic_KernelIdeal_ReferenceIdeal_on_prompt_rows_pre_finite_inputs := by
  intro m ρ m' ρ' hpre hagree
  refine ⟨fun c i => kout (m ((c.tc : Thread _ _).loc Cert.KernelIdeal.main_arg0)) (m ((c.tc : Thread _ _).loc Cert.KernelIdeal.main_arg1))
    (m ((c.tc : Thread _ _).loc Cert.KernelIdeal.main_arg2)) i, ?_, ?_⟩
  · refine (θ_run Cert.KernelIdeal.defs _ _).mono (fun r h c => ⟨fun i hi => ?_, (h c).2⟩) (Cert.KernelIdeal.Value.run_blocks m ρ)
    refine (congrFun ((h c).1.trans (final m c)) i).trans (if_pos ((mask_iff _ _ _ i).1 hi))
  · refine (θ_run Cert.ReferenceIdeal.defs _ _).mono (fun r h c => ⟨fun i hi => ?_, (h c).2⟩) (Cert.ReferenceIdeal.Value.run m' ρ')
    obtain ⟨r0, r1, r2⟩ := pre_real m hpre c
    have hR := (mask_iff _ _ _ i).1 hi
    have ei : i = ix2 (i 0) (i 1) := by funext a; match a with | ⟨0, _⟩ => rfl | ⟨1, _⟩ => rfl
    refine (congrFun (h c).1 i).trans ?_
    rw [ei]
    refine (ref_at m' c (i 0) hR (i 1)).trans (Eq.trans ?_ (kout_eq_rout _ _ _ r0 r1 r2 (i 0) hR (i 1)).symm)
    rw [(hagree c).1, (hagree c).2.1, (hagree c).2.2]

end Cert.Spec
end
-- ==== Proof.Glu.lean ====
module

public import proofs.«01_k».proof.Defs
public import proofs.«01_k».proof.Proof.Gen.Glu.Frame
public import proofs.«01_k».proof.Proof.Gen.GluIdeal.Value
public import proofs.«01_k».proof.Proof.Gen.GluRefIdeal.Run
public import Idealize.ShloMosaic.Lib.Pipeline.ValueKit
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.GluProof

open Idealize.ShloMosaic Idealize.ShloMosaic.TcCoe Idealize.SL.Sem
open Cert.GluIdeal Cert.GluIdeal.Gen

variable (m : (ℓ : Loc nD τ sig) → Buf (Elt Ideal) ℓ) (c : Dev nD)

/-- The column of the weights that gives a channel's value, -/
def lo (C : Fin 4096) : Fin 8192 := ⟨C.val, by omega⟩

/-- and the column that gives its gate. -/
def hi (C : Fin 4096) : Fin 8192 := ⟨4096 + C.val, by omega⟩

/-- One element of the residual plus the gated product. -/
def prod (X : S8704x4096.Idx → EReal) (W : S1x4096x8192.Idx → EReal) (Z : S8704x4096.Idx → EReal) (i : S8704x4096.Idx) : EReal :=
  Z i + (∑ k : Fin 4096, X (ix2 (i 0) k) * W (ix3 0 k (lo (i 1)))) * Ideal.logistic (∑ k : Fin 4096, X (ix2 (i 0) k) * W (ix3 0 k (hi (i 1))))

theorem idx0 : ∀ t : Fin cfg0.N, win0_0.index t (0 : Fin 2) = t.val % 8 ∧ win0_0.index t (1 : Fin 2) = 0 := by decide +kernel
theorem idx1 : ∀ t : Fin cfg0.N, win0_1.index t (0 : Fin 3) = 0 ∧ win0_1.index t (1 : Fin 3) = 0 ∧ win0_1.index t (2 : Fin 3) = t.val / 8 := by decide +kernel
theorem idx2 : ∀ t : Fin cfg0.N, win0_2.index t (0 : Fin 3) = 0 ∧ win0_2.index t (1 : Fin 3) = 0 ∧ win0_2.index t (2 : Fin 3) = 16 + t.val / 8 := by decide +kernel

theorem idx4 : ∀ t : Fin cfg0.N, win0_4.index t (0 : Fin 2) = t.val % 8 ∧ win0_4.index t (1 : Fin 2) = t.val / 8 := by decide +kernel
theorem idx3 : ∀ t : Fin cfg0.N, win0_3.index t (0 : Fin 2) = t.val % 8 ∧ win0_3.index t (1 : Fin 2) = t.val / 8 := by decide +kernel

/-- The block of the residual at a point. -/
theorem z_blk (t : Fin cfg0.N) (r : Fin 1088) (e : Fin 256) (i : S8704x4096.Idx)
    (h0 : (i 0 : ℕ) = t.val % 8 * 1088 + r.val) (h1 : (i 1 : ℕ) = t.val / 8 * 256 + e.val) :
    iblk m c 3 t (ix2 r e) = m ((c.tc : Thread nD τ).loc main_arg2) i := by
  unfold iblk
  show V m c main_arg2 _ = _
  rw [V_main_arg2]
  blk_ext [idx3 t]

/-- The block of activations at a point: 1088 rows. -/
theorem x_blk (t : Fin cfg0.N) (r : Fin 1088) (k : Fin 4096) (R : Fin 8704) (hR : R.val = t.val % 8 * 1088 + r.val) :
    iblk m c 0 t (ix2 r k) = m ((c.tc : Thread nD τ).loc main_arg0) (ix2 R k) := by
  unfold iblk
  show V m c main_arg0 _ = _
  rw [V_main_arg0]
  blk_ext [idx0 t]

/-- The block of value weights at a point: 256 columns; -/
theorem w_blk (t : Fin cfg0.N) (k : Fin 4096) (e : Fin 256) (C : Fin 4096) (hC : C.val = t.val / 8 * 256 + e.val) :
    iblk m c 1 t (ix3 0 k e) = m ((c.tc : Thread nD τ).loc main_arg1) (ix3 0 k (lo C)) := by
  have hl : (lo C).val = C.val := rfl
  unfold iblk
  show V m c main_arg1 _ = _
  rw [V_main_arg1]
  blk_ext [idx1 t]

/-- and of gate weights, 4096 columns further. -/
theorem v_blk (t : Fin cfg0.N) (k : Fin 4096) (e : Fin 256) (C : Fin 4096) (hC : C.val = t.val / 8 * 256 + e.val) :
    iblk m c 2 t (ix3 0 k e) = m ((c.tc : Thread nD τ).loc main_arg1) (ix3 0 k (hi C)) := by
  have hl : (hi C).val = 4096 + C.val := rfl
  unfold iblk
  show V m c main_arg1 _ = _
  rw [V_main_arg1]
  blk_ext [idx2 t]

/-- After the first row block of a column block the two scratches hold those column blocks of the weights. -/
theorem scrA (t : Fin cfg0.N) (ht : t.val % 8 = 0) (k : Fin 4096) (e : Fin 256) (C : Fin 4096) (hC : C.val = t.val / 8 * 256 + e.val) :
    (outsAt0 m c t.val t.isLt).2.1 (ix2 k e) = m ((c.tc : Thread nD τ).loc main_arg1) (ix3 0 k (lo C)) := by
  rw [outsAt0_A m c t ht]
  frame_out
  pointwise [k0_pay1]
  exact w_blk m c t k e C hC

theorem scrA' (t : Fin cfg0.N) (ht : t.val % 8 = 0) (k : Fin 4096) (e : Fin 256) (C : Fin 4096) (hC : C.val = t.val / 8 * 256 + e.val) :
    (outsAt0 m c t.val t.isLt).2.2 (ix2 k e) = m ((c.tc : Thread nD τ).loc main_arg1) (ix3 0 k (hi C)) := by
  rw [outsAt0_A m c t ht]
  frame_out
  pointwise [k0_pay2]
  exact v_blk m c t k e C hC

/-- They hold them at every point. -/
theorem scr_all (n : ℕ) : ∀ (hn : n < cfg0.N) (k : Fin 4096) (e : Fin 256) (C : Fin 4096), C.val = n / 8 * 256 + e.val →
    (outsAt0 m c n hn).2.1 (ix2 k e) = m ((c.tc : Thread nD τ).loc main_arg1) (ix3 0 k (lo C))
    ∧ (outsAt0 m c n hn).2.2 (ix2 k e) = m ((c.tc : Thread nD τ).loc main_arg1) (ix3 0 k (hi C)) := by
  induction n using Nat.strong_induction_on with
  | _ n ih =>
    intro hn k e C hC
    by_cases ht : n % 8 = 0
    · exact ⟨scrA m c ⟨n, hn⟩ ht k e C hC, scrA' m c ⟨n, hn⟩ ht k e C hC⟩
    · have i1 := ih (n - 1) (by omega) (Nat.lt_of_le_of_lt (Nat.sub_le _ _) hn) k e C (by omega)
      have e1 := outsAt0_B m c ⟨n, hn⟩ ht
      dsimp only at e1
      rw [e1]
      exact i1

/-- The output block of every point. -/
theorem out_pt (t : Fin cfg0.N) (r : Fin 1088) (e : Fin 256) (i : S8704x4096.Idx)
    (h0 : (i 0 : ℕ) = t.val % 8 * 1088 + r.val) (h1 : (i 1 : ℕ) = t.val / 8 * 256 + e.val) :
    (outsAt0 m c t.val t.isLt).1 (ix2 r e)
      = prod (m ((c.tc : Thread nD τ).loc main_arg0)) (m ((c.tc : Thread nD τ).loc main_arg1)) (m ((c.tc : Thread nD τ).loc main_arg2)) i := by
  by_cases ht : t.val % 8 = 0
  · rw [outsAt0_A m c t ht]
    frame_out
    pointwise [k0_pay3]
    refine congrArg₂ (· + ·) (z_blk m c t r e i h0 h1) (congrArg₂ (· * ·) ?_ (congrArg Ideal.logistic ?_))
    · refine Finset.sum_congr rfl fun k _ => congrArg₂ (· * ·) (x_blk m c t r k (i 0) h0) ?_
      refine Eq.trans (b := (outsAt0 m c t.val t.isLt).2.1 (ix2 k e)) ?_ (scrA m c t ht k e (i 1) h1)
      rw [outsAt0_A m c t ht]
      frame_out
    · refine Finset.sum_congr rfl fun k _ => congrArg₂ (· * ·) (x_blk m c t r k (i 0) h0) ?_
      refine Eq.trans (b := (outsAt0 m c t.val t.isLt).2.2 (ix2 k e)) ?_ (scrA' m c t ht k e (i 1) h1)
      rw [outsAt0_A m c t ht]
      frame_out
  · rw [outsAt0_B m c t ht]
    frame_out
    pointwise [k0_pay3]
    refine congrArg₂ (· + ·) (z_blk m c t r e i h0 h1) (congrArg₂ (· * ·) ?_ (congrArg Ideal.logistic ?_))
    · refine Finset.sum_congr rfl fun k _ => congrArg₂ (· * ·) (x_blk m c t r k (i 0) h0) ?_
      exact (congrFun (Memref.IsWhole.read_unread (Memref.isWhole_whole _) _) _).trans
        (scr_all m c (t.val - 1) (Nat.lt_of_le_of_lt (Nat.sub_le _ _) t.isLt) k e (i 1) (by omega)).1
    · refine Finset.sum_congr rfl fun k _ => congrArg₂ (· * ·) (x_blk m c t r k (i 0) h0) ?_
      exact (congrFun (Memref.IsWhole.read_unread (Memref.isWhole_whole _) _) _).trans
        (scr_all m c (t.val - 1) (Nat.lt_of_le_of_lt (Nat.sub_le _ _) t.isLt) k e (i 1) (by omega)).2

/-- The whole result of the call. -/
theorem final : (dats m 0 c).arrAt 4 cfg0.N
    = prod (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  rw [after0_4]
  have b0 : (y 0).val < 1088 := ((cfg0.win 4).xinj (grid0.coords t) y 0).isLt
  have b1 : (y 1).val < 256 := ((cfg0.win 4).xinj (grid0.coords t) y 1).isLt
  have eY : (cfg0.win 4).xinj (grid0.coords t) y = ix2 ⟨(y 0).val, b0⟩ ⟨(y 1).val, b1⟩ := by
    funext a
    match a with
    | ⟨0, _⟩ => rfl
    | ⟨1, _⟩ => rfl
  refine (congrArg (outsAt0 m c t.val t.isLt).1 eY).trans (out_pt m c t _ _ _ ?_ ?_)
  · show ((win0_4.blk t).view.emb y 0 : ℕ) = _
    blk_simp [idx4 t]
  · show ((win0_4.blk t).view.emb y 1 : ℕ) = _
    blk_simp [idx4 t]

theorem frame_p : Cert.quiescent_Glu := fun m ρ _ => Cert.Glu.Gen.frame m ρ
theorem frame_i : Cert.quiescent_GluIdeal := fun m ρ _ => Cert.GluIdeal.Gen.frame m ρ
theorem frame_r : Cert.quiescent_GluRefIdeal := fun m ρ _ =>
  (θ_run Cert.GluRefIdeal.defs _ _).mono (fun r h => ⟨fun c => (h c).2, sem_eq_zero_of_no_sems (by decide) r.2⟩)
    (Cert.GluRefIdeal.Value.run (F := Ideal) m ρ)

theorem preserves : Cert.preserves_Glu_GluIdeal := trivial

/-- The reference's product, one element. -/
theorem ref_dot (X : FVec Ideal Cert.GluRefIdeal.S8704x4096 .bf16) (W : FVec Ideal Cert.GluRefIdeal.S1x4096x8192 .f32) (R : Fin 8704) (C : Fin 8192) :
    Host.dotGeneral Cert.GluRefIdeal.dot_S8704x4096_S4096x8192_S8704x8192_1_0_0_1_n_n none (extf .f32 X Cert.GluRefIdeal.Facts₀.bitsLt_bf16_f32)
      (shapeCast _ W Cert.GluRefIdeal.Facts₀.shapeCasts_S1x4096x8192_S4096x8192) (ix2 R C) = ∑ k : Fin 4096, X (ix2 R k) * W (ix3 0 k C) := by
  pointwise

/-- The reference's gate. -/
theorem ref_gate (Z : FVec Ideal Cert.GluRefIdeal.S8704x4096 .f32) (D : FVec Ideal Cert.GluRefIdeal.S8704x8192 .f32) (R : Fin 8704) (C : Fin 4096) :
    addf Z (mulf (extractStridedSlice Cert.GluRefIdeal.S8704x4096 ![0, 0] D Cert.GluRefIdeal.Facts₀.slices_S8704x8192_S8704x4096_0_0)
      (Host.divf (broadcastInDim Cert.GluRefIdeal.S8704x4096 ![] Cert.GluRefIdeal.Facts₀.bcast_S_S8704x4096 (constant Cert.GluRefIdeal.S_ .f32 0x3F800000#32))
        (addf (broadcastInDim Cert.GluRefIdeal.S8704x4096 ![] Cert.GluRefIdeal.Facts₀.bcast_S_S8704x4096 (constant Cert.GluRefIdeal.S_ .f32 0x3F800000#32))
          (Host.exp (Host.negf (extractStridedSlice Cert.GluRefIdeal.S8704x4096 ![0, 4096] D Cert.GluRefIdeal.Facts₀.slices_S8704x8192_S8704x4096_0_4096)))))) (ix2 R C)
      = Z (ix2 R C) + D (ix2 R (lo C)) * Ideal.logistic (D (ix2 R (hi C))) := by
  have e0 : extractStridedSlice Cert.GluRefIdeal.S8704x4096 ![0, 0] D Cert.GluRefIdeal.Facts₀.slices_S8704x8192_S8704x4096_0_0 (ix2 R C) = D (ix2 R (lo C)) :=
    congrArg D (by funext a; match a with | ⟨0, _⟩ => exact Fin.ext (Nat.zero_add _) | ⟨1, _⟩ => exact Fin.ext (Nat.zero_add _))
  have e1 : extractStridedSlice Cert.GluRefIdeal.S8704x4096 ![0, 4096] D Cert.GluRefIdeal.Facts₀.slices_S8704x8192_S8704x4096_0_4096 (ix2 R C) = D (ix2 R (hi C)) :=
    congrArg D (by funext a; match a with | ⟨0, _⟩ => exact Fin.ext (Nat.zero_add _) | ⟨1, _⟩ => rfl)
  rw [addf_apply, mulf_apply, e0]
  generalize extractStridedSlice Cert.GluRefIdeal.S8704x4096 ![0, 4096] D Cert.GluRefIdeal.Facts₀.slices_S8704x8192_S8704x4096_0_4096 = E at e1 ⊢
  rw [← e1]
  pointwise [Ideal.logistic]

/-- Kernel and reference compute the same gated products. -/
theorem algebraic : Cert.algebraic_GluIdeal_GluRefIdeal := by
  intro m ρ m' ρ' _ hagree
  refine ⟨fun c => prod (m ((c.tc : Thread _ _).loc Cert.GluIdeal.main_arg0)) (m ((c.tc : Thread _ _).loc Cert.GluIdeal.main_arg1)) (m ((c.tc : Thread _ _).loc Cert.GluIdeal.main_arg2)), ?_, ?_⟩
  · exact (θ_run Cert.GluIdeal.defs _ _).mono (fun r h c => ⟨(h c).1.trans (final m c), (h c).2⟩) (Cert.GluIdeal.Value.run_blocks m ρ)
  · refine (θ_run Cert.GluRefIdeal.defs _ _).mono (fun r h c => ⟨(h c).1.trans ?_, (h c).2⟩) (Cert.GluRefIdeal.Value.run m' ρ')
    rw [(hagree c).1, (hagree c).2.1, (hagree c).2.2]
    funext i
    obtain ⟨R, C, rfl⟩ : ∃ (R : Fin 8704) (C : Fin 4096), i = ix2 R C :=
      ⟨i 0, i 1, by funext a; match a with | ⟨0, _⟩ => rfl | ⟨1, _⟩ => rfl⟩
    refine (ref_gate _ _ R C).trans ?_
    rw [ref_dot, ref_dot]
    rfl

end Cert.GluProof
end
-- ==== Proof.Kv.lean ====
module

public import proofs.«01_k».proof.Defs
public import proofs.«01_k».proof.Proof.Gen.Kv.Frame
public import proofs.«01_k».proof.Proof.Gen.KvIdeal.Value
public import proofs.«01_k».proof.Proof.Gen.KvRefIdeal.Run
public import Idealize.ShloMosaic.Lib.Pipeline.ValueKit
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.KvProof

open Idealize.ShloMosaic Idealize.ShloMosaic.TcCoe Idealize.SL.Sem
open Cert.KvIdeal Cert.KvIdeal.Gen

variable (m : (ℓ : Loc nD τ sig) → Buf (Elt Ideal) ℓ) (c : Dev nD)

/-- One element of the projection: a row of the activations against a column of the weights. -/
def prod (X : S8704x4096.Idx → EReal) (W : S4096x8192.Idx → EReal) (i : S8704x8192.Idx) : EReal :=
  ∑ k : Fin 4096, X (ix2 (i 0) k) * W (ix2 k (i 1))

theorem idx0 : ∀ t : Fin cfg0.N, win0_0.index t (0 : Fin 2) = t.val % 8 ∧ win0_0.index t (1 : Fin 2) = 0 := by decide +kernel
theorem idx1 : ∀ t : Fin cfg0.N, win0_1.index t (0 : Fin 2) = 0 ∧ win0_1.index t (1 : Fin 2) = t.val / 8 := by decide +kernel
theorem idx2 : ∀ t : Fin cfg0.N, win0_2.index t (0 : Fin 2) = t.val % 8 ∧ win0_2.index t (1 : Fin 2) = t.val / 8 := by decide +kernel

/-- The block of activations at a point: 1088 rows. -/
theorem x_blk (t : Fin cfg0.N) (r : Fin 1088) (k : Fin 4096) (R : Fin 8704) (hR : R.val = t.val % 8 * 1088 + r.val) :
    iblk m c 0 t (ix2 r k) = m ((c.tc : Thread nD τ).loc main_arg0) (ix2 R k) := by
  unfold iblk
  show V m c main_arg0 _ = _
  rw [V_main_arg0]
  blk_ext [idx0 t]

/-- The block of weights at a point: 512 columns. -/
theorem w_blk (t : Fin cfg0.N) (k : Fin 4096) (e : Fin 512) (C : Fin 8192) (hC : C.val = t.val / 8 * 512 + e.val) :
    iblk m c 1 t (ix2 k e) = m ((c.tc : Thread nD τ).loc main_arg1) (ix2 k C) := by
  unfold iblk
  show V m c main_arg1 _ = _
  rw [V_main_arg1]
  blk_ext [idx1 t]

/-- After the first row block of a column block the scratch holds that column block of the weights. -/
theorem scrA (t : Fin cfg0.N) (ht : t.val % 8 = 0) (k : Fin 4096) (e : Fin 512) (C : Fin 8192) (hC : C.val = t.val / 8 * 512 + e.val) :
    (outsAt0 m c t.val t.isLt).2 (ix2 k e) = m ((c.tc : Thread nD τ).loc main_arg1) (ix2 k C) := by
  rw [outsAt0_A m c t ht]
  frame_out
  pointwise [k0_pay1]
  exact w_blk m c t k e C hC

/-- It holds it at every point. -/
theorem scr_all (n : ℕ) : ∀ (hn : n < cfg0.N) (k : Fin 4096) (e : Fin 512) (C : Fin 8192), C.val = n / 8 * 512 + e.val →
    (outsAt0 m c n hn).2 (ix2 k e) = m ((c.tc : Thread nD τ).loc main_arg1) (ix2 k C) := by
  induction n using Nat.strong_induction_on with
  | _ n ih =>
    intro hn k e C hC
    by_cases ht : n % 8 = 0
    · exact scrA m c ⟨n, hn⟩ ht k e C hC
    · have i1 := ih (n - 1) (by omega) (Nat.lt_of_le_of_lt (Nat.sub_le _ _) hn) k e C (by omega)
      have e1 := outsAt0_B m c ⟨n, hn⟩ ht
      dsimp only at e1
      rw [e1]
      exact i1

/-- The output block of every point. -/
theorem out_pt (t : Fin cfg0.N) (r : Fin 1088) (e : Fin 512) (i : S8704x8192.Idx)
    (h0 : (i 0 : ℕ) = t.val % 8 * 1088 + r.val) (h1 : (i 1 : ℕ) = t.val / 8 * 512 + e.val) :
    (outsAt0 m c t.val t.isLt).1 (ix2 r e)
      = prod (m ((c.tc : Thread nD τ).loc main_arg0)) (m ((c.tc : Thread nD τ).loc main_arg1)) i := by
  by_cases ht : t.val % 8 = 0
  · rw [outsAt0_A m c t ht]
    frame_out
    pointwise [k0_pay2]
    refine Finset.sum_congr rfl fun k _ => congrArg₂ (· * ·) (x_blk m c t r k (i 0) h0) ?_
    refine Eq.trans (b := (outsAt0 m c t.val t.isLt).2 (ix2 k e)) ?_ (scrA m c t ht k e (i 1) h1)
    rw [outsAt0_A m c t ht]
    frame_out
  · rw [outsAt0_B m c t ht]
    frame_out
    pointwise [k0_pay2]
    refine Finset.sum_congr rfl fun k _ => congrArg₂ (· * ·) (x_blk m c t r k (i 0) h0) ?_
    exact (congrFun (Memref.IsWhole.read_unread (Memref.isWhole_whole _) _) _).trans
      (scr_all m c (t.val - 1) (Nat.lt_of_le_of_lt (Nat.sub_le _ _) t.isLt) k e (i 1) (by omega))

/-- The whole result of the call. -/
theorem final : (dats m 0 c).arrAt 2 cfg0.N
    = prod (m ((c.tc : Thread nD τ).loc main_arg0)) (m ((c.tc : Thread nD τ).loc main_arg1)) := by
  refine (dats m 0 c).arrAt_eq_of_covers 2 _ (by decide +kernel) fun t _ y => ?_
  blk_simp
  rw [after0_2]
  have b0 : (y 0).val < 1088 := ((cfg0.win 2).xinj (grid0.coords t) y 0).isLt
  have b1 : (y 1).val < 512 := ((cfg0.win 2).xinj (grid0.coords t) y 1).isLt
  have eY : (cfg0.win 2).xinj (grid0.coords t) y = ix2 ⟨(y 0).val, b0⟩ ⟨(y 1).val, b1⟩ := by
    funext a
    match a with
    | ⟨0, _⟩ => rfl
    | ⟨1, _⟩ => rfl
  refine (congrArg (outsAt0 m c t.val t.isLt).1 eY).trans (out_pt m c t _ _ _ ?_ ?_)
  · show ((win0_2.blk t).view.emb y 0 : ℕ) = _
    blk_simp [idx2 t]
  · show ((win0_2.blk t).view.emb y 1 : ℕ) = _
    blk_simp [idx2 t]

theorem frame_p : Cert.quiescent_Kv := fun m ρ _ => Cert.Kv.Gen.frame m ρ
theorem frame_i : Cert.quiescent_KvIdeal := fun m ρ _ => Cert.KvIdeal.Gen.frame m ρ
theorem frame_r : Cert.quiescent_KvRefIdeal := fun m ρ _ =>
  (θ_run Cert.KvRefIdeal.defs _ _).mono (fun r h => ⟨fun c => (h c).2, sem_eq_zero_of_no_sems (by decide) r.2⟩)
    (Cert.KvRefIdeal.Value.run (F := Ideal) m ρ)

theorem preserves : Cert.preserves_Kv_KvIdeal := trivial

/-- Kernel and reference compute the same products. -/
theorem algebraic : Cert.algebraic_KvIdeal_KvRefIdeal := by
  intro m ρ m' ρ' _ hagree
  refine ⟨fun c => prod (m ((c.tc : Thread _ _).loc Cert.KvIdeal.main_arg0)) (m ((c.tc : Thread _ _).loc Cert.KvIdeal.main_arg1)), ?_, ?_⟩
  · exact (θ_run Cert.KvIdeal.defs _ _).mono (fun r h c => ⟨(h c).1.trans (final m c), (h c).2⟩) (Cert.KvIdeal.Value.run_blocks m ρ)
  · refine (θ_run Cert.KvRefIdeal.defs _ _).mono (fun r h c => ⟨(h c).1.trans ?_, (h c).2⟩) (Cert.KvRefIdeal.Value.run m' ρ')
    rw [(hagree c).1, (hagree c).2]
    funext i
    obtain ⟨R, C, rfl⟩ : ∃ (R : Fin 8704) (C : Fin 8192), i = ix2 R C :=
      ⟨i 0, i 1, by funext a; match a with | ⟨0, _⟩ => rfl | ⟨1, _⟩ => rfl⟩
    pointwise [prod]

end Cert.KvProof
end
-- ==== Proof.Mq.lean ====
module

public import proofs.«01_k».proof.Defs
public import proofs.«01_k».proof.Proof.Gen.Mq.Frame
public import proofs.«01_k».proof.Proof.Gen.MqIdeal.Value
public import proofs.«01_k».proof.Proof.Gen.MqRefIdeal.Run
public import Idealize.ShloMosaic.Lib.Pipeline.ValueKit
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.MqProof

open Idealize.ShloMosaic Idealize.ShloMosaic.TcCoe Idealize.SL.Sem
open Cert.MqIdeal Cert.MqIdeal.Gen

variable (m : (ℓ : Loc nD τ sig) → Buf (Elt Ideal) ℓ) (c : Dev nD)

/-- One element of the projection: a row of the activations against a column of one layer's weights. -/
def prod (X : S8704x4096.Idx → EReal) (W : S2x4096x4096.Idx → EReal) (i : S8704x4096.Idx) : EReal :=
  ∑ k : Fin 4096, X (ix2 (i 0) k) * W (ix3 0 k (i 1))

theorem idx0 : ∀ t : Fin cfg0.N, win0_0.index t (0 : Fin 2) = t.val % 8 ∧ win0_0.index t (1 : Fin 2) = 0 := by decide +kernel
theorem idx1 : ∀ t : Fin cfg0.N, win0_1.index t (0 : Fin 3) = 0 ∧ win0_1.index t (1 : Fin 3) = 0 ∧ win0_1.index t (2 : Fin 3) = t.val / 8 := by decide +kernel
theorem idx2 : ∀ t : Fin cfg0.N, win0_2.index t (0 : Fin 2) = t.val % 8 ∧ win0_2.index t (1 : Fin 2) = t.val / 8 := by decide +kernel

/-- The block of activations at a point: 1088 rows. -/
theorem x_blk (t : Fin cfg0.N) (r : Fin 1088) (k : Fin 4096) (R : Fin 8704) (hR : R.val = t.val % 8 * 1088 + r.val) :
    iblk m c 0 t (ix2 r k) = m ((c.tc : Thread nD τ).loc main_arg0) (ix2 R k) := by
  unfold iblk
  show V m c main_arg0 _ = _
  rw [V_main_arg0]
  blk_ext [idx0 t]

/-- The block of weights at a point: 512 columns. -/
theorem w_blk (t : Fin cfg0.N) (k : Fin 4096) (e : Fin 512) (C : Fin 4096) (hC : C.val = t.val / 8 * 512 + e.val) :
    iblk m c 1 t (ix3 0 k e) = m ((c.tc : Thread nD τ).loc main_arg1) (ix3 0 k C) := by
  unfold iblk
  show V m c main_arg1 _ = _
  rw [V_main_arg1]
  blk_ext [idx1 t]

/-- After the first row block of a column block the scratch holds that column block of the weights. -/
theorem scrA (t : Fin cfg0.N) (ht : t.val % 8 = 0) (k : Fin 4096) (e : Fin 512) (C : Fin 4096) (hC : C.val = t.val / 8 * 512 + e.val) :
    (outsAt0 m c t.val t.isLt).2 (ix2 k e) = m ((c.tc : Thread nD τ).loc main_arg1) (ix3 0 k C) := by
  rw [outsAt0_A m c t ht]
  frame_out
  pointwise [k0_pay1]
  exact w_blk m c t k e C hC

/-- It holds it at every point. -/
theorem scr_all (n : ℕ) : ∀ (hn : n < cfg0.N) (k : Fin 4096) (e : Fin 512) (C : Fin 4096), C.val = n / 8 * 512 + e.val →
    (outsAt0 m c n hn).2 (ix2 k e) = m ((c.tc : Thread nD τ).loc main_arg1) (ix3 0 k C) := by
  induction n using Nat.strong_induction_on with
  | _ n ih =>
    intro hn k e C hC
    by_cases ht : n % 8 = 0
    · exact scrA m c ⟨n, hn⟩ ht k e C hC
    · have i1 := ih (n - 1) (by omega) (Nat.lt_of_le_of_lt (Nat.sub_le _ _) hn) k e C (by omega)
      have e1 := outsAt0_B m c ⟨n, hn⟩ ht
      dsimp only at e1
      rw [e1]
      exact i1

/-- The output block of every point. -/
theorem out_pt (t : Fin cfg0.N) (r : Fin 1088) (e : Fin 512) (i : S8704x4096.Idx)
    (h0 : (i 0 : ℕ) = t.val % 8 * 1088 + r.val) (h1 : (i 1 : ℕ) = t.val / 8 * 512 + e.val) :
    (outsAt0 m c t.val t.isLt).1 (ix2 r e)
      = prod (m ((c.tc : Thread nD τ).loc main_arg0)) (m ((c.tc : Thread nD τ).loc main_arg1)) i := by
  by_cases ht : t.val % 8 = 0
  · rw [outsAt0_A m c t ht]
    frame_out
    pointwise [k0_pay2]
    refine Finset.sum_congr rfl fun k _ => congrArg₂ (· * ·) (x_blk m c t r k (i 0) h0) ?_
    refine Eq.trans (b := (outsAt0 m c t.val t.isLt).2 (ix2 k e)) ?_ (scrA m c t ht k e (i 1) h1)
    rw [outsAt0_A m c t ht]
    frame_out
  · rw [outsAt0_B m c t ht]
    frame_out
    pointwise [k0_pay2]
    refine Finset.sum_congr rfl fun k _ => congrArg₂ (· * ·) (x_blk m c t r k (i 0) h0) ?_
    exact (congrFun (Memref.IsWhole.read_unread (Memref.isWhole_whole _) _) _).trans
      (scr_all m c (t.val - 1) (Nat.lt_of_le_of_lt (Nat.sub_le _ _) t.isLt) k e (i 1) (by omega))

/-- The whole result of the call. -/
theorem final : (dats m 0 c).arrAt 2 cfg0.N
    = prod (m ((c.tc : Thread nD τ).loc main_arg0)) (m ((c.tc : Thread nD τ).loc main_arg1)) := by
  refine (dats m 0 c).arrAt_eq_of_covers 2 _ (by decide +kernel) fun t _ y => ?_
  blk_simp
  rw [after0_2]
  have b0 : (y 0).val < 1088 := ((cfg0.win 2).xinj (grid0.coords t) y 0).isLt
  have b1 : (y 1).val < 512 := ((cfg0.win 2).xinj (grid0.coords t) y 1).isLt
  have eY : (cfg0.win 2).xinj (grid0.coords t) y = ix2 ⟨(y 0).val, b0⟩ ⟨(y 1).val, b1⟩ := by
    funext a
    match a with
    | ⟨0, _⟩ => rfl
    | ⟨1, _⟩ => rfl
  refine (congrArg (outsAt0 m c t.val t.isLt).1 eY).trans (out_pt m c t _ _ _ ?_ ?_)
  · show ((win0_2.blk t).view.emb y 0 : ℕ) = _
    blk_simp [idx2 t]
  · show ((win0_2.blk t).view.emb y 1 : ℕ) = _
    blk_simp [idx2 t]

theorem frame_p : Cert.quiescent_Mq := fun m ρ _ => Cert.Mq.Gen.frame m ρ
theorem frame_i : Cert.quiescent_MqIdeal := fun m ρ _ => Cert.MqIdeal.Gen.frame m ρ
theorem frame_r : Cert.quiescent_MqRefIdeal := fun m ρ _ =>
  (θ_run Cert.MqRefIdeal.defs _ _).mono (fun r h => ⟨fun c => (h c).2, sem_eq_zero_of_no_sems (by decide) r.2⟩)
    (Cert.MqRefIdeal.Value.run (F := Ideal) m ρ)

theorem preserves : Cert.preserves_Mq_MqIdeal := trivial

/-- Kernel and reference compute the same products. -/
theorem algebraic : Cert.algebraic_MqIdeal_MqRefIdeal := by
  intro m ρ m' ρ' _ hagree
  refine ⟨fun c => prod (m ((c.tc : Thread _ _).loc Cert.MqIdeal.main_arg0)) (m ((c.tc : Thread _ _).loc Cert.MqIdeal.main_arg1)), ?_, ?_⟩
  · exact (θ_run Cert.MqIdeal.defs _ _).mono (fun r h c => ⟨(h c).1.trans (final m c), (h c).2⟩) (Cert.MqIdeal.Value.run_blocks m ρ)
  · refine (θ_run Cert.MqRefIdeal.defs _ _).mono (fun r h c => ⟨(h c).1.trans ?_, (h c).2⟩) (Cert.MqRefIdeal.Value.run m' ρ')
    rw [(hagree c).1, (hagree c).2]
    funext i
    obtain ⟨R, C, rfl⟩ : ∃ (R : Fin 8704) (C : Fin 4096), i = ix2 R C :=
      ⟨i 0, i 1, by funext a; match a with | ⟨0, _⟩ => rfl | ⟨1, _⟩ => rfl⟩
    pointwise [prod]

end Cert.MqProof
end
-- ==== Proof.Mo.lean ====
module

public import proofs.«01_k».proof.Defs
public import proofs.«01_k».proof.Proof.Gen.Mo.Frame
public import proofs.«01_k».proof.Proof.Gen.MoIdeal.Value
public import proofs.«01_k».proof.Proof.Gen.MoRefIdeal.Run
public import Idealize.ShloMosaic.Lib.Pipeline.ValueKit
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.MoProof

open Idealize.ShloMosaic Idealize.ShloMosaic.TcCoe Idealize.SL.Sem
open Cert.MoIdeal Cert.MoIdeal.Gen

variable (m : (ℓ : Loc nD τ sig) → Buf (Elt Ideal) ℓ) (c : Dev nD)

/-- One element of the residual plus the projection: a row of the activations against a column of one layer's weights. -/
def prod (X : S8704x4096.Idx → EReal) (W : S2x4096x4096.Idx → EReal) (Z : S8704x4096.Idx → EReal) (i : S8704x4096.Idx) : EReal :=
  Z i + ∑ k : Fin 4096, X (ix2 (i 0) k) * W (ix3 0 k (i 1))

theorem idx0 : ∀ t : Fin cfg0.N, win0_0.index t (0 : Fin 2) = t.val % 8 ∧ win0_0.index t (1 : Fin 2) = 0 := by decide +kernel
theorem idx1 : ∀ t : Fin cfg0.N, win0_1.index t (0 : Fin 3) = 0 ∧ win0_1.index t (1 : Fin 3) = 0 ∧ win0_1.index t (2 : Fin 3) = t.val / 8 := by decide +kernel
theorem idx2 : ∀ t : Fin cfg0.N, win0_2.index t (0 : Fin 2) = t.val % 8 ∧ win0_2.index t (1 : Fin 2) = t.val / 8 := by decide +kernel

theorem idx3 : ∀ t : Fin cfg0.N, win0_3.index t (0 : Fin 2) = t.val % 8 ∧ win0_3.index t (1 : Fin 2) = t.val / 8 := by decide +kernel

/-- The block of the residual at a point. -/
theorem z_blk (t : Fin cfg0.N) (r : Fin 1088) (e : Fin 512) (i : S8704x4096.Idx)
    (h0 : (i 0 : ℕ) = t.val % 8 * 1088 + r.val) (h1 : (i 1 : ℕ) = t.val / 8 * 512 + e.val) :
    iblk m c 2 t (ix2 r e) = m ((c.tc : Thread nD τ).loc main_arg2) i := by
  unfold iblk
  show V m c main_arg2 _ = _
  rw [V_main_arg2]
  blk_ext [idx2 t]

/-- The block of activations at a point: 1088 rows. -/
theorem x_blk (t : Fin cfg0.N) (r : Fin 1088) (k : Fin 4096) (R : Fin 8704) (hR : R.val = t.val % 8 * 1088 + r.val) :
    iblk m c 0 t (ix2 r k) = m ((c.tc : Thread nD τ).loc main_arg0) (ix2 R k) := by
  unfold iblk
  show V m c main_arg0 _ = _
  rw [V_main_arg0]
  blk_ext [idx0 t]

/-- The block of weights at a point: 512 columns. -/
theorem w_blk (t : Fin cfg0.N) (k : Fin 4096) (e : Fin 512) (C : Fin 4096) (hC : C.val = t.val / 8 * 512 + e.val) :
    iblk m c 1 t (ix3 0 k e) = m ((c.tc : Thread nD τ).loc main_arg1) (ix3 0 k C) := by
  unfold iblk
  show V m c main_arg1 _ = _
  rw [V_main_arg1]
  blk_ext [idx1 t]

/-- After the first row block of a column block the scratch holds that column block of the weights. -/
theorem scrA (t : Fin cfg0.N) (ht : t.val % 8 = 0) (k : Fin 4096) (e : Fin 512) (C : Fin 4096) (hC : C.val = t.val / 8 * 512 + e.val) :
    (outsAt0 m c t.val t.isLt).2 (ix2 k e) = m ((c.tc : Thread nD τ).loc main_arg1) (ix3 0 k C) := by
  rw [outsAt0_A m c t ht]
  frame_out
  pointwise [k0_pay1]
  exact w_blk m c t k e C hC

/-- It holds it at every point. -/
theorem scr_all (n : ℕ) : ∀ (hn : n < cfg0.N) (k : Fin 4096) (e : Fin 512) (C : Fin 4096), C.val = n / 8 * 512 + e.val →
    (outsAt0 m c n hn).2 (ix2 k e) = m ((c.tc : Thread nD τ).loc main_arg1) (ix3 0 k C) := by
  induction n using Nat.strong_induction_on with
  | _ n ih =>
    intro hn k e C hC
    by_cases ht : n % 8 = 0
    · exact scrA m c ⟨n, hn⟩ ht k e C hC
    · have i1 := ih (n - 1) (by omega) (Nat.lt_of_le_of_lt (Nat.sub_le _ _) hn) k e C (by omega)
      have e1 := outsAt0_B m c ⟨n, hn⟩ ht
      dsimp only at e1
      rw [e1]
      exact i1

/-- The output block of every point. -/
theorem out_pt (t : Fin cfg0.N) (r : Fin 1088) (e : Fin 512) (i : S8704x4096.Idx)
    (h0 : (i 0 : ℕ) = t.val % 8 * 1088 + r.val) (h1 : (i 1 : ℕ) = t.val / 8 * 512 + e.val) :
    (outsAt0 m c t.val t.isLt).1 (ix2 r e)
      = prod (m ((c.tc : Thread nD τ).loc main_arg0)) (m ((c.tc : Thread nD τ).loc main_arg1)) (m ((c.tc : Thread nD τ).loc main_arg2)) i := by
  by_cases ht : t.val % 8 = 0
  · rw [outsAt0_A m c t ht]
    frame_out
    pointwise [k0_pay2]
    refine congrArg₂ (· + ·) (z_blk m c t r e i h0 h1) ?_
    refine Finset.sum_congr rfl fun k _ => congrArg₂ (· * ·) (x_blk m c t r k (i 0) h0) ?_
    refine Eq.trans (b := (outsAt0 m c t.val t.isLt).2 (ix2 k e)) ?_ (scrA m c t ht k e (i 1) h1)
    rw [outsAt0_A m c t ht]
    frame_out
  · rw [outsAt0_B m c t ht]
    frame_out
    pointwise [k0_pay2]
    refine congrArg₂ (· + ·) (z_blk m c t r e i h0 h1) ?_
    refine Finset.sum_congr rfl fun k _ => congrArg₂ (· * ·) (x_blk m c t r k (i 0) h0) ?_
    exact (congrFun (Memref.IsWhole.read_unread (Memref.isWhole_whole _) _) _).trans
      (scr_all m c (t.val - 1) (Nat.lt_of_le_of_lt (Nat.sub_le _ _) t.isLt) k e (i 1) (by omega))

/-- The whole result of the call. -/
theorem final : (dats m 0 c).arrAt 3 cfg0.N
    = prod (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  have b0 : (y 0).val < 1088 := ((cfg0.win 3).xinj (grid0.coords t) y 0).isLt
  have b1 : (y 1).val < 512 := ((cfg0.win 3).xinj (grid0.coords t) y 1).isLt
  have eY : (cfg0.win 3).xinj (grid0.coords t) y = ix2 ⟨(y 0).val, b0⟩ ⟨(y 1).val, b1⟩ := by
    funext a
    match a with
    | ⟨0, _⟩ => rfl
    | ⟨1, _⟩ => rfl
  refine (congrArg (outsAt0 m c t.val t.isLt).1 eY).trans (out_pt m c t _ _ _ ?_ ?_)
  · show ((win0_3.blk t).view.emb y 0 : ℕ) = _
    blk_simp [idx3 t]
  · show ((win0_3.blk t).view.emb y 1 : ℕ) = _
    blk_simp [idx3 t]

theorem frame_p : Cert.quiescent_Mo := fun m ρ _ => Cert.Mo.Gen.frame m ρ
theorem frame_i : Cert.quiescent_MoIdeal := fun m ρ _ => Cert.MoIdeal.Gen.frame m ρ
theorem frame_r : Cert.quiescent_MoRefIdeal := fun m ρ _ =>
  (θ_run Cert.MoRefIdeal.defs _ _).mono (fun r h => ⟨fun c => (h c).2, sem_eq_zero_of_no_sems (by decide) r.2⟩)
    (Cert.MoRefIdeal.Value.run (F := Ideal) m ρ)

theorem preserves : Cert.preserves_Mo_MoIdeal := trivial

/-- Kernel and reference compute the same products. -/
theorem algebraic : Cert.algebraic_MoIdeal_MoRefIdeal := by
  intro m ρ m' ρ' _ hagree
  refine ⟨fun c => prod (m ((c.tc : Thread _ _).loc Cert.MoIdeal.main_arg0)) (m ((c.tc : Thread _ _).loc Cert.MoIdeal.main_arg1)) (m ((c.tc : Thread _ _).loc Cert.MoIdeal.main_arg2)), ?_, ?_⟩
  · exact (θ_run Cert.MoIdeal.defs _ _).mono (fun r h c => ⟨(h c).1.trans (final m c), (h c).2⟩) (Cert.MoIdeal.Value.run_blocks m ρ)
  · refine (θ_run Cert.MoRefIdeal.defs _ _).mono (fun r h c => ⟨(h c).1.trans ?_, (h c).2⟩) (Cert.MoRefIdeal.Value.run m' ρ')
    rw [(hagree c).1, (hagree c).2.1, (hagree c).2.2]
    funext i
    obtain ⟨R, C, rfl⟩ : ∃ (R : Fin 8704) (C : Fin 4096), i = ix2 R C :=
      ⟨i 0, i 1, by funext a; match a with | ⟨0, _⟩ => rfl | ⟨1, _⟩ => rfl⟩
    pointwise [prod]

end Cert.MoProof
end
-- ==== Proof.Aq.lean ====
module

public import proofs.«01_k».proof.Defs
public import proofs.«01_k».proof.Proof.Gen.Aq.Frame
public import proofs.«01_k».proof.Proof.Gen.AqIdeal.Value
public import proofs.«01_k».proof.Proof.Gen.AqRefIdeal.Run
public import Idealize.ShloMosaic.Lib.Pipeline.ValueKit
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.AqProof

open Idealize.ShloMosaic Idealize.ShloMosaic.TcCoe Idealize.SL.Sem
open Cert.AqIdeal Cert.AqIdeal.Gen

variable (m : (ℓ : Loc nD τ sig) → Buf (Elt Ideal) ℓ) (c : Dev nD)

/-- One element of the projection: a row of the activations against a column of one layer's weights. -/
def prod (X : S8704x4096.Idx → EReal) (W : S1x4096x4096.Idx → EReal) (i : S8704x4096.Idx) : EReal :=
  ∑ k : Fin 4096, X (ix2 (i 0) k) * W (ix3 0 k (i 1))

theorem idx0 : ∀ t : Fin cfg0.N, win0_0.index t (0 : Fin 2) = t.val % 8 ∧ win0_0.index t (1 : Fin 2) = 0 := by decide +kernel
theorem idx1 : ∀ t : Fin cfg0.N, win0_1.index t (0 : Fin 3) = 0 ∧ win0_1.index t (1 : Fin 3) = 0 ∧ win0_1.index t (2 : Fin 3) = t.val / 8 := by decide +kernel
theorem idx2 : ∀ t : Fin cfg0.N, win0_2.index t (0 : Fin 2) = t.val % 8 ∧ win0_2.index t (1 : Fin 2) = t.val / 8 := by decide +kernel

/-- The block of activations at a point: 1088 rows. -/
theorem x_blk (t : Fin cfg0.N) (r : Fin 1088) (k : Fin 4096) (R : Fin 8704) (hR : R.val = t.val % 8 * 1088 + r.val) :
    iblk m c 0 t (ix2 r k) = m ((c.tc : Thread nD τ).loc main_arg0) (ix2 R k) := by
  unfold iblk
  show V m c main_arg0 _ = _
  rw [V_main_arg0]
  blk_ext [idx0 t]

/-- The block of weights at a point: 512 columns. -/
theorem w_blk (t : Fin cfg0.N) (k : Fin 4096) (e : Fin 512) (C : Fin 4096) (hC : C.val = t.val / 8 * 512 + e.val) :
    iblk m c 1 t (ix3 0 k e) = m ((c.tc : Thread nD τ).loc main_arg1) (ix3 0 k C) := by
  unfold iblk
  show V m c main_arg1 _ = _
  rw [V_main_arg1]
  blk_ext [idx1 t]

/-- After the first row block of a column block the scratch holds that column block of the weights. -/
theorem scrA (t : Fin cfg0.N) (ht : t.val % 8 = 0) (k : Fin 4096) (e : Fin 512) (C : Fin 4096) (hC : C.val = t.val / 8 * 512 + e.val) :
    (outsAt0 m c t.val t.isLt).2 (ix2 k e) = m ((c.tc : Thread nD τ).loc main_arg1) (ix3 0 k C) := by
  rw [outsAt0_A m c t ht]
  frame_out
  pointwise [k0_pay1]
  exact w_blk m c t k e C hC

/-- It holds it at every point. -/
theorem scr_all (n : ℕ) : ∀ (hn : n < cfg0.N) (k : Fin 4096) (e : Fin 512) (C : Fin 4096), C.val = n / 8 * 512 + e.val →
    (outsAt0 m c n hn).2 (ix2 k e) = m ((c.tc : Thread nD τ).loc main_arg1) (ix3 0 k C) := by
  induction n using Nat.strong_induction_on with
  | _ n ih =>
    intro hn k e C hC
    by_cases ht : n % 8 = 0
    · exact scrA m c ⟨n, hn⟩ ht k e C hC
    · have i1 := ih (n - 1) (by omega) (Nat.lt_of_le_of_lt (Nat.sub_le _ _) hn) k e C (by omega)
      have e1 := outsAt0_B m c ⟨n, hn⟩ ht
      dsimp only at e1
      rw [e1]
      exact i1

/-- The output block of every point. -/
theorem out_pt (t : Fin cfg0.N) (r : Fin 1088) (e : Fin 512) (i : S8704x4096.Idx)
    (h0 : (i 0 : ℕ) = t.val % 8 * 1088 + r.val) (h1 : (i 1 : ℕ) = t.val / 8 * 512 + e.val) :
    (outsAt0 m c t.val t.isLt).1 (ix2 r e)
      = prod (m ((c.tc : Thread nD τ).loc main_arg0)) (m ((c.tc : Thread nD τ).loc main_arg1)) i := by
  by_cases ht : t.val % 8 = 0
  · rw [outsAt0_A m c t ht]
    frame_out
    pointwise [k0_pay2]
    refine Finset.sum_congr rfl fun k _ => congrArg₂ (· * ·) (x_blk m c t r k (i 0) h0) ?_
    refine Eq.trans (b := (outsAt0 m c t.val t.isLt).2 (ix2 k e)) ?_ (scrA m c t ht k e (i 1) h1)
    rw [outsAt0_A m c t ht]
    frame_out
  · rw [outsAt0_B m c t ht]
    frame_out
    pointwise [k0_pay2]
    refine Finset.sum_congr rfl fun k _ => congrArg₂ (· * ·) (x_blk m c t r k (i 0) h0) ?_
    exact (congrFun (Memref.IsWhole.read_unread (Memref.isWhole_whole _) _) _).trans
      (scr_all m c (t.val - 1) (Nat.lt_of_le_of_lt (Nat.sub_le _ _) t.isLt) k e (i 1) (by omega))

/-- The whole result of the call. -/
theorem final : (dats m 0 c).arrAt 2 cfg0.N
    = prod (m ((c.tc : Thread nD τ).loc main_arg0)) (m ((c.tc : Thread nD τ).loc main_arg1)) := by
  refine (dats m 0 c).arrAt_eq_of_covers 2 _ (by decide +kernel) fun t _ y => ?_
  blk_simp
  rw [after0_2]
  have b0 : (y 0).val < 1088 := ((cfg0.win 2).xinj (grid0.coords t) y 0).isLt
  have b1 : (y 1).val < 512 := ((cfg0.win 2).xinj (grid0.coords t) y 1).isLt
  have eY : (cfg0.win 2).xinj (grid0.coords t) y = ix2 ⟨(y 0).val, b0⟩ ⟨(y 1).val, b1⟩ := by
    funext a
    match a with
    | ⟨0, _⟩ => rfl
    | ⟨1, _⟩ => rfl
  refine (congrArg (outsAt0 m c t.val t.isLt).1 eY).trans (out_pt m c t _ _ _ ?_ ?_)
  · show ((win0_2.blk t).view.emb y 0 : ℕ) = _
    blk_simp [idx2 t]
  · show ((win0_2.blk t).view.emb y 1 : ℕ) = _
    blk_simp [idx2 t]

theorem frame_p : Cert.quiescent_Aq := fun m ρ _ => Cert.Aq.Gen.frame m ρ
theorem frame_i : Cert.quiescent_AqIdeal := fun m ρ _ => Cert.AqIdeal.Gen.frame m ρ
theorem frame_r : Cert.quiescent_AqRefIdeal := fun m ρ _ =>
  (θ_run Cert.AqRefIdeal.defs _ _).mono (fun r h => ⟨fun c => (h c).2, sem_eq_zero_of_no_sems (by decide) r.2⟩)
    (Cert.AqRefIdeal.Value.run (F := Ideal) m ρ)

theorem preserves : Cert.preserves_Aq_AqIdeal := trivial

/-- The reference's product, one element. -/
theorem ref_dot (X : FVec Ideal Cert.AqRefIdeal.S8704x4096 .bf16) (W : FVec Ideal Cert.AqRefIdeal.S1x4096x4096 .f32) (R : Fin 8704) (C : Fin 4096) :
    Host.dotGeneral Cert.AqRefIdeal.dot_S8704x4096_S4096x4096_S8704x4096_1_0_0_1_n_n none (extf .f32 X Cert.AqRefIdeal.Facts₀.bitsLt_bf16_f32)
      (shapeCast _ W Cert.AqRefIdeal.Facts₀.shapeCasts_S1x4096x4096_S4096x4096) (ix2 R C) = ∑ k : Fin 4096, X (ix2 R k) * W (ix3 0 k C) := by
  pointwise

/-- Kernel and reference compute the same products. -/
theorem algebraic : Cert.algebraic_AqIdeal_AqRefIdeal := by
  intro m ρ m' ρ' _ hagree
  refine ⟨fun c => prod (m ((c.tc : Thread _ _).loc Cert.AqIdeal.main_arg0)) (m ((c.tc : Thread _ _).loc Cert.AqIdeal.main_arg1)), ?_, ?_⟩
  · exact (θ_run Cert.AqIdeal.defs _ _).mono (fun r h c => ⟨(h c).1.trans (final m c), (h c).2⟩) (Cert.AqIdeal.Value.run_blocks m ρ)
  · refine (θ_run Cert.AqRefIdeal.defs _ _).mono (fun r h c => ⟨(h c).1.trans ?_, (h c).2⟩) (Cert.AqRefIdeal.Value.run m' ρ')
    rw [(hagree c).1, (hagree c).2]
    funext i
    obtain ⟨R, C, rfl⟩ : ∃ (R : Fin 8704) (C : Fin 4096), i = ix2 R C :=
      ⟨i 0, i 1, by funext a; match a with | ⟨0, _⟩ => rfl | ⟨1, _⟩ => rfl⟩
    exact ref_dot _ _ R C

end Cert.AqProof
end
-- ==== Proof.Ao.lean ====
module

public import proofs.«01_k».proof.Defs
public import proofs.«01_k».proof.Proof.Gen.Ao.Frame
public import proofs.«01_k».proof.Proof.Gen.AoIdeal.Value
public import proofs.«01_k».proof.Proof.Gen.AoRefIdeal.Run
public import Idealize.ShloMosaic.Lib.Pipeline.ValueKit
public import Idealize.ShloMosaic.Lib.Pointwise
public import Idealize.ShloMosaic.Lib.Tactic
public import Idealize.ShloMosaic.Lib.Claim
public import Idealize.ShloMosaic.Lib.Quiescent

@[expose] public section

set_option maxRecDepth 16384

noncomputable section

namespace Cert.AoProof

open Idealize.ShloMosaic Idealize.ShloMosaic.TcCoe Idealize.SL.Sem
open Cert.AoIdeal Cert.AoIdeal.Gen

variable (m : (ℓ : Loc nD τ sig) → Buf (Elt Ideal) ℓ) (c : Dev nD)

/-- One element of the residual plus the projection: a row of the activations against a column of one layer's weights. -/
def prod (X : S8704x4096.Idx → EReal) (W : S1x4096x4096.Idx → EReal) (Z : S8704x4096.Idx → EReal) (i : S8704x4096.Idx) : EReal :=
  Z i + ∑ k : Fin 4096, X (ix2 (i 0) k) * W (ix3 0 k (i 1))

theorem idx0 : ∀ t : Fin cfg0.N, win0_0.index t (0 : Fin 2) = t.val % 8 ∧ win0_0.index t (1 : Fin 2) = 0 := by decide +kernel
theorem idx1 : ∀ t : Fin cfg0.N, win0_1.index t (0 : Fin 3) = 0 ∧ win0_1.index t (1 : Fin 3) = 0 ∧ win0_1.index t (2 : Fin 3) = t.val / 8 := by decide +kernel
theorem idx2 : ∀ t : Fin cfg0.N, win0_2.index t (0 : Fin 2) = t.val % 8 ∧ win0_2.index t (1 : Fin 2) = t.val / 8 := by decide +kernel

theorem idx3 : ∀ t : Fin cfg0.N, win0_3.index t (0 : Fin 2) = t.val % 8 ∧ win0_3.index t (1 : Fin 2) = t.val / 8 := by decide +kernel

/-- The block of the residual at a point. -/
theorem z_blk (t : Fin cfg0.N) (r : Fin 1088) (e : Fin 512) (i : S8704x4096.Idx)
    (h0 : (i 0 : ℕ) = t.val % 8 * 1088 + r.val) (h1 : (i 1 : ℕ) = t.val / 8 * 512 + e.val) :
    iblk m c 2 t (ix2 r e) = m ((c.tc : Thread nD τ).loc main_arg2) i := by
  unfold iblk
  show V m c main_arg2 _ = _
  rw [V_main_arg2]
  blk_ext [idx2 t]

/-- The block of activations at a point: 1088 rows. -/
theorem x_blk (t : Fin cfg0.N) (r : Fin 1088) (k : Fin 4096) (R : Fin 8704) (hR : R.val = t.val % 8 * 1088 + r.val) :
    iblk m c 0 t (ix2 r k) = m ((c.tc : Thread nD τ).loc main_arg0) (ix2 R k) := by
  unfold iblk
  show V m c main_arg0 _ = _
  rw [V_main_arg0]
  blk_ext [idx0 t]

/-- The block of weights at a point: 512 columns. -/
theorem w_blk (t : Fin cfg0.N) (k : Fin 4096) (e : Fin 512) (C : Fin 4096) (hC : C.val = t.val / 8 * 512 + e.val) :
    iblk m c 1 t (ix3 0 k e) = m ((c.tc : Thread nD τ).loc main_arg1) (ix3 0 k C) := by
  unfold iblk
  show V m c main_arg1 _ = _
  rw [V_main_arg1]
  blk_ext [idx1 t]

/-- After the first row block of a column block the scratch holds that column block of the weights. -/
theorem scrA (t : Fin cfg0.N) (ht : t.val % 8 = 0) (k : Fin 4096) (e : Fin 512) (C : Fin 4096) (hC : C.val = t.val / 8 * 512 + e.val) :
    (outsAt0 m c t.val t.isLt).2 (ix2 k e) = m ((c.tc : Thread nD τ).loc main_arg1) (ix3 0 k C) := by
  rw [outsAt0_A m c t ht]
  frame_out
  pointwise [k0_pay1]
  exact w_blk m c t k e C hC

/-- It holds it at every point. -/
theorem scr_all (n : ℕ) : ∀ (hn : n < cfg0.N) (k : Fin 4096) (e : Fin 512) (C : Fin 4096), C.val = n / 8 * 512 + e.val →
    (outsAt0 m c n hn).2 (ix2 k e) = m ((c.tc : Thread nD τ).loc main_arg1) (ix3 0 k C) := by
  induction n using Nat.strong_induction_on with
  | _ n ih =>
    intro hn k e C hC
    by_cases ht : n % 8 = 0
    · exact scrA m c ⟨n, hn⟩ ht k e C hC
    · have i1 := ih (n - 1) (by omega) (Nat.lt_of_le_of_lt (Nat.sub_le _ _) hn) k e C (by omega)
      have e1 := outsAt0_B m c ⟨n, hn⟩ ht
      dsimp only at e1
      rw [e1]
      exact i1

/-- The output block of every point. -/
theorem out_pt (t : Fin cfg0.N) (r : Fin 1088) (e : Fin 512) (i : S8704x4096.Idx)
    (h0 : (i 0 : ℕ) = t.val % 8 * 1088 + r.val) (h1 : (i 1 : ℕ) = t.val / 8 * 512 + e.val) :
    (outsAt0 m c t.val t.isLt).1 (ix2 r e)
      = prod (m ((c.tc : Thread nD τ).loc main_arg0)) (m ((c.tc : Thread nD τ).loc main_arg1)) (m ((c.tc : Thread nD τ).loc main_arg2)) i := by
  by_cases ht : t.val % 8 = 0
  · rw [outsAt0_A m c t ht]
    frame_out
    pointwise [k0_pay2]
    refine congrArg₂ (· + ·) (z_blk m c t r e i h0 h1) ?_
    refine Finset.sum_congr rfl fun k _ => congrArg₂ (· * ·) (x_blk m c t r k (i 0) h0) ?_
    refine Eq.trans (b := (outsAt0 m c t.val t.isLt).2 (ix2 k e)) ?_ (scrA m c t ht k e (i 1) h1)
    rw [outsAt0_A m c t ht]
    frame_out
  · rw [outsAt0_B m c t ht]
    frame_out
    pointwise [k0_pay2]
    refine congrArg₂ (· + ·) (z_blk m c t r e i h0 h1) ?_
    refine Finset.sum_congr rfl fun k _ => congrArg₂ (· * ·) (x_blk m c t r k (i 0) h0) ?_
    exact (congrFun (Memref.IsWhole.read_unread (Memref.isWhole_whole _) _) _).trans
      (scr_all m c (t.val - 1) (Nat.lt_of_le_of_lt (Nat.sub_le _ _) t.isLt) k e (i 1) (by omega))

/-- The whole result of the call. -/
theorem final : (dats m 0 c).arrAt 3 cfg0.N
    = prod (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  have b0 : (y 0).val < 1088 := ((cfg0.win 3).xinj (grid0.coords t) y 0).isLt
  have b1 : (y 1).val < 512 := ((cfg0.win 3).xinj (grid0.coords t) y 1).isLt
  have eY : (cfg0.win 3).xinj (grid0.coords t) y = ix2 ⟨(y 0).val, b0⟩ ⟨(y 1).val, b1⟩ := by
    funext a
    match a with
    | ⟨0, _⟩ => rfl
    | ⟨1, _⟩ => rfl
  refine (congrArg (outsAt0 m c t.val t.isLt).1 eY).trans (out_pt m c t _ _ _ ?_ ?_)
  · show ((win0_3.blk t).view.emb y 0 : ℕ) = _
    blk_simp [idx3 t]
  · show ((win0_3.blk t).view.emb y 1 : ℕ) = _
    blk_simp [idx3 t]

theorem frame_p : Cert.quiescent_Ao := fun m ρ _ => Cert.Ao.Gen.frame m ρ
theorem frame_i : Cert.quiescent_AoIdeal := fun m ρ _ => Cert.AoIdeal.Gen.frame m ρ
theorem frame_r : Cert.quiescent_AoRefIdeal := fun m ρ _ =>
  (θ_run Cert.AoRefIdeal.defs _ _).mono (fun r h => ⟨fun c => (h c).2, sem_eq_zero_of_no_sems (by decide) r.2⟩)
    (Cert.AoRefIdeal.Value.run (F := Ideal) m ρ)

theorem preserves : Cert.preserves_Ao_AoIdeal := trivial

/-- The reference's product, one element. -/
theorem ref_dot (X : FVec Ideal Cert.AoRefIdeal.S8704x4096 .bf16) (W : FVec Ideal Cert.AoRefIdeal.S1x4096x4096 .f32) (R : Fin 8704) (C : Fin 4096) :
    Host.dotGeneral Cert.AoRefIdeal.dot_S8704x4096_S4096x4096_S8704x4096_1_0_0_1_n_n none (extf .f32 X Cert.AoRefIdeal.Facts₀.bitsLt_bf16_f32)
      (shapeCast _ W Cert.AoRefIdeal.Facts₀.shapeCasts_S1x4096x4096_S4096x4096) (ix2 R C) = ∑ k : Fin 4096, X (ix2 R k) * W (ix3 0 k C) := by
  pointwise

/-- With the residual. -/
theorem ref_sum (X : FVec Ideal Cert.AoRefIdeal.S8704x4096 .bf16) (W : FVec Ideal Cert.AoRefIdeal.S1x4096x4096 .f32) (Z : FVec Ideal Cert.AoRefIdeal.S8704x4096 .f32) (R : Fin 8704) (C : Fin 4096) :
    addf Z (Host.dotGeneral Cert.AoRefIdeal.dot_S8704x4096_S4096x4096_S8704x4096_1_0_0_1_n_n none (extf .f32 X Cert.AoRefIdeal.Facts₀.bitsLt_bf16_f32)
      (shapeCast _ W Cert.AoRefIdeal.Facts₀.shapeCasts_S1x4096x4096_S4096x4096)) (ix2 R C) = Z (ix2 R C) + ∑ k : Fin 4096, X (ix2 R k) * W (ix3 0 k C) := by
  rw [addf_apply, ref_dot]
  rfl

/-- Kernel and reference compute the same products. -/
theorem algebraic : Cert.algebraic_AoIdeal_AoRefIdeal := by
  intro m ρ m' ρ' _ hagree
  refine ⟨fun c => prod (m ((c.tc : Thread _ _).loc Cert.AoIdeal.main_arg0)) (m ((c.tc : Thread _ _).loc Cert.AoIdeal.main_arg1)) (m ((c.tc : Thread _ _).loc Cert.AoIdeal.main_arg2)), ?_, ?_⟩
  · exact (θ_run Cert.AoIdeal.defs _ _).mono (fun r h c => ⟨(h c).1.trans (final m c), (h c).2⟩) (Cert.AoIdeal.Value.run_blocks m ρ)
  · refine (θ_run Cert.AoRefIdeal.defs _ _).mono (fun r h c => ⟨(h c).1.trans ?_, (h c).2⟩) (Cert.AoRefIdeal.Value.run m' ρ')
    rw [(hagree c).1, (hagree c).2.1, (hagree c).2.2]
    funext i
    obtain ⟨R, C, rfl⟩ : ∃ (R : Fin 8704) (C : Fin 4096), i = ix2 R C :=
      ⟨i 0, i 1, by funext a; match a with | ⟨0, _⟩ => rfl | ⟨1, _⟩ => rfl⟩
    exact ref_sum _ _ _ R C

end Cert.AoProof
end
-- ==== Proof.MaRef.lean ====
module

public import proofs.«01_k».proof.Proof.Gen.MaRefIdeal.Run
public import Idealize.ShloMosaic.Lib.Pointwise
public import Idealize.ShloMosaic.Lib.Tactic
public import Idealize.ShloMosaic.Lib.Claim
public import proofs.«01_k».proof.Proof.Softmax

@[expose] public section

set_option maxRecDepth 16384

noncomputable section

namespace Cert.MaProof

open Idealize.ShloMosaic Idealize.ShloMosaic.TcCoe Idealize.SL.Sem Cert.Softmax

/-- The pattern of `-∞`. -/
theorem ninf : Ideal.ofBits .f32 0xFF800000#32 = (⊥ : EReal) := by
  simp [Ideal.ofBits, Ideal.ieee]

/-- The scale `1 / √1024` as it is written in binary32. -/
def scl : EReal := Ideal.ofBits .f32 0x3D000000#32

/-- One element of the memory attention: the softmax of a row's scores against the 256 memory keys of its head, applied to the memory values. -/
def att (Q : (⟨2, ![8704, 4096]⟩ : Shape).Idx → EReal) (KV : (⟨2, ![256, 8192]⟩ : Shape).Idx → EReal) (R : Fin 8704) (C : Fin 4096) : EReal :=
  mix (fun j : Fin 256 => (∑ e : Fin 1024, Q (ix2 R ⟨C.val / 1024 * 1024 + e.val, by omega⟩)
      * KV (ix2 j ⟨C.val / 1024 * 1024 + e.val, by omega⟩)) * scl)
    (fun j => KV (ix2 j ⟨4096 + C.val, by omega⟩))

namespace Ref
open Cert.MaRefIdeal Cert.MaRefIdeal.Gen Cert.MaRefIdeal.Value

theorem lay_at (o : FVec Ideal S1x4x1024x8192 .f32) (R : Fin 8704) (hR : R.val < 8192) (C : Fin 4096) :
    (pad S8704x4096 ![0, 0] ![512, 0] ![0, 0] (truncf .bf16 (shapeCast _ (transpose S1x8192x4x1024 [0, 3, 1, 2] o
      transposes_S1x4x1024x8192_S1x8192x4x1024_0_3_1_2) shapeCasts_S1x8192x4x1024_S8192x4096) bitsLt_bf16_f32) (sitofp .bf16 (constantI S_ 32 0#32))
      pads_S8192x4096_S8704x4096_05120_000 h_S_ : FVec Ideal S8704x4096 .bf16) (ix2 R C)
      = o (ix4 0 ⟨C.val / 1024, by omega⟩ ⟨C.val % 1024, by omega⟩ ⟨R.val, hR⟩) := by
  pointwise
  rw [dif_pos hR]

theorem dot_at (p : FVec Ideal S1x4x8192x256 .f32) (v : FVec Ideal S1x256x4x1024 .f32) (h : Fin 4) (d : Fin 1024) (r : Fin 8192) :
    ((Host.dotGeneral dot_S1x256x4x1024_S1x4x8192x256_S1x4x1024x8192_1_3_3_2_02_01 none v p) : FVec Ideal S1x4x1024x8192 .f32) (ix4 0 h d r)
      = ∑ j : Fin 256, (show EReal from v (ix4 0 j h d)) * (show EReal from p (ix4 0 h r j)) := by
  pointwise

theorem div_at (x : FVec Ideal S1x4x8192x256 .f32) (h : Fin 4) (r : Fin 8192) (j : Fin 256) :
    ((Host.divf x (broadcastInDim S1x4x8192x256 ![0, 1, 2, 3] bcast_S1x4x8192x1_S1x4x8192x256_0_1_2_3 (broadcastInDim S1x4x8192x1 ![0, 1, 2]
      bcast_S1x4x8192_S1x4x8192x1_0_1_2 (Host.reduceAdd x (constant S_ .f32 0x00000000#32) reducesTo_S1x4x8192x256_S1x4x8192_d3 h_S_)))) : FVec Ideal S1x4x8192x256 .f32) (ix4 0 h r j)
      = Ideal.div (x (ix4 0 h r j)) (∑ k : Fin 256, x (ix4 0 h r k)) := by
  pointwise

theorem red_at (s : FVec Ideal S1x4x8192x256 .f32) (h : Fin 4) (r : Fin 8192) :
    ((Host.reduce FloatOps.maximumf s (constant S_ .f32 0xFF800000#32) reducesTo_S1x4x8192x256_S1x4x8192_d3 h_S_) : FVec Ideal S1x4x8192 .f32) (ix3 0 h r)
      = top fun k : Fin 256 => s (ix4 0 h r k) := by
  rw [Host.reduce_eq_fold, Shape.ReducesTo.fold_fiber_r4_a3]
  exact congrArg₂ (fun (z : EReal) (f : Fin 256 → EReal) => Finset.univ.fold max z f) ninf rfl

theorem bcm_at (x : FVec Ideal S1x4x8192 .f32) (h : Fin 4) (r : Fin 8192) (j : Fin 256) :
    ((broadcastInDim S1x4x8192x256 ![0, 1, 2, 3] bcast_S1x4x8192x1_S1x4x8192x256_0_1_2_3 (broadcastInDim S1x4x8192x1 ![0, 1, 2]
      bcast_S1x4x8192_S1x4x8192x1_0_1_2 (maximumf (broadcastInDim S1x4x8192 ![] bcast_S_S1x4x8192 (constant S_ .f32 0xFF800000#32)) x))) : FVec Ideal S1x4x8192x256 .f32) (ix4 0 h r j)
      = x (ix3 0 h r) := by
  pointwise
  rw [ninf]
  exact max_bot_left _

theorem max_at (s : FVec Ideal S1x4x8192x256 .f32) (h : Fin 4) (r : Fin 8192) (j : Fin 256) (y : EReal)
    (hy : y = top fun k : Fin 256 => s (ix4 0 h r k)) :
    ((broadcastInDim S1x4x8192x256 ![0, 1, 2, 3] bcast_S1x4x8192x1_S1x4x8192x256_0_1_2_3 (broadcastInDim S1x4x8192x1 ![0, 1, 2]
      bcast_S1x4x8192_S1x4x8192x1_0_1_2 (maximumf (broadcastInDim S1x4x8192 ![] bcast_S_S1x4x8192 (constant S_ .f32 0xFF800000#32))
      (Host.reduce FloatOps.maximumf s (constant S_ .f32 0xFF800000#32) reducesTo_S1x4x8192x256_S1x4x8192_d3 h_S_)))) : FVec Ideal S1x4x8192x256 .f32) (ix4 0 h r j) = y :=
  (bcm_at _ h r j).trans ((red_at s h r).trans hy.symm)

/-- Everything after the scores: the softmax of a row's scores applied to the memory values. -/
theorem tail_at (s : FVec Ideal S1x4x8192x256 .f32) (v : FVec Ideal S1x256x4x1024 .f32) (R : Fin 8704) (hR : R.val < 8192) (C : Fin 4096) :
    (pad S8704x4096 ![0, 0] ![512, 0] ![0, 0] (truncf .bf16 (shapeCast _ (transpose S1x8192x4x1024 [0, 3, 1, 2] (Host.dotGeneral
      dot_S1x256x4x1024_S1x4x8192x256_S1x4x1024x8192_1_3_3_2_02_01 none v (Host.divf (Host.exp (subf s (broadcastInDim S1x4x8192x256 ![0, 1, 2, 3]
      bcast_S1x4x8192x1_S1x4x8192x256_0_1_2_3 (broadcastInDim S1x4x8192x1 ![0, 1, 2] bcast_S1x4x8192_S1x4x8192x1_0_1_2 (maximumf (broadcastInDim S1x4x8192 ![]
      bcast_S_S1x4x8192 (constant S_ .f32 0xFF800000#32)) (Host.reduce FloatOps.maximumf s (constant S_ .f32 0xFF800000#32)
      reducesTo_S1x4x8192x256_S1x4x8192_d3 h_S_)))))) (broadcastInDim S1x4x8192x256 ![0, 1, 2, 3] bcast_S1x4x8192x1_S1x4x8192x256_0_1_2_3 (broadcastInDim
      S1x4x8192x1 ![0, 1, 2] bcast_S1x4x8192_S1x4x8192x1_0_1_2 (Host.reduceAdd (Host.exp (subf s (broadcastInDim S1x4x8192x256 ![0, 1, 2, 3]
      bcast_S1x4x8192x1_S1x4x8192x256_0_1_2_3 (broadcastInDim S1x4x8192x1 ![0, 1, 2] bcast_S1x4x8192_S1x4x8192x1_0_1_2 (maximumf (broadcastInDim S1x4x8192 ![]
      bcast_S_S1x4x8192 (constant S_ .f32 0xFF800000#32)) (Host.reduce FloatOps.maximumf s (constant S_ .f32 0xFF800000#32)
      reducesTo_S1x4x8192x256_S1x4x8192_d3 h_S_)))))) (constant S_ .f32 0x00000000#32) reducesTo_S1x4x8192x256_S1x4x8192_d3 h_S_)))))
      transposes_S1x4x1024x8192_S1x8192x4x1024_0_3_1_2) shapeCasts_S1x8192x4x1024_S8192x4096) bitsLt_bf16_f32) (sitofp .bf16 (constantI S_ 32 0#32))
      pads_S8192x4096_S8704x4096_05120_000 h_S_ : FVec Ideal S8704x4096 .bf16) (ix2 R C)
      = mix (fun j : Fin 256 => s (ix4 0 ⟨C.val / 1024, by omega⟩ ⟨R.val, hR⟩ j))
        (fun j => v (ix4 0 j ⟨C.val / 1024, by omega⟩ ⟨C.val % 1024, by omega⟩)) := by
  refine (lay_at _ R hR C).trans ((dot_at _ _ _ _ _).trans (Finset.sum_congr rfl fun j _ => ?_))
  refine (congrArg (fun z : EReal => (v (ix4 0 j ⟨C.val / 1024, by omega⟩ ⟨C.val % 1024, by omega⟩) : EReal) * z)
    (div_at _ _ _ _)).trans ((mul_comm _ _).trans ?_)
  have hx : ∀ k : Fin 256, _ = _ := fun k =>
    congrArg (fun z : EReal => Ideal.exp ((s (ix4 0 ⟨C.val / 1024, by omega⟩ ⟨R.val, hR⟩ k) : EReal) - z))
      (max_at s ⟨C.val / 1024, by omega⟩ ⟨R.val, hR⟩ k _ rfl)
  exact congrArg (fun z : EReal => z * (v (ix4 0 j ⟨C.val / 1024, by omega⟩ ⟨C.val % 1024, by omega⟩) : EReal))
    (congrArg₂ Ideal.div (hx j) (Finset.sum_congr rfl fun k _ => hx k))

theorem score_at (q : FVec Ideal S1x8192x4x1024 .f32) (k : FVec Ideal S1x256x4x1024 .f32) (h : Fin 4) (r : Fin 8192) (j : Fin 256) :
    ((mulf (Host.dotGeneral dot_S1x8192x4x1024_S1x256x4x1024_S1x4x8192x256_3_3_1_1_02_02 none q k) (broadcastInDim S1x4x8192x256 ![] bcast_S_S1x4x8192x256
      (constant S_ .f32 0x3D000000#32))) : FVec Ideal S1x4x8192x256 .f32) (ix4 0 h r j)
      = (∑ e : Fin 1024, (show EReal from q (ix4 0 r h e)) * (show EReal from k (ix4 0 j h e))) * scl := by
  pointwise
  rfl

theorem q_at (Q : FVec Ideal S8704x4096 .bf16) (r : Fin 8192) (h : Fin 4) (e : Fin 1024) :
    (shapeCast S1x8192x4x1024 (extf .f32 (extractStridedSlice S8192x4096 ![0, 0] Q slices_S8704x4096_S8192x4096_0_0) bitsLt_bf16_f32)
      shapeCasts_S8192x4096_S1x8192x4x1024 : FVec Ideal S1x8192x4x1024 .f32) (ix4 0 r h e)
      = Q (ix2 ⟨r.val, by omega⟩ ⟨h.val * 1024 + e.val, by omega⟩) := by
  pointwise

theorem k_at (KV : FVec Ideal S256x8192 .f32) (j : Fin 256) (h : Fin 4) (e : Fin 1024) :
    (shapeCast S1x256x4x1024 (extractStridedSlice S256x4096 ![0, 0] KV slices_S256x8192_S256x4096_0_0)
      shapeCasts_S256x4096_S1x256x4x1024 : FVec Ideal S1x256x4x1024 .f32) (ix4 0 j h e)
      = KV (ix2 j ⟨h.val * 1024 + e.val, by omega⟩) := by
  pointwise

theorem v_at (KV : FVec Ideal S256x8192 .f32) (j : Fin 256) (h : Fin 4) (e : Fin 1024) :
    (shapeCast S1x256x4x1024 (extractStridedSlice S256x4096 ![0, 4096] KV slices_S256x8192_S256x4096_0_4096)
      shapeCasts_S256x4096_S1x256x4x1024 : FVec Ideal S1x256x4x1024 .f32) (ix4 0 j h e)
      = KV (ix2 j ⟨4096 + (h.val * 1024 + e.val), by omega⟩) := by
  pointwise

end Ref
end Cert.MaProof
end
-- ==== Proof.Ma.lean ====
module

public import proofs.«01_k».proof.Defs
public import proofs.«01_k».proof.Proof.Gen.Ma.Frame
public import proofs.«01_k».proof.Proof.Gen.MaIdeal.Value
public import proofs.«01_k».proof.Proof.Gen.On_mem_rows
public import Idealize.ShloMosaic.Lib.Pipeline.ValueKit
public import Idealize.ShloMosaic.Lib.Pointwise
public import Idealize.ShloMosaic.Lib.Pipeline.ReadBack
public import Idealize.ShloMosaic.Lib.Tactic
public import Idealize.ShloMosaic.Lib.Claim
public import Idealize.ShloMosaic.Lib.Quiescent
public import proofs.«01_k».proof.Proof.Softmax
public import proofs.«01_k».proof.Proof.MaRef

@[expose] public section

set_option maxRecDepth 16384

noncomputable section

namespace Cert.MaProof

open Idealize.ShloMosaic Idealize.ShloMosaic.TcCoe Idealize.SL.Sem
open Cert.MaIdeal Cert.MaIdeal.Gen Cert.Softmax

/-- What one head's body stores at one element, over its slices of the queries, keys and values. -/
def cell (q : FVec Ideal S512x1024 .bf16) (k v : FVec Ideal S256x1024 .bf16) (r : Fin 512) (d : Fin 1024) : EReal :=
  mix (fun j : Fin 256 => (∑ e : Fin 1024, (show EReal from q (ix2 r e)) * (show EReal from k (ix2 j e))) * scl) (fun j => v (ix2 j d))

section
variable (q : FVec Ideal S512x1024 .bf16) (k v : FVec Ideal S256x1024 .bf16) (r : Fin 512) (d : Fin 1024)

theorem pay4_at : k0_pay4 (F := Ideal) q k v (ix2 r d) = cell q k v r d := by
  pointwise [k0_pay4]
  simp only [ninf, cell, mix, top, scl]

theorem pay8_at : k0_pay8 (F := Ideal) q k v (ix2 r d) = cell q k v r d := by
  pointwise [k0_pay8]
  simp only [ninf, cell, mix, top, scl]

theorem pay7_at : k0_pay7 (F := Ideal) (k0_pay5 q k) (k0_pay6 q k) v (ix2 r d) = cell q k v r d := by
  pointwise [k0_pay7, k0_pay6, k0_pay5]
  simp only [ninf, cell, mix, top, scl]

theorem pay1_at : k0_pay1 (F := Ideal) (k0_pay9 q k) (k0_pay10 q k) v (ix2 r d) = cell q k v r d := by
  pointwise [k0_pay1, k0_pay10, k0_pay9]
  simp only [ninf, cell, mix, top, scl]

theorem core (Q : S8704x4096.Idx → EReal) (KV : S256x8192.Idx → EReal) (R : Fin 8704) (C : Fin 4096)
    (hq : ∀ e : Fin 1024, q (ix2 r e) = Q (ix2 R ⟨C.val / 1024 * 1024 + e.val, by omega⟩))
    (hk : ∀ (j : Fin 256) (e : Fin 1024), k (ix2 j e) = KV (ix2 j ⟨C.val / 1024 * 1024 + e.val, by omega⟩))
    (hv : ∀ j : Fin 256, v (ix2 j d) = KV (ix2 j ⟨4096 + C.val, by omega⟩)) :
    cell q k v r d = att Q KV R C := by
  unfold cell att
  refine congrArg₂ mix (funext fun j => congrArg (· * scl) (Finset.sum_congr rfl fun e _ => ?_)) (funext hv)
  exact congrArg₂ (fun a b : EReal => a * b) (hq e) (hk j e)

end

variable (m : (ℓ : Loc nD τ sig) → Buf (Elt Ideal) ℓ) (c : Dev nD)

theorem idx0 : ∀ t : Fin cfg0.N, win0_0.index t (0 : Fin 2) = t.val ∧ win0_0.index t (1 : Fin 2) = 0 := by decide +kernel
theorem idx1 : ∀ t : Fin cfg0.N, win0_1.index t (0 : Fin 2) = 0 ∧ win0_1.index t (1 : Fin 2) = 0 := by decide +kernel
theorem idx2 : ∀ t : Fin cfg0.N, win0_2.index t (0 : Fin 2) = 0 ∧ win0_2.index t (1 : Fin 2) = 1 := by decide +kernel
theorem idx3 : ∀ t : Fin cfg0.N, win0_3.index t (0 : Fin 2) = t.val ∧ win0_3.index t (1 : Fin 2) = 0 := by decide +kernel

theorem q_blk (t : Fin cfg0.N) (r : Fin 512) (e : Fin 4096) (R : Fin 8704) (hR : R.val = t.val * 512 + r.val) (E : Fin 4096) (hE : E.val = e.val) :
    iblk m c 0 t (ix2 r e) = m ((c.tc : Thread nD τ).loc main_arg0) (ix2 R E) := by
  unfold iblk
  show V m c main_arg0 _ = _
  rw [V_main_arg0]
  blk_ext [idx0 t]

theorem k_blk (t : Fin cfg0.N) (r : Fin 256) (e : Fin 4096) (C : Fin 8192) (hC : C.val = e.val) :
    iblk m c 1 t (ix2 r e) = m ((c.tc : Thread nD τ).loc main_arg1) (ix2 r C) := by
  unfold iblk
  show V m c main_arg1 _ = _
  rw [V_main_arg1]
  blk_ext [idx1 t]

theorem v_blk (t : Fin cfg0.N) (r : Fin 256) (e : Fin 4096) (C : Fin 8192) (hC : C.val = 4096 + e.val) :
    iblk m c 2 t (ix2 r e) = m ((c.tc : Thread nD τ).loc main_arg1) (ix2 r C) := by
  unfold iblk
  show V m c main_arg1 _ = _
  rw [V_main_arg1]
  blk_ext [idx2 t]

theorem scrA0 (t : Fin cfg0.N) (ht : t.val % 16 = 0) (p : Fin 256) (e : Fin 4096) (C : Fin 8192) (hC : C.val = e.val) :
    (outsAt0 m c t.val t.isLt).2.1 (ix2 p e) = m ((c.tc : Thread nD τ).loc main_arg1) (ix2 p C) := by
  rw [outsAt0_A m c t ht]
  frame_out
  pointwise [k0_pay2]
  exact k_blk m c t _ _ _ (by omega)

theorem scrA1 (t : Fin cfg0.N) (ht : t.val % 16 = 0) (p : Fin 256) (e : Fin 4096) (C : Fin 8192) (hC : C.val = 4096 + e.val) :
    (outsAt0 m c t.val t.isLt).2.2 (ix2 p e) = m ((c.tc : Thread nD τ).loc main_arg1) (ix2 p C) := by
  rw [outsAt0_A m c t ht]
  frame_out
  pointwise [k0_pay3]
  exact v_blk m c t _ _ _ (by omega)

/-- What the two scratches hold after every point: the memory keys and values. -/
theorem scr_all (n : ℕ) : ∀ hn : n < cfg0.N,
    (∀ (p : Fin 256) (e : Fin 4096) (C : Fin 8192), C.val = e.val → (outsAt0 m c n hn).2.1 (ix2 p e) = m ((c.tc : Thread nD τ).loc main_arg1) (ix2 p C))
    ∧ (∀ (p : Fin 256) (e : Fin 4096) (C : Fin 8192), C.val = 4096 + e.val →
      (outsAt0 m c n hn).2.2 (ix2 p e) = m ((c.tc : Thread nD τ).loc main_arg1) (ix2 p C)) := by
  induction n using Nat.strong_induction_on with
  | _ n ih =>
    intro hn
    by_cases ht : n % 16 = 0
    · exact ⟨scrA0 m c ⟨n, hn⟩ ht, scrA1 m c ⟨n, hn⟩ ht⟩
    · obtain ⟨i1, i2⟩ := ih (n - 1) (by omega) (Nat.lt_of_le_of_lt (Nat.sub_le _ _) hn)
      have e := outsAt0_B m c ⟨n, hn⟩ ht
      dsimp only at e
      refine ⟨fun p e' => ?_, fun p e' => ?_⟩
      · rw [e]; exact i1 p e'
      · rw [e]; exact i2 p e'

/-- The output block of a point after the first. -/
theorem outB (t : Fin cfg0.N) (ht : ¬ t.val % 16 = 0) (r : Fin 512) (C : Fin 4096) (hb : t.val * 512 + r.val < 8704) :
    (outsAt0 m c t.val t.isLt).1 (ix2 r C)
      = att (m ((c.tc : Thread nD τ).loc main_arg0)) (m ((c.tc : Thread nD τ).loc main_arg1)) ⟨t.val * 512 + r.val, hb⟩ C := by
  obtain ⟨i1, i2⟩ := scr_all m c (t.val - 1) (Nat.lt_of_le_of_lt (Nat.sub_le _ _) t.isLt)
  rw [outsAt0_B m c t ht]
  frame_out
  canon_tiles x w
  all_goals
    idx_vars x
    obtain rfl : r = x0 := Fin.ext w0
  · refine (pay1_at _ _ _ _ _).trans (core _ _ _ _ _ _ _ _ _ (fun e => ?_) (fun j e => ?_) (fun j => ?_))
    · pointwise
      exact q_blk m c t _ _ _ rfl _ (by show C.val / 1024 * 1024 + e.val = 3072 + e.val; omega)
    · pointwise
      exact (congrFun (Memref.IsWhole.read_unread (Memref.isWhole_whole _) _) _).trans (i1 _ _ _ (by show C.val / 1024 * 1024 + e.val = 3072 + e.val; omega))
    · pointwise
      exact (congrFun (Memref.IsWhole.read_unread (Memref.isWhole_whole _) _) _).trans (i2 _ _ _ (by show 4096 + C.val = 4096 + (3072 + x1.val); omega))
  · refine (pay8_at _ _ _ _ _).trans (core _ _ _ _ _ _ _ _ _ (fun e => ?_) (fun j e => ?_) (fun j => ?_))
    · pointwise
      exact q_blk m c t _ _ _ rfl _ (by show C.val / 1024 * 1024 + e.val = 2048 + e.val; omega)
    · pointwise
      exact (congrFun (Memref.IsWhole.read_unread (Memref.isWhole_whole _) _) _).trans (i1 _ _ _ (by show C.val / 1024 * 1024 + e.val = 2048 + e.val; omega))
    · pointwise
      exact (congrFun (Memref.IsWhole.read_unread (Memref.isWhole_whole _) _) _).trans (i2 _ _ _ (by show 4096 + C.val = 4096 + (2048 + x1.val); omega))
  · refine (pay7_at _ _ _ _ _).trans (core _ _ _ _ _ _ _ _ _ (fun e => ?_) (fun j e => ?_) (fun j => ?_))
    · pointwise
      exact q_blk m c t _ _ _ rfl _ (by show C.val / 1024 * 1024 + e.val = 1024 + e.val; omega)
    · pointwise
      exact (congrFun (Memref.IsWhole.read_unread (Memref.isWhole_whole _) _) _).trans (i1 _ _ _ (by show C.val / 1024 * 1024 + e.val = 1024 + e.val; omega))
    · pointwise
      exact (congrFun (Memref.IsWhole.read_unread (Memref.isWhole_whole _) _) _).trans (i2 _ _ _ (by show 4096 + C.val = 4096 + (1024 + x1.val); omega))
  · refine (pay4_at _ _ _ _ _).trans (core _ _ _ _ _ _ _ _ _ (fun e => ?_) (fun j e => ?_) (fun j => ?_))
    · pointwise
      exact q_blk m c t _ _ _ rfl _ (by show C.val / 1024 * 1024 + e.val = e.val; omega)
    · pointwise
      exact (congrFun (Memref.IsWhole.read_unread (Memref.isWhole_whole _) _) _).trans (i1 _ _ _ (by show C.val / 1024 * 1024 + e.val = e.val; omega))
    · pointwise
      exact (congrFun (Memref.IsWhole.read_unread (Memref.isWhole_whole _) _) _).trans (i2 _ _ _ (by show 4096 + C.val = 4096 + x1.val; omega))

/-- The output block of the first point, which also fills the scratches. -/
theorem outA (t : Fin cfg0.N) (ht : t.val % 16 = 0) (r : Fin 512) (C : Fin 4096) (hb : t.val * 512 + r.val < 8704) :
    (outsAt0 m c t.val t.isLt).1 (ix2 r C)
      = att (m ((c.tc : Thread nD τ).loc main_arg0)) (m ((c.tc : Thread nD τ).loc main_arg1)) ⟨t.val * 512 + r.val, hb⟩ C := by
  rw [outsAt0_A m c t ht]
  frame_out
  canon_tiles x w
  all_goals
    idx_vars x
    obtain rfl : r = x0 := Fin.ext w0
  · refine (pay1_at _ _ _ _ _).trans (core _ _ _ _ _ _ _ _ _ (fun e => ?_) (fun j e => ?_) (fun j => ?_))
    · pointwise
      exact q_blk m c t _ _ _ rfl _ (by show C.val / 1024 * 1024 + e.val = 3072 + e.val; omega)
    · refine (congrFun (View.readCov_fill _ _ _ _ _ (by decide)) _).trans ?_
      pointwise [k0_pay2]
      exact k_blk m c t _ _ _ (by show C.val / 1024 * 1024 + e.val = 3072 + e.val; omega)
    · refine (congrFun (View.readCov_fill _ _ _ _ _ (by decide)) _).trans ?_
      pointwise [k0_pay3]
      exact v_blk m c t _ _ _ (by show 4096 + C.val = 4096 + (3072 + x1.val); omega)
  · refine (pay8_at _ _ _ _ _).trans (core _ _ _ _ _ _ _ _ _ (fun e => ?_) (fun j e => ?_) (fun j => ?_))
    · pointwise
      exact q_blk m c t _ _ _ rfl _ (by show C.val / 1024 * 1024 + e.val = 2048 + e.val; omega)
    · refine (congrFun (View.readCov_fill _ _ _ _ _ (by decide)) _).trans ?_
      pointwise [k0_pay2]
      exact k_blk m c t _ _ _ (by show C.val / 1024 * 1024 + e.val = 2048 + e.val; omega)
    · refine (congrFun (View.readCov_fill _ _ _ _ _ (by decide)) _).trans ?_
      pointwise [k0_pay3]
      exact v_blk m c t _ _ _ (by show 4096 + C.val = 4096 + (2048 + x1.val); omega)
  · refine (pay7_at _ _ _ _ _).trans (core _ _ _ _ _ _ _ _ _ (fun e => ?_) (fun j e => ?_) (fun j => ?_))
    · pointwise
      exact q_blk m c t _ _ _ rfl _ (by show C.val / 1024 * 1024 + e.val = 1024 + e.val; omega)
    · refine (congrFun (View.readCov_fill _ _ _ _ _ (by decide)) _).trans ?_
      pointwise [k0_pay2]
      exact k_blk m c t _ _ _ (by show C.val / 1024 * 1024 + e.val = 1024 + e.val; omega)
    · refine (congrFun (View.readCov_fill _ _ _ _ _ (by decide)) _).trans ?_
      pointwise [k0_pay3]
      exact v_blk m c t _ _ _ (by show 4096 + C.val = 4096 + (1024 + x1.val); omega)
  · refine (pay4_at _ _ _ _ _).trans (core _ _ _ _ _ _ _ _ _ (fun e => ?_) (fun j e => ?_) (fun j => ?_))
    · pointwise
      exact q_blk m c t _ _ _ rfl _ (by show C.val / 1024 * 1024 + e.val = e.val; omega)
    · refine (congrFun (View.readCov_fill _ _ _ _ _ (by decide)) _).trans ?_
      pointwise [k0_pay2]
      exact k_blk m c t _ _ _ (by show C.val / 1024 * 1024 + e.val = e.val; omega)
    · refine (congrFun (View.readCov_fill _ _ _ _ _ (by decide)) _).trans ?_
      pointwise [k0_pay3]
      exact v_blk m c t _ _ _ (by show 4096 + C.val = 4096 + x1.val; omega)

theorem out_pt (t : Fin cfg0.N) (r : Fin 512) (C : Fin 4096) (R : Fin 8704) (hR : R.val = t.val * 512 + r.val) :
    (outsAt0 m c t.val t.isLt).1 (ix2 r C)
      = att (m ((c.tc : Thread nD τ).loc main_arg0)) (m ((c.tc : Thread nD τ).loc main_arg1)) R C := by
  obtain ⟨R, hb⟩ := R
  obtain rfl : R = t.val * 512 + r.val := hR
  by_cases ht : t.val % 16 = 0
  · exact outA m c t ht r C hb
  · exact outB m c t ht r C hb

/-- The whole result: the prompt rows are the attention, the other rows what they were before. -/
theorem final : (dats m 0 c).arrAt 3 cfg0.N
    = fun i => if (i 0 : ℕ) < 8192 then att (m ((c.tc : Thread nD τ).loc main_arg0)) (m ((c.tc : Thread nD τ).loc main_arg1)) (i 0) (i 1)
        else V m c main_v0 i := by
  refine (dats m 0 c).arrAt_eq_of_coversWhere 3 _ (fun β => β 0 < 16) (by decide +kernel) (fun t hf y => ?_)
    (fun j => by blk_simp [Pipeline.Window.cell_apply]; omega)
  blk_simp
  rw [after0_3]
  have h1 : t.val < 16 := t.isLt
  have e0 : ((win0_3.blk t).view.emb y 0 : ℕ) = t.val * 512 + (y 0).val := by
    blk_simp [idx3 t]
  have e1 : ((win0_3.blk t).view.emb y 1 : ℕ) = (y 1).val := by
    blk_simp [idx3 t]
  have b0 : (y 0).val < 512 := ((cfg0.win 3).xinj (grid0.coords t) y 0).isLt
  have b1 : (y 1).val < 4096 := ((cfg0.win 3).xinj (grid0.coords t) y 1).isLt
  have eY : (cfg0.win 3).xinj (grid0.coords t) y = ix2 ⟨(y 0).val, b0⟩ ⟨(y 1).val, b1⟩ := by
    funext a
    match a with
    | ⟨0, _⟩ => rfl
    | ⟨1, _⟩ => rfl
  refine (congrArg (outsAt0 m c t.val t.isLt).1 eY).trans ((out_pt m c t _ _ ⟨t.val * 512 + (y 0).val, by omega⟩ rfl).trans ?_)
  exact congrArg₂ (att _ _) (Fin.ext e0.symm) (Fin.ext e1.symm)

/-- The reference at a prompt row. -/
theorem ref_at (Q : (⟨2, ![8704, 4096]⟩ : Shape).Idx → EReal) (KV : (⟨2, ![256, 8192]⟩ : Shape).Idx → EReal) (R : Fin 8704) (hR : R.val < 8192) (C : Fin 4096)
    (s : FVec Ideal Cert.MaRefIdeal.S1x4x8192x256 .f32) (v : FVec Ideal Cert.MaRefIdeal.S1x256x4x1024 .f32)
    (hs : ∀ j : Fin 256, s (ix4 0 ⟨C.val / 1024, by omega⟩ ⟨R.val, hR⟩ j) = (∑ e : Fin 1024, Q (ix2 R ⟨C.val / 1024 * 1024 + e.val, by omega⟩)
      * KV (ix2 j ⟨C.val / 1024 * 1024 + e.val, by omega⟩)) * scl)
    (hv : ∀ j : Fin 256, v (ix4 0 j ⟨C.val / 1024, by omega⟩ ⟨C.val % 1024, by omega⟩) = KV (ix2 j ⟨4096 + C.val, by omega⟩)) :
    mix (fun j : Fin 256 => s (ix4 0 ⟨C.val / 1024, by omega⟩ ⟨R.val, hR⟩ j))
        (fun j => v (ix4 0 j ⟨C.val / 1024, by omega⟩ ⟨C.val % 1024, by omega⟩)) = att Q KV R C :=
  congrArg₂ mix (funext hs) (funext hv)

theorem mask_iff (x y) (i : (⟨2, ![8704, 4096]⟩ : Shape).Idx) :
    Cert.On_mem_rows.fn (F := Ideal) x y i = 1#1 ↔ (i 0 : ℕ) < 8192 := by
  have key : ∀ r : Fin 8704, IntOp.cmpi .slt (BitVec.ofNat 32 r.val) 8192#32 = 1#1 ↔ r.val < 8192 := by decide +kernel
  show IntOp.cmpi .slt (BitVec.ofNat 32 (i 0 : ℕ)) 8192#32 = 1#1 ↔ _
  exact key ⟨(i 0).val, (i 0).isLt⟩

theorem frame_p : Cert.quiescent_Ma := fun m ρ _ => Cert.Ma.Gen.frame m ρ
theorem frame_i : Cert.quiescent_MaIdeal := fun m ρ _ => Cert.MaIdeal.Gen.frame m ρ
theorem frame_r : Cert.quiescent_MaRefIdeal := fun m ρ _ =>
  (θ_run Cert.MaRefIdeal.defs _ _).mono (fun r h => ⟨fun c => (h c).2, sem_eq_zero_of_no_sems (by decide) r.2⟩)
    (Cert.MaRefIdeal.Value.run (F := Ideal) m ρ)

theorem preserves : Cert.preserves_Ma_MaIdeal := trivial

/-- Kernel and reference compute the same attention over the memory on the prompt rows. -/
theorem algebraic : Cert.algebraic_MaIdeal_MaRefIdeal_on_mem_rows := by
  intro m ρ m' ρ' hpre hagree
  refine ⟨fun c i => att (m ((c.tc : Thread _ _).loc Cert.MaIdeal.main_arg0)) (m ((c.tc : Thread _ _).loc Cert.MaIdeal.main_arg1)) (i 0) (i 1), ?_, ?_⟩
  · refine (θ_run Cert.MaIdeal.defs _ _).mono (fun r h c => ⟨fun i hi => ?_, (h c).2⟩) (Cert.MaIdeal.Value.run_blocks m ρ)
    exact (congrFun ((h c).1.trans (final m c)) i).trans (if_pos ((mask_iff _ _ i).1 hi))
  · refine (θ_run Cert.MaRefIdeal.defs _ _).mono (fun r h c => ⟨fun i hi => ?_, (h c).2⟩) (Cert.MaRefIdeal.Value.run (F := Ideal) m' ρ')
    have hR := (mask_iff _ _ i).1 hi
    obtain ⟨R, C, rfl⟩ : ∃ (R : Fin 8704) (C : Fin 4096), i = ix2 R C :=
      ⟨i 0, i 1, by funext a; match a with | ⟨0, _⟩ => rfl | ⟨1, _⟩ => rfl⟩
    refine (congrFun (h c).1 (ix2 R C)).trans ?_
    refine ((Ref.tail_at _ _ R hR C).trans (ref_at (m' ((c.tc : Thread _ _).loc Cert.MaRefIdeal.main_arg0)) (m' ((c.tc : Thread _ _).loc Cert.MaRefIdeal.main_arg1))
      R hR C _ _ (fun j => ?_) (fun j => ?_))).trans
      (congrArg₂ (fun a b => att a b R C) (hagree c).1 (hagree c).2)
    · refine (Ref.score_at _ _ _ _ _).trans (congrArg (· * scl) (Finset.sum_congr rfl fun e _ => ?_))
      exact congrArg₂ (fun a b : EReal => a * b) (Ref.q_at _ _ _ _) (Ref.k_at _ _ _ _)
    · refine (Ref.v_at _ _ _ _).trans (congrArg (m' ((c.tc : Thread _ _).loc Cert.MaRefIdeal.main_arg1)) (congrArg (ix2 j) (Fin.ext ?_)))
      show 4096 + (C.val / 1024 * 1024 + C.val % 1024) = 4096 + C.val
      omega

end Cert.MaProof
end
-- ==== Proof.Mk.lean ====
module

public import proofs.«01_k».proof.Defs
public import proofs.«01_k».proof.Proof.Gen.Mk.Frame
public import proofs.«01_k».proof.Proof.Gen.MkIdeal.Frame
public import proofs.«01_k».proof.Proof.Gen.MkRefIdeal.Run
public import Idealize.ShloMosaic.Lib.Pipeline.ValueKit
public import Idealize.ShloMosaic.Lib.Pointwise
public import Idealize.ShloMosaic.Lib.Tactic
public import Idealize.ShloMosaic.Lib.Claim
public import Idealize.ShloMosaic.Lib.Quiescent
public import Idealize.ShloMosaic.Lib.StableHlo.Run

@[expose] public section

set_option maxRecDepth 16384

noncomputable section

namespace Cert.MkProof

open Idealize.ShloMosaic Idealize.ShloMosaic.TcCoe Idealize.SL.Sem
open Cert.MkIdeal Cert.MkIdeal.Gen

/-- A row divided by its root mean square, times the gains. -/
def nrm (X : S256x4096.Idx → EReal) (G : S1x4096.Idx → EReal) (i : S256x4096.Idx) : EReal :=
  X i * Ideal.rsqrt (Ideal.div (∑ k : Fin 4096, X (ix2 (i 0) k) * X (ix2 (i 0) k)) (Ideal.ofBits .f32 0x45800000#32) + Ideal.ofBits .f32 0x358637BD#32) * G (ix2 0 (i 1))

/-- One element of the projection of the memory: a row against a column of layer `l`'s weights. -/
def prod (X : S256x4096.Idx → EReal) (W : S2x4096x8192.Idx → EReal) (l : Fin 2) (i : S256x8192.Idx) : EReal :=
  ∑ k : Fin 4096, X (ix2 (i 0) k) * W (ix3 l k (i 1))

theorem pay0 (x : Vec Ideal S256x4096 .f32) (g : Vec Ideal S1x4096 .f32) (r : Fin 256) (k : Fin 4096) : k0_pay1 x g (ix2 r k) = nrm x g (ix2 r k) := by
  pointwise [k0_pay1, nrm]

theorem pay2 (x : Vec Ideal S256x4096 .f32) (g : Vec Ideal S1x4096 .f32) (r : Fin 256) (k : Fin 4096) : k2_pay1 x g (ix2 r k) = nrm x g (ix2 r k) := by
  pointwise [k2_pay1, nrm]

theorem nrm_congr (X X' : S256x4096.Idx → EReal) (G G' : S1x4096.Idx → EReal) (hX : ∀ r k, X (ix2 r k) = X' (ix2 r k)) (hG : ∀ k, G (ix2 0 k) = G' (ix2 0 k))
    (r : Fin 256) (k : Fin 4096) : nrm X G (ix2 r k) = nrm X' G' (ix2 r k) := by
  have e : X = X' := by
    funext i
    obtain ⟨R, C, rfl⟩ : ∃ (R : Fin 256) (C : Fin 4096), i = ix2 R C :=
      ⟨i 0, i 1, by funext a; match a with | ⟨0, _⟩ => rfl | ⟨1, _⟩ => rfl⟩
    exact hX R C
  subst e
  exact congrArg (_ * ·) (hG k)

variable (V : (c : Dev nD) → (b : Ref sig .tc) → Buf (Elt Ideal) ((c : Thread nD τ).loc b)) (c : Dev nD)

theorem idx00 : ∀ t : Fin cfg0.N, win0_0.index t (0 : Fin 2) = 0 ∧ win0_0.index t (1 : Fin 2) = 0 := by decide +kernel
theorem idx01 : ∀ t : Fin cfg0.N, win0_1.index t (0 : Fin 2) = 0 ∧ win0_1.index t (1 : Fin 2) = 0 := by decide +kernel
theorem idx02 : ∀ t : Fin cfg0.N, win0_2.index t (0 : Fin 2) = 0 ∧ win0_2.index t (1 : Fin 2) = 0 := by decide +kernel
theorem idx10 : ∀ t : Fin cfg1.N, win1_0.index t (0 : Fin 2) = 0 ∧ win1_0.index t (1 : Fin 2) = 0 := by decide +kernel
theorem idx11 : ∀ t : Fin cfg1.N, win1_1.index t (0 : Fin 3) = 0 ∧ win1_1.index t (1 : Fin 3) = 0 ∧ win1_1.index t (2 : Fin 3) = t.val := by decide +kernel
theorem idx12 : ∀ t : Fin cfg1.N, win1_2.index t (0 : Fin 2) = 0 ∧ win1_2.index t (1 : Fin 2) = t.val := by decide +kernel

theorem x0_blk (t : Fin cfg0.N) (r : Fin 256) (k : Fin 4096) : iblk0 V c 0 t (ix2 r k) = V c main_v0 (ix2 r k) := by
  unfold iblk0
  show V c main_v0 _ = _
  blk_ext [idx00 t]

theorem g0_blk (t : Fin cfg0.N) (k : Fin 4096) : iblk0 V c 1 t (ix2 0 k) = V c main_v3 (ix2 0 k) := by
  unfold iblk0
  show V c main_v3 _ = _
  blk_ext [idx01 t]

/-- The first layer's norm of the memory, from what the call finds. -/
theorem norm0 : (dat0 V c).arrAt 2 cfg0.N = nrm (V c main_v0) (V c main_v3) := by
  refine (dat0 V c).arrAt_eq_of_covers 2 _ (by decide +kernel) fun t _ y => ?_
  blk_simp
  rw [after0_2]
  have b0 : (y 0).val < 256 := ((cfg0.win 2).xinj (grid0.coords t) y 0).isLt
  have b1 : (y 1).val < 4096 := ((cfg0.win 2).xinj (grid0.coords t) y 1).isLt
  have eY : (cfg0.win 2).xinj (grid0.coords t) y = ix2 ⟨(y 0).val, b0⟩ ⟨(y 1).val, b1⟩ := by
    funext a
    match a with
    | ⟨0, _⟩ => rfl
    | ⟨1, _⟩ => rfl
  have eZ : (win0_2.blk t).view.emb y = ix2 ⟨(y 0).val, b0⟩ ⟨(y 1).val, b1⟩ := by
    blk_ext [idx02 t]
  refine (congrArg (out0_2 (iblk0 V c 0 t) (iblk0 V c 1 t)) eY).trans ?_
  refine Eq.trans ?_ (congrArg (nrm (V c main_v0) (V c main_v3)) eZ).symm
  unfold out0_2
  frame_out
  rw [pay0]
  exact nrm_congr _ _ _ _ (fun r k => x0_blk V c t r k) (fun k => g0_blk V c t k) _ _

/-- The block of weights at a point: 512 columns of the first layer. -/
theorem w1_blk (t : Fin cfg1.N) (k : Fin 4096) (e : Fin 512) (C : Fin 8192) (hC : C.val = t.val * 512 + e.val) :
    iblk1 V c 1 t (ix3 0 k e) = V c main_arg2 (ix3 0 k C) := by
  unfold iblk1
  show V c main_arg2 _ = _
  blk_ext [idx11 t]

theorem x1_blk (t : Fin cfg1.N) (r : Fin 256) (k : Fin 4096) : iblk1 V c 0 t (ix2 r k) = V c main_v4 (ix2 r k) := by
  unfold iblk1
  show V c main_v4 _ = _
  blk_ext [idx10 t]

theorem out1_pt (t : Fin cfg1.N) (r : Fin 256) (e : Fin 512) (i : S256x8192.Idx)
    (h0 : (i 0 : ℕ) = r.val) (h1 : (i 1 : ℕ) = t.val * 512 + e.val) :
    outsAt1 V c t (ix2 r e) = prod (V c main_v4) (V c main_arg2) 0 i := by
  have hr : i 0 = r := Fin.ext h0
  unfold outsAt1
  frame_out
  pointwise [k1_pay2, k1_pay1]
  subst hr
  exact Finset.sum_congr rfl fun k _ => congrArg₂ (· * ·) (x1_blk V c t _ k) (w1_blk V c t k e _ h1)

theorem prod1 : (dat1 V c).arrAt 2 cfg1.N = prod (V c main_v4) (V c main_arg2) 0 := by
  refine (dat1 V c).arrAt_eq_of_covers 2 _ (by decide +kernel) fun t _ y => ?_
  blk_simp
  rw [after1_2]
  have b0 : (y 0).val < 256 := ((cfg1.win 2).xinj (grid1.coords t) y 0).isLt
  have b1 : (y 1).val < 512 := ((cfg1.win 2).xinj (grid1.coords t) y 1).isLt
  have eY : (cfg1.win 2).xinj (grid1.coords t) y = ix2 ⟨(y 0).val, b0⟩ ⟨(y 1).val, b1⟩ := by
    funext a
    match a with
    | ⟨0, _⟩ => rfl
    | ⟨1, _⟩ => rfl
  refine (congrArg (outsAt1 V c t) eY).trans (out1_pt V c t _ _ _ ?_ ?_)
  · show ((win1_2.blk t).view.emb y 0 : ℕ) = _
    blk_simp [idx12 t]
  · show ((win1_2.blk t).view.emb y 1 : ℕ) = _
    blk_simp [idx12 t]

theorem idx20 : ∀ t : Fin cfg2.N, win2_0.index t (0 : Fin 2) = 0 ∧ win2_0.index t (1 : Fin 2) = 0 := by decide +kernel
theorem idx21 : ∀ t : Fin cfg2.N, win2_1.index t (0 : Fin 2) = 0 ∧ win2_1.index t (1 : Fin 2) = 0 := by decide +kernel
theorem idx22 : ∀ t : Fin cfg2.N, win2_2.index t (0 : Fin 2) = 0 ∧ win2_2.index t (1 : Fin 2) = 0 := by decide +kernel
theorem idx30 : ∀ t : Fin cfg3.N, win3_0.index t (0 : Fin 2) = 0 ∧ win3_0.index t (1 : Fin 2) = 0 := by decide +kernel
theorem idx31 : ∀ t : Fin cfg3.N, win3_1.index t (0 : Fin 3) = 1 ∧ win3_1.index t (1 : Fin 3) = 0 ∧ win3_1.index t (2 : Fin 3) = t.val := by decide +kernel
theorem idx32 : ∀ t : Fin cfg3.N, win3_2.index t (0 : Fin 2) = 0 ∧ win3_2.index t (1 : Fin 2) = t.val := by decide +kernel

theorem x2_blk (t : Fin cfg2.N) (r : Fin 256) (k : Fin 4096) : iblk2 V c 0 t (ix2 r k) = V c main_v0 (ix2 r k) := by
  unfold iblk2
  show V c main_v0 _ = _
  blk_ext [idx20 t]

theorem g2_blk (t : Fin cfg2.N) (k : Fin 4096) : iblk2 V c 1 t (ix2 0 k) = V c main_v8 (ix2 0 k) := by
  unfold iblk2
  show V c main_v8 _ = _
  blk_ext [idx21 t]

/-- The second layer's norm of the memory, from what the call finds. -/
theorem norm2 : (dat2 V c).arrAt 2 cfg2.N = nrm (V c main_v0) (V c main_v8) := by
  refine (dat2 V c).arrAt_eq_of_covers 2 _ (by decide +kernel) fun t _ y => ?_
  blk_simp
  rw [after2_2]
  have b0 : (y 0).val < 256 := ((cfg2.win 2).xinj (grid2.coords t) y 0).isLt
  have b1 : (y 1).val < 4096 := ((cfg2.win 2).xinj (grid2.coords t) y 1).isLt
  have eY : (cfg2.win 2).xinj (grid2.coords t) y = ix2 ⟨(y 0).val, b0⟩ ⟨(y 1).val, b1⟩ := by
    funext a
    match a with
    | ⟨0, _⟩ => rfl
    | ⟨1, _⟩ => rfl
  have eZ : (win2_2.blk t).view.emb y = ix2 ⟨(y 0).val, b0⟩ ⟨(y 1).val, b1⟩ := by
    blk_ext [idx22 t]
  refine (congrArg (out2_2 (iblk2 V c 0 t) (iblk2 V c 1 t)) eY).trans ?_
  refine Eq.trans ?_ (congrArg (nrm (V c main_v0) (V c main_v8)) eZ).symm
  unfold out2_2
  frame_out
  rw [pay2]
  exact nrm_congr _ _ _ _ (fun r k => x2_blk V c t r k) (fun k => g2_blk V c t k) _ _

/-- The block of weights at a point: 512 columns of the second layer. -/
theorem w3_blk (t : Fin cfg3.N) (k : Fin 4096) (e : Fin 512) (C : Fin 8192) (hC : C.val = t.val * 512 + e.val) :
    iblk3 V c 1 t (ix3 0 k e) = V c main_arg2 (ix3 1 k C) := by
  unfold iblk3
  show V c main_arg2 _ = _
  blk_ext [idx31 t]

theorem x3_blk (t : Fin cfg3.N) (r : Fin 256) (k : Fin 4096) : iblk3 V c 0 t (ix2 r k) = V c main_v9 (ix2 r k) := by
  unfold iblk3
  show V c main_v9 _ = _
  blk_ext [idx30 t]

theorem out3_pt (t : Fin cfg3.N) (r : Fin 256) (e : Fin 512) (i : S256x8192.Idx)
    (h0 : (i 0 : ℕ) = r.val) (h1 : (i 1 : ℕ) = t.val * 512 + e.val) :
    outsAt3 V c t (ix2 r e) = prod (V c main_v9) (V c main_arg2) 1 i := by
  have hr : i 0 = r := Fin.ext h0
  unfold outsAt3
  frame_out
  pointwise [k3_pay2, k3_pay1]
  subst hr
  exact Finset.sum_congr rfl fun k _ => congrArg₂ (· * ·) (x3_blk V c t _ k) (w3_blk V c t k e _ h1)

theorem prod3 : (dat3 V c).arrAt 2 cfg3.N = prod (V c main_v9) (V c main_arg2) 1 := by
  refine (dat3 V c).arrAt_eq_of_covers 2 _ (by decide +kernel) fun t _ y => ?_
  blk_simp
  rw [after3_2]
  have b0 : (y 0).val < 256 := ((cfg3.win 2).xinj (grid3.coords t) y 0).isLt
  have b1 : (y 1).val < 512 := ((cfg3.win 2).xinj (grid3.coords t) y 1).isLt
  have eY : (cfg3.win 2).xinj (grid3.coords t) y = ix2 ⟨(y 0).val, b0⟩ ⟨(y 1).val, b1⟩ := by
    funext a
    match a with
    | ⟨0, _⟩ => rfl
    | ⟨1, _⟩ => rfl
  refine (congrArg (outsAt3 V c t) eY).trans (out3_pt V c t _ _ _ ?_ ?_)
  · show ((win3_2.blk t).view.emb y 0 : ℕ) = _
    blk_simp [idx32 t]
  · show ((win3_2.blk t).view.emb y 1 : ℕ) = _
    blk_simp [idx32 t]

variable (m : (ℓ : Loc nD τ sig) → Buf (Elt Ideal) ℓ) (ρ : Dev nD → PrngReg)

/-- The keys and values of the memory at layer `l`, from the memory, the gains and the weights. -/
def spec (M : S1x256x4096.Idx → EReal) (G : S2x4096.Idx → EReal) (W : S2x4096x8192.Idx → EReal) (l : Fin 2) : S256x8192.Idx → EReal :=
  prod (nrm (fun i => M (ix3 0 (i 0) (i 1))) (fun i => G (ix2 l (i 1)))) W l

theorem mem_at (M : Vec Ideal S1x256x4096 .f32) : shapeCast S256x4096 M shapeCasts_S1x256x4096_S256x4096 = fun i => M (ix3 0 (i 0) (i 1)) := by
  funext i
  obtain ⟨R, C, rfl⟩ : ∃ (R : Fin 256) (C : Fin 4096), i = ix2 R C :=
    ⟨i 0, i 1, by funext a; match a with | ⟨0, _⟩ => rfl | ⟨1, _⟩ => rfl⟩
  pointwise

theorem ent_v0 : V1 m ρ c main_v0 = fun i => m ((c.tc : Thread nD τ).loc main_arg0) (ix3 0 (i 0) (i 1)) := by
  refine Eq.trans ?_ (mem_at (m ((c.tc : Thread nD τ).loc main_arg0)))
  show StableHlo.after hostOps0 (W0 m ρ c) (Proc.devRef .tc main_v0) = _
  after_results_simp <;> rfl

theorem row_at (G : Vec Ideal S2x4096 .f32) : (shapeCast S1x4096 (shapeCast S4096 (extractStridedSlice S1x4096 ![0, 0] G slices_S2x4096_S1x4096_0_0) shapeCasts_S1x4096_S4096) shapeCasts_S4096_S1x4096)
    = fun i => G (ix2 0 (i 1)) := by
  funext i
  obtain ⟨R, C, rfl⟩ : ∃ (R : Fin 1) (C : Fin 4096), i = ix2 R C :=
    ⟨i 0, i 1, by funext a; match a with | ⟨0, _⟩ => rfl | ⟨1, _⟩ => rfl⟩
  pointwise

theorem row_at1 (G : Vec Ideal S2x4096 .f32) : (shapeCast S1x4096 (shapeCast S4096 (extractStridedSlice S1x4096 ![1, 0] G slices_S2x4096_S1x4096_1_0) shapeCasts_S1x4096_S4096) shapeCasts_S4096_S1x4096)
    = fun i => G (ix2 1 (i 1)) := by
  funext i
  obtain ⟨R, C, rfl⟩ : ∃ (R : Fin 1) (C : Fin 4096), i = ix2 R C :=
    ⟨i 0, i 1, by funext a; match a with | ⟨0, _⟩ => rfl | ⟨1, _⟩ => rfl⟩
  pointwise

theorem ent_v3 : V1 m ρ c main_v3 = fun i => m ((c.tc : Thread nD τ).loc main_arg1) (ix2 0 (i 1)) := by
  refine Eq.trans ?_ (row_at (m ((c.tc : Thread nD τ).loc main_arg1)))
  show StableHlo.after hostOps0 (W0 m ρ c) (Proc.devRef .tc main_v3) = _
  after_results_simp <;> rfl

theorem ent_v8 : V4 m ρ c main_v8 = fun i => m ((c.tc : Thread nD τ).loc main_arg1) (ix2 1 (i 1)) := by
  refine Eq.trans ?_ (row_at1 (m ((c.tc : Thread nD τ).loc main_arg1)))
  rw [← W3_args m ρ c main_arg1 (by decide)]
  show StableHlo.after hostOps2 (W3 m ρ c) (Proc.devRef .tc main_v8) = _
  after_results_simp <;> rfl

theorem ent_v0' : V4 m ρ c main_v0 = V1 m ρ c main_v0 :=
  (W4_of m ρ c main_v0 (by decide)).trans ((W3_of m ρ c main_v0 (by decide)).trans (W2_of m ρ c main_v0 (by decide)))

/-- The first result, -/
theorem res5 : W6 m ρ c (Proc.devRef .tc main_v5) = spec (m ((c.tc : Thread nD τ).loc main_arg0)) (m ((c.tc : Thread nD τ).loc main_arg1)) (m ((c.tc : Thread nD τ).loc main_arg2)) 0 := by
  refine ((W6_of m ρ c main_v5 (by decide)).trans ((W5_of m ρ c main_v5 (by decide)).trans ((W4_of m ρ c main_v5 (by decide)).trans (W3_arr m ρ c 2)))).trans ?_
  refine (prod1 (V2 m ρ) c).trans ?_
  have e4 : V2 m ρ c main_v4 = _ := (W2_arr m ρ c 2).trans (norm0 (V1 m ρ) c)
  have ew : V2 m ρ c main_arg2 = _ := W2_args m ρ c main_arg2 (by decide)
  rw [e4, ew, ent_v0, ent_v3]
  rfl

/-- and the second. -/
theorem res10 : W6 m ρ c (Proc.devRef .tc main_v10) = spec (m ((c.tc : Thread nD τ).loc main_arg0)) (m ((c.tc : Thread nD τ).loc main_arg1)) (m ((c.tc : Thread nD τ).loc main_arg2)) 1 := by
  refine (W6_arr m ρ c 2).trans ?_
  refine (prod3 (V5 m ρ) c).trans ?_
  have e9 : V5 m ρ c main_v9 = _ := (W5_arr m ρ c 2).trans (norm2 (V4 m ρ) c)
  have ew : V5 m ρ c main_arg2 = _ := W5_args m ρ c main_arg2 (by decide)
  rw [e9, ew, ent_v0', ent_v0, ent_v8]
  rfl

section
open Idealize.ShloMosaic.Tactic Idealize.SL Idealize.SL.RA Idealize.SL.BI
open scoped Idealize.SL.BI
open Idealize.SL.BI.BIBase Idealize.SL.BI.Laws Idealize.SL.ProofMode Idealize.ShloMosaic.Rounds
open Idealize.ShloMosaic.Pipeline (Dat Cfg Window BodyObligation cellOf)

set_option backward.isDefEq.respectTransparency.types false in
/-- The run: both results as computed, the arguments unchanged, every counter at zero. -/
theorem run : θ_run defs (onTc (τ := τ) (main (F := Ideal))) ⟨m, fun _ => 0, ρ⟩ (fun r => (∀ c : Dev nD,
      r.2.mem ((c.tc : Thread nD τ).loc main_v5) = spec (m ((c.tc : Thread nD τ).loc main_arg0)) (m ((c.tc : Thread nD τ).loc main_arg1)) (m ((c.tc : Thread nD τ).loc main_arg2)) 0
      ∧ r.2.mem ((c.tc : Thread nD τ).loc main_v10) = spec (m ((c.tc : Thread nD τ).loc main_arg0)) (m ((c.tc : Thread nD τ).loc main_arg1)) (m ((c.tc : Thread nD τ).loc main_arg2)) 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_v5 (by decide))).trans (res5 c m ρ),
       (h c _ (mem_uc main_v10 (by decide))).trans (res10 c m ρ),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩), funext fun g => hz g (.inr (no_unscoped g.2))⟩)

end

namespace Ref
open Cert.MkRefIdeal Cert.MkRefIdeal.Gen

theorem dot_at (A : FVec Ideal Cert.MkRefIdeal.S256x4096 .f32) (B : FVec Ideal Cert.MkRefIdeal.S4096x8192 .f32) (R : Fin 256) (C : Fin 8192) :
    Host.dotGeneral Cert.MkRefIdeal.dot_S256x4096_S4096x8192_S256x8192_1_0_0_1_n_n none A B (ix2 R C) = ∑ k : Fin 4096, A (ix2 R k) * B (ix2 k C) := by
  pointwise

theorem nrm_at (x : FVec Ideal Cert.MkRefIdeal.S256x4096 .f32) (g : FVec Ideal Cert.MkRefIdeal.S4096 .f32) (r : Fin 256) (k : Fin 4096) :
    (mulf (mulf x (broadcastInDim Cert.MkRefIdeal.S256x4096 ![0, 1] bcast_S256x1_S256x4096_0_1 (Host.rsqrt (addf (Host.divf (broadcastInDim Cert.MkRefIdeal.S256x1 ![0] bcast_S256_S256x1_0 (Host.reduceAdd (mulf x x) (constant Cert.MkRefIdeal.S_ .f32 0x00000000#32) reducesTo_S256x4096_S256_d1 h_S_)) (broadcastInDim Cert.MkRefIdeal.S256x1 ![] bcast_S_S256x1 (constant Cert.MkRefIdeal.S_ .f32 0x45800000#32))) (broadcastInDim Cert.MkRefIdeal.S256x1 ![] bcast_S_S256x1 (constant Cert.MkRefIdeal.S_ .f32 0x358637BD#32)))))) (broadcastInDim Cert.MkRefIdeal.S256x4096 ![0, 1] bcast_S1x4096_S256x4096_0_1 (broadcastInDim Cert.MkRefIdeal.S1x4096 ![1] bcast_S4096_S1x4096_1 g))) (ix2 r k)
      = x (ix2 r k) * Ideal.rsqrt (Ideal.div (∑ k : Fin 4096, x (ix2 r k) * x (ix2 r k)) (Ideal.ofBits .f32 0x45800000#32) + Ideal.ofBits .f32 0x358637BD#32) * g (ix1 k) := by
  pointwise

theorem mem_at (M : FVec Ideal Cert.MkRefIdeal.S1x256x4096 .f32) (r : Fin 256) (k : Fin 4096) : shapeCast Cert.MkRefIdeal.S256x4096 M Cert.MkRefIdeal.Gen.shapeCasts_S1x256x4096_S256x4096 (ix2 r k) = M (ix3 0 r k) := by
  pointwise

theorem g0_at (G : FVec Ideal Cert.MkRefIdeal.S2x4096 .f32) (k : Fin 4096) : shapeCast Cert.MkRefIdeal.S4096 (extractStridedSlice Cert.MkRefIdeal.S1x4096 ![0, 0] G Cert.MkRefIdeal.Gen.slices_S2x4096_S1x4096_0_0) Cert.MkRefIdeal.Gen.shapeCasts_S1x4096_S4096 (ix1 k) = G (ix2 0 k) := by
  pointwise

theorem g1_at (G : FVec Ideal Cert.MkRefIdeal.S2x4096 .f32) (k : Fin 4096) : shapeCast Cert.MkRefIdeal.S4096 (extractStridedSlice Cert.MkRefIdeal.S1x4096 ![1, 0] G Cert.MkRefIdeal.Gen.slices_S2x4096_S1x4096_1_0) Cert.MkRefIdeal.Gen.shapeCasts_S1x4096_S4096 (ix1 k) = G (ix2 1 k) := by
  pointwise

theorem w0_at (W : FVec Ideal Cert.MkRefIdeal.S2x4096x8192 .f32) (k : Fin 4096) (C : Fin 8192) : shapeCast Cert.MkRefIdeal.S4096x8192 (extractStridedSlice Cert.MkRefIdeal.S1x4096x8192 ![0, 0, 0] W Cert.MkRefIdeal.Gen.slices_S2x4096x8192_S1x4096x8192_0_0_0) Cert.MkRefIdeal.Gen.shapeCasts_S1x4096x8192_S4096x8192 (ix2 k C) = W (ix3 0 k C) := by
  pointwise

theorem w1_at (W : FVec Ideal Cert.MkRefIdeal.S2x4096x8192 .f32) (k : Fin 4096) (C : Fin 8192) : shapeCast Cert.MkRefIdeal.S4096x8192 (extractStridedSlice Cert.MkRefIdeal.S1x4096x8192 ![1, 0, 0] W Cert.MkRefIdeal.Gen.slices_S2x4096x8192_S1x4096x8192_1_0_0) Cert.MkRefIdeal.Gen.shapeCasts_S1x4096x8192_S4096x8192 (ix2 k C) = W (ix3 1 k C) := by
  pointwise

end Ref

theorem frame_p : Cert.quiescent_Mk := fun m ρ _ => Cert.Mk.Gen.frame m ρ
theorem frame_i : Cert.quiescent_MkIdeal := fun m ρ _ => Cert.MkIdeal.Gen.frame m ρ
theorem frame_r : Cert.quiescent_MkRefIdeal := fun m ρ _ =>
  (θ_run Cert.MkRefIdeal.defs _ _).mono (fun r h => ⟨fun c => (h c).2.2, sem_eq_zero_of_no_sems (by decide) r.2⟩)
    (Cert.MkRefIdeal.Value.run (F := Ideal) m ρ)

theorem preserves : Cert.preserves_Mk_MkIdeal := trivial

/-- Kernel and reference compute the same keys and values. -/
theorem algebraic : Cert.algebraic_MkIdeal_MkRefIdeal := by
  intro m ρ m' ρ' _ hagree
  refine ⟨fun c => spec (m ((c.tc : Thread _ _).loc Cert.MkIdeal.main_arg0)) (m ((c.tc : Thread _ _).loc Cert.MkIdeal.main_arg1)) (m ((c.tc : Thread _ _).loc Cert.MkIdeal.main_arg2)) 0,
    fun c => spec (m ((c.tc : Thread _ _).loc Cert.MkIdeal.main_arg0)) (m ((c.tc : Thread _ _).loc Cert.MkIdeal.main_arg1)) (m ((c.tc : Thread _ _).loc Cert.MkIdeal.main_arg2)) 1, ?_, ?_⟩
  · exact (θ_run Cert.MkIdeal.defs _ _).mono (fun r h c => ⟨(h.1 c).1, (h.1 c).2.1, (h.1 c).2.2⟩) (run m ρ)
  · refine (θ_run Cert.MkRefIdeal.defs _ _).mono (fun r h c => ⟨(h c).1.trans ?_, (h c).2.1.trans ?_, (h c).2.2⟩) (Cert.MkRefIdeal.Value.run m' ρ')
    · rw [(hagree c).1, (hagree c).2.1, (hagree c).2.2]
      funext i
      obtain ⟨R, C, rfl⟩ : ∃ (R : Fin 256) (C : Fin 8192), i = ix2 R C :=
        ⟨i 0, i 1, by funext a; match a with | ⟨0, _⟩ => rfl | ⟨1, _⟩ => rfl⟩
      refine (Ref.dot_at _ _ R C).trans ?_
      show _ = ∑ k : Fin 4096, nrm (fun i => m ((c.tc : Thread _ _).loc Cert.MkIdeal.main_arg0) (ix3 0 (i 0) (i 1))) (fun i => m ((c.tc : Thread _ _).loc Cert.MkIdeal.main_arg1) (ix2 0 (i 1))) (ix2 R k) * m ((c.tc : Thread _ _).loc Cert.MkIdeal.main_arg2) (ix3 0 k C)
      refine Finset.sum_congr rfl fun k _ => congrArg₂ (· * ·) ?_ (Ref.w0_at _ k C)
      refine (Ref.nrm_at _ _ R k).trans ?_
      rw [Ref.g0_at, Ref.mem_at, Finset.sum_congr rfl fun j _ => congrArg₂ (· * ·) (Ref.mem_at _ R j) (Ref.mem_at _ R j)]
      rfl
    · rw [(hagree c).1, (hagree c).2.1, (hagree c).2.2]
      funext i
      obtain ⟨R, C, rfl⟩ : ∃ (R : Fin 256) (C : Fin 8192), i = ix2 R C :=
        ⟨i 0, i 1, by funext a; match a with | ⟨0, _⟩ => rfl | ⟨1, _⟩ => rfl⟩
      refine (Ref.dot_at _ _ R C).trans ?_
      show _ = ∑ k : Fin 4096, nrm (fun i => m ((c.tc : Thread _ _).loc Cert.MkIdeal.main_arg0) (ix3 0 (i 0) (i 1))) (fun i => m ((c.tc : Thread _ _).loc Cert.MkIdeal.main_arg1) (ix2 1 (i 1))) (ix2 R k) * m ((c.tc : Thread _ _).loc Cert.MkIdeal.main_arg2) (ix3 1 k C)
      refine Finset.sum_congr rfl fun k _ => congrArg₂ (· * ·) ?_ (Ref.w1_at _ k C)
      refine (Ref.nrm_at _ _ R k).trans ?_
      rw [Ref.g1_at, Ref.mem_at, Finset.sum_congr rfl fun j _ => congrArg₂ (· * ·) (Ref.mem_at _ R j) (Ref.mem_at _ R j)]
      rfl

end Cert.MkProof
end
-- ==== Proof.Sg.lean ====
module

public import proofs.«01_k».proof.Defs
public import proofs.«01_k».proof.Proof.Gen.Sg.Frame
public import proofs.«01_k».proof.Proof.Gen.SgIdeal.Value
public import proofs.«01_k».proof.Proof.Gen.SgRefIdeal.Run
public import Idealize.ShloMosaic.Lib.Pipeline.ValueKit
public import Idealize.ShloMosaic.Lib.Pointwise
public import Idealize.ShloMosaic.Lib.Tactic
public import Idealize.ShloMosaic.Lib.Claim
public import Idealize.ShloMosaic.Lib.Quiescent
public import Idealize.ShloMosaic.Lib.StableHlo.Run

@[expose] public section

set_option maxRecDepth 16384

noncomputable section

namespace Cert.SgProof

open Idealize.ShloMosaic Idealize.ShloMosaic.TcCoe Idealize.SL.Sem
open Cert.SgIdeal Cert.SgIdeal.Gen

variable (m : (ℓ : Loc nD τ sig) → Buf (Elt Ideal) ℓ) (c : Dev nD)

/-- The gelu, by its hyperbolic tangent. -/
def gelu (y : EReal) : EReal :=
  y * (Ideal.ofBits .f32 0x3F000000#32 * (Ideal.ofBits .f32 0x3F800000#32 + Ideal.tanh (Ideal.ofBits .f32 0x3F4C422A#32 * (y + Ideal.ofBits .f32 0x3D372713#32 * (y * y * y)))))

/-- One element: the scan's output plus the skip, through the gelu. -/
def sg (Y X : S8704x4096.Idx → EReal) (D : S1x4096.Idx → EReal) (i : S8704x4096.Idx) : EReal :=
  gelu (Y i + D (ix2 0 (i 1)) * X i)

theorem idx0 : ∀ t : Fin cfg0.N, win0_0.index t (0 : Fin 2) = t.val ∧ win0_0.index t (1 : Fin 2) = 0 := by decide +kernel
theorem idx1 : ∀ t : Fin cfg0.N, win0_1.index t (0 : Fin 2) = t.val ∧ win0_1.index t (1 : Fin 2) = 0 := by decide +kernel
theorem idx2 : ∀ t : Fin cfg0.N, win0_2.index t (0 : Fin 2) = 0 ∧ win0_2.index t (1 : Fin 2) = 0 := by decide +kernel
theorem idx3 : ∀ t : Fin cfg0.N, win0_3.index t (0 : Fin 2) = t.val ∧ win0_3.index t (1 : Fin 2) = 0 := by decide +kernel

theorem pay (y : Vec Ideal S256x4096 .f32) (d : Vec Ideal S1x4096 .f32) (x : Vec Ideal S256x4096 .f32) (r : Fin 256) (k : Fin 4096) :
    k0_pay1 y d x (ix2 r k) = gelu (y (ix2 r k) + d (ix2 0 k) * x (ix2 r k)) := by
  pointwise [k0_pay1, gelu]

theorem y_blk (t : Fin cfg0.N) (r : Fin 256) (k : Fin 4096) (R : Fin 8704) (hR : R.val = t.val * 256 + r.val) :
    iblk m c 0 t (ix2 r k) = m ((c.tc : Thread nD τ).loc main_arg0) (ix2 R k) := by
  unfold iblk
  show V m c main_arg0 _ = _
  rw [V_main_arg0]
  blk_ext [idx0 t]

theorem x_blk (t : Fin cfg0.N) (r : Fin 256) (k : Fin 4096) (R : Fin 8704) (hR : R.val = t.val * 256 + r.val) :
    iblk m c 1 t (ix2 r k) = m ((c.tc : Thread nD τ).loc main_arg1) (ix2 R k) := by
  unfold iblk
  show V m c main_arg1 _ = _
  rw [V_main_arg1]
  blk_ext [idx1 t]

theorem row_at (D : Vec Ideal S1x4096 .f32) (k : Fin 4096) :
    (shapeCast S1x4096 (shapeCast S4096 D shapeCasts_S1x4096_S4096) shapeCasts_S4096_S1x4096) (ix2 0 k) = D (ix2 0 k) := by
  pointwise

theorem V_row (k : Fin 4096) : V m c main_v1 (ix2 0 k) = m ((c.tc : Thread nD τ).loc main_arg2) (ix2 0 k) := by
  refine Eq.trans (congrFun ?_ _) (row_at (m ((c.tc : Thread nD τ).loc main_arg2)) k)
  unfold V
  after_results_simp <;> rfl

theorem d_blk (t : Fin cfg0.N) (k : Fin 4096) : iblk m c 2 t (ix2 0 k) = m ((c.tc : Thread nD τ).loc main_arg2) (ix2 0 k) := by
  refine Eq.trans ?_ (V_row m c k)
  unfold iblk
  show V m c main_v1 _ = _
  blk_ext [idx2 t]

/-- The output block of every point. -/
theorem out_pt (t : Fin cfg0.N) (r : Fin 256) (k : Fin 4096) (i : S8704x4096.Idx)
    (h0 : (i 0 : ℕ) = t.val * 256 + r.val) (h1 : (i 1 : ℕ) = k.val) :
    out0_3 (iblk m c 0 t) (iblk m c 1 t) (iblk m c 2 t) (ix2 r k)
      = sg (m ((c.tc : Thread nD τ).loc main_arg0)) (m ((c.tc : Thread nD τ).loc main_arg1)) (m ((c.tc : Thread nD τ).loc main_arg2)) i := by
  obtain ⟨R, C, rfl⟩ : ∃ (R : Fin 8704) (C : Fin 4096), i = ix2 R C :=
    ⟨i 0, i 1, by funext a; match a with | ⟨0, _⟩ => rfl | ⟨1, _⟩ => rfl⟩
  have hk : C = k := Fin.ext h1
  subst hk
  unfold out0_3
  frame_out
  rw [pay]
  exact congrArg gelu (congrArg₂ (· + ·) (y_blk m c t r C R h0) (congrArg₂ (· * ·) (d_blk m c t C) (x_blk m c t r C R h0)))

/-- The whole result of the call. -/
theorem final : (dats m 0 c).arrAt 3 cfg0.N
    = sg (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  have b0 : (y 0).val < 256 := ((cfg0.win 3).xinj (grid0.coords t) y 0).isLt
  have b1 : (y 1).val < 4096 := ((cfg0.win 3).xinj (grid0.coords t) y 1).isLt
  have eY : (cfg0.win 3).xinj (grid0.coords t) y = ix2 ⟨(y 0).val, b0⟩ ⟨(y 1).val, b1⟩ := by
    funext a
    match a with
    | ⟨0, _⟩ => rfl
    | ⟨1, _⟩ => rfl
  refine (congrArg (out0_3 (iblk m c 0 t) (iblk m c 1 t) (iblk m c 2 t)) eY).trans (out_pt m c t _ _ _ ?_ ?_)
  · show ((win0_3.blk t).view.emb y 0 : ℕ) = _
    blk_simp [idx3 t]
  · show ((win0_3.blk t).view.emb y 1 : ℕ) = _
    blk_simp [idx3 t]

namespace Ref

theorem skip_at (Y X : FVec Ideal Cert.SgRefIdeal.S8704x4096 .f32) (D : FVec Ideal Cert.SgRefIdeal.S1x4096 .f32) (R : Fin 8704) (C : Fin 4096) :
    addf Y (mulf (broadcastInDim Cert.SgRefIdeal.S8704x4096 ![0, 1] Cert.SgRefIdeal.Gen.bcast_S1x4096_S8704x4096_0_1 (broadcastInDim Cert.SgRefIdeal.S1x4096 ![1] Cert.SgRefIdeal.Gen.bcast_S4096_S1x4096_1 (shapeCast Cert.SgRefIdeal.S4096 D Cert.SgRefIdeal.Gen.shapeCasts_S1x4096_S4096))) X) (ix2 R C)
      = Y (ix2 R C) + D (ix2 0 C) * X (ix2 R C) := by
  pointwise

theorem gelu_at (Y : FVec Ideal Cert.SgRefIdeal.S8704x4096 .f32) (R : Fin 8704) (C : Fin 4096) :
    truncf .bf16 (mulf Y (mulf (broadcastInDim Cert.SgRefIdeal.S8704x4096 ![] Cert.SgRefIdeal.Gen.bcast_S_S8704x4096 (constant Cert.SgRefIdeal.S_ .f32 0x3F000000#32)) (addf (broadcastInDim Cert.SgRefIdeal.S8704x4096 ![] Cert.SgRefIdeal.Gen.bcast_S_S8704x4096 (constant Cert.SgRefIdeal.S_ .f32 0x3F800000#32)) (Host.tanh (mulf (broadcastInDim Cert.SgRefIdeal.S8704x4096 ![] Cert.SgRefIdeal.Gen.bcast_S_S8704x4096 (constant Cert.SgRefIdeal.S_ .f32 0x3F4C422A#32)) (addf Y (mulf (broadcastInDim Cert.SgRefIdeal.S8704x4096 ![] Cert.SgRefIdeal.Gen.bcast_S_S8704x4096 (constant Cert.SgRefIdeal.S_ .f32 0x3D372713#32)) (mulf (mulf Y Y) Y)))))))) Cert.SgRefIdeal.Gen.bitsLt_bf16_f32 (ix2 R C)
      = gelu (Y (ix2 R C)) := by
  pointwise [gelu]

end Ref

theorem frame_p : Cert.quiescent_Sg := fun m ρ _ => Cert.Sg.Gen.frame m ρ
theorem frame_i : Cert.quiescent_SgIdeal := fun m ρ _ => Cert.SgIdeal.Gen.frame m ρ
theorem frame_r : Cert.quiescent_SgRefIdeal := fun m ρ _ =>
  (θ_run Cert.SgRefIdeal.defs _ _).mono (fun r h => ⟨fun c => (h c).2, sem_eq_zero_of_no_sems (by decide) r.2⟩)
    (Cert.SgRefIdeal.Value.run (F := Ideal) m ρ)

theorem preserves : Cert.preserves_Sg_SgIdeal := trivial

/-- Kernel and reference compute the same skip and gelu. -/
theorem algebraic : Cert.algebraic_SgIdeal_SgRefIdeal := by
  intro m ρ m' ρ' _ hagree
  refine ⟨fun c => sg (m ((c.tc : Thread _ _).loc Cert.SgIdeal.main_arg0)) (m ((c.tc : Thread _ _).loc Cert.SgIdeal.main_arg1)) (m ((c.tc : Thread _ _).loc Cert.SgIdeal.main_arg2)), ?_, ?_⟩
  · exact (θ_run Cert.SgIdeal.defs _ _).mono (fun r h c => ⟨(h c).1.trans (final m c), (h c).2⟩) (Cert.SgIdeal.Value.run_blocks m ρ)
  · refine (θ_run Cert.SgRefIdeal.defs _ _).mono (fun r h c => ⟨(h c).1.trans ?_, (h c).2⟩) (Cert.SgRefIdeal.Value.run m' ρ')
    rw [(hagree c).1, (hagree c).2.1, (hagree c).2.2]
    funext i
    obtain ⟨R, C, rfl⟩ : ∃ (R : Fin 8704) (C : Fin 4096), i = ix2 R C :=
      ⟨i 0, i 1, by funext a; match a with | ⟨0, _⟩ => rfl | ⟨1, _⟩ => rfl⟩
    exact (Ref.gelu_at _ R C).trans (congrArg gelu (Ref.skip_at _ _ _ R C))

end Cert.SgProof
end
-- ==== Proof.Rn.lean ====
module

public import proofs.«01_k».proof.Defs
public import proofs.«01_k».proof.Proof.Gen.Rn.Frame
public import proofs.«01_k».proof.Proof.Gen.RnIdeal.Value
public import proofs.«01_k».proof.Proof.Gen.RnRefIdeal.Run
public import Idealize.ShloMosaic.Lib.Pipeline.ValueKit
public import Idealize.ShloMosaic.Lib.Pointwise
public import Idealize.ShloMosaic.Lib.Tactic
public import Idealize.ShloMosaic.Lib.Claim
public import Idealize.ShloMosaic.Lib.Quiescent
public import Idealize.ShloMosaic.Lib.StableHlo.Run

@[expose] public section

set_option maxRecDepth 16384

noncomputable section

namespace Cert.RnProof

open Idealize.ShloMosaic Idealize.ShloMosaic.TcCoe Idealize.SL.Sem
open Cert.RnIdeal Cert.RnIdeal.Gen

variable (m : (ℓ : Loc nD τ sig) → Buf (Elt Ideal) ℓ) (c : Dev nD)

/-- A row divided by its root mean square, times the first layer's gains. -/
def nrm (X : S8704x4096.Idx → EReal) (G : S2x4096.Idx → EReal) (i : S8704x4096.Idx) : EReal :=
  X i * Ideal.rsqrt (Ideal.div (∑ k : Fin 4096, X (ix2 (i 0) k) * X (ix2 (i 0) k)) (Ideal.ofBits .f32 0x45800000#32) + Ideal.ofBits .f32 0x358637BD#32) * G (ix2 0 (i 1))

theorem idx0 : ∀ t : Fin cfg0.N, win0_0.index t (0 : Fin 2) = t.val ∧ win0_0.index t (1 : Fin 2) = 0 := by decide +kernel
theorem idx1 : ∀ t : Fin cfg0.N, win0_1.index t (0 : Fin 2) = 0 ∧ win0_1.index t (1 : Fin 2) = 0 := by decide +kernel
theorem idx2 : ∀ t : Fin cfg0.N, win0_2.index t (0 : Fin 2) = t.val ∧ win0_2.index t (1 : Fin 2) = 0 := by decide +kernel

theorem pay (x : Vec Ideal S256x4096 .f32) (g : Vec Ideal S1x4096 .f32) (r : Fin 256) (k : Fin 4096) :
    k0_pay1 x g (ix2 r k) = x (ix2 r k) * Ideal.rsqrt (Ideal.div (∑ j : Fin 4096, x (ix2 r j) * x (ix2 r j)) (Ideal.ofBits .f32 0x45800000#32) + Ideal.ofBits .f32 0x358637BD#32) * g (ix2 0 k) := by
  pointwise [k0_pay1]

theorem pay_of (x : Vec Ideal S256x4096 .f32) (g : Vec Ideal S1x4096 .f32) (X : S8704x4096.Idx → EReal) (G : S2x4096.Idx → EReal) (r : Fin 256) (R : Fin 8704) (k : Fin 4096)
    (hx : ∀ j : Fin 4096, x (ix2 r j) = X (ix2 R j)) (hg : g (ix2 0 k) = G (ix2 0 k)) : k0_pay1 x g (ix2 r k) = nrm X G (ix2 R k) := by
  rw [pay]
  simp only [hx, hg]
  rfl

theorem x_blk (t : Fin cfg0.N) (r : Fin 256) (k : Fin 4096) (R : Fin 8704) (hR : R.val = t.val * 256 + r.val) :
    iblk m c 0 t (ix2 r k) = m ((c.tc : Thread nD τ).loc main_arg0) (ix2 R k) := by
  unfold iblk
  show V m c main_arg0 _ = _
  rw [V_main_arg0]
  blk_ext [idx0 t]

theorem row_at (G : Vec Ideal S2x4096 .f32) (k : Fin 4096) :
    (shapeCast S1x4096 (shapeCast S4096 (extractStridedSlice S1x4096 ![0, 0] G slices_S2x4096_S1x4096_0_0) shapeCasts_S1x4096_S4096) shapeCasts_S4096_S1x4096) (ix2 0 k) = G (ix2 0 k) := by
  pointwise

theorem V_row (k : Fin 4096) : V m c main_v2 (ix2 0 k) = m ((c.tc : Thread nD τ).loc main_arg1) (ix2 0 k) := by
  refine Eq.trans (congrFun ?_ _) (row_at (m ((c.tc : Thread nD τ).loc main_arg1)) k)
  unfold V
  after_results_simp <;> rfl

theorem g_blk (t : Fin cfg0.N) (k : Fin 4096) : iblk m c 1 t (ix2 0 k) = m ((c.tc : Thread nD τ).loc main_arg1) (ix2 0 k) := by
  refine Eq.trans ?_ (V_row m c k)
  unfold iblk
  show V m c main_v2 _ = _
  blk_ext [idx1 t]

/-- The output block of every point. -/
theorem out_pt (t : Fin cfg0.N) (r : Fin 256) (k : Fin 4096) (i : S8704x4096.Idx)
    (h0 : (i 0 : ℕ) = t.val * 256 + r.val) (h1 : (i 1 : ℕ) = k.val) :
    out0_2 (iblk m c 0 t) (iblk m c 1 t) (ix2 r k)
      = nrm (m ((c.tc : Thread nD τ).loc main_arg0)) (m ((c.tc : Thread nD τ).loc main_arg1)) i := by
  obtain ⟨R, C, rfl⟩ : ∃ (R : Fin 8704) (C : Fin 4096), i = ix2 R C :=
    ⟨i 0, i 1, by funext a; match a with | ⟨0, _⟩ => rfl | ⟨1, _⟩ => rfl⟩
  have hk : C = k := Fin.ext h1
  subst hk
  unfold out0_2
  frame_out
  exact pay_of _ _ _ _ r R C (fun j => x_blk m c t r j R h0) (g_blk m c t C)

/-- The whole result of the call. -/
theorem final : (dats m 0 c).arrAt 2 cfg0.N
    = nrm (m ((c.tc : Thread nD τ).loc main_arg0)) (m ((c.tc : Thread nD τ).loc main_arg1)) := by
  refine (dats m 0 c).arrAt_eq_of_covers 2 _ (by decide +kernel) fun t _ y => ?_
  blk_simp
  rw [after0_2]
  have b0 : (y 0).val < 256 := ((cfg0.win 2).xinj (grid0.coords t) y 0).isLt
  have b1 : (y 1).val < 4096 := ((cfg0.win 2).xinj (grid0.coords t) y 1).isLt
  have eY : (cfg0.win 2).xinj (grid0.coords t) y = ix2 ⟨(y 0).val, b0⟩ ⟨(y 1).val, b1⟩ := by
    funext a
    match a with
    | ⟨0, _⟩ => rfl
    | ⟨1, _⟩ => rfl
  refine (congrArg (out0_2 (iblk m c 0 t) (iblk m c 1 t)) eY).trans (out_pt m c t _ _ _ ?_ ?_)
  · show ((win0_2.blk t).view.emb y 0 : ℕ) = _
    blk_simp [idx2 t]
  · show ((win0_2.blk t).view.emb y 1 : ℕ) = _
    blk_simp [idx2 t]

namespace Ref
open Cert.RnRefIdeal Cert.RnRefIdeal.Gen

theorem nrm_at (x : FVec Ideal Cert.RnRefIdeal.S8704x4096 .f32) (g : FVec Ideal Cert.RnRefIdeal.S4096 .f32) (r : Fin 8704) (k : Fin 4096) :
    truncf .bf16 (mulf (mulf x (broadcastInDim Cert.RnRefIdeal.S8704x4096 ![0, 1] bcast_S8704x1_S8704x4096_0_1 (Host.rsqrt (addf (Host.divf (broadcastInDim Cert.RnRefIdeal.S8704x1 ![0] bcast_S8704_S8704x1_0 (Host.reduceAdd (mulf x x) (constant Cert.RnRefIdeal.S_ .f32 0x00000000#32) reducesTo_S8704x4096_S8704_d1 h_S_)) (broadcastInDim Cert.RnRefIdeal.S8704x1 ![] bcast_S_S8704x1 (constant Cert.RnRefIdeal.S_ .f32 0x45800000#32))) (broadcastInDim Cert.RnRefIdeal.S8704x1 ![] bcast_S_S8704x1 (constant Cert.RnRefIdeal.S_ .f32 0x358637BD#32)))))) (broadcastInDim Cert.RnRefIdeal.S8704x4096 ![0, 1] bcast_S1x4096_S8704x4096_0_1 (broadcastInDim Cert.RnRefIdeal.S1x4096 ![1] bcast_S4096_S1x4096_1 g))) Cert.RnRefIdeal.Gen.bitsLt_bf16_f32 (ix2 r k)
      = x (ix2 r k) * Ideal.rsqrt (Ideal.div (∑ k : Fin 4096, x (ix2 r k) * x (ix2 r k)) (Ideal.ofBits .f32 0x45800000#32) + Ideal.ofBits .f32 0x358637BD#32) * g (ix1 k) := by
  pointwise

theorem g_at (G : FVec Ideal Cert.RnRefIdeal.S2x4096 .f32) (k : Fin 4096) : shapeCast Cert.RnRefIdeal.S4096 (extractStridedSlice Cert.RnRefIdeal.S1x4096 ![0, 0] G Cert.RnRefIdeal.Gen.slices_S2x4096_S1x4096_0_0) Cert.RnRefIdeal.Gen.shapeCasts_S1x4096_S4096 (ix1 k) = G (ix2 0 k) := by
  pointwise

end Ref

theorem frame_p : Cert.quiescent_Rn := fun m ρ _ => Cert.Rn.Gen.frame m ρ
theorem frame_i : Cert.quiescent_RnIdeal := fun m ρ _ => Cert.RnIdeal.Gen.frame m ρ
theorem frame_r : Cert.quiescent_RnRefIdeal := fun m ρ _ =>
  (θ_run Cert.RnRefIdeal.defs _ _).mono (fun r h => ⟨fun c => (h c).2, sem_eq_zero_of_no_sems (by decide) r.2⟩)
    (Cert.RnRefIdeal.Value.run (F := Ideal) m ρ)

theorem preserves : Cert.preserves_Rn_RnIdeal := trivial

/-- Kernel and reference compute the same norm. -/
theorem algebraic : Cert.algebraic_RnIdeal_RnRefIdeal := by
  intro m ρ m' ρ' _ hagree
  refine ⟨fun c => nrm (m ((c.tc : Thread _ _).loc Cert.RnIdeal.main_arg0)) (m ((c.tc : Thread _ _).loc Cert.RnIdeal.main_arg1)), ?_, ?_⟩
  · exact (θ_run Cert.RnIdeal.defs _ _).mono (fun r h c => ⟨(h c).1.trans (final m c), (h c).2⟩) (Cert.RnIdeal.Value.run_blocks m ρ)
  · refine (θ_run Cert.RnRefIdeal.defs _ _).mono (fun r h c => ⟨(h c).1.trans ?_, (h c).2⟩) (Cert.RnRefIdeal.Value.run m' ρ')
    rw [(hagree c).1, (hagree c).2]
    funext i
    obtain ⟨R, C, rfl⟩ : ∃ (R : Fin 8704) (C : Fin 4096), i = ix2 R C :=
      ⟨i 0, i 1, by funext a; match a with | ⟨0, _⟩ => rfl | ⟨1, _⟩ => rfl⟩
    exact (Ref.nrm_at _ _ R C).trans (congrArg (_ * ·) (Ref.g_at _ C))

end Cert.RnProof
end
-- ==== Proof.lean ====
module

public import proofs.«01_k».proof.Defs
public import proofs.«01_k».proof.Proof.Claims
public import proofs.«01_k».proof.Proof.Glu
public import proofs.«01_k».proof.Proof.Kv
public import proofs.«01_k».proof.Proof.Mq
public import proofs.«01_k».proof.Proof.Mo
public import proofs.«01_k».proof.Proof.Aq
public import proofs.«01_k».proof.Proof.Ao
public import proofs.«01_k».proof.Proof.Ma
public import proofs.«01_k».proof.Proof.Mk
public import proofs.«01_k».proof.Proof.Sg
public import proofs.«01_k».proof.Proof.Rn
public import proofs.«01_k».proof.Proof.Gen.Kernel
public import proofs.«01_k».proof.Proof.Gen.KernelIdeal
public import proofs.«01_k».proof.Proof.Gen.ReferenceIdeal
public import proofs.«01_k».proof.Proof.Gen.Glu
public import proofs.«01_k».proof.Proof.Gen.GluIdeal
public import proofs.«01_k».proof.Proof.Gen.GluRefIdeal
public import proofs.«01_k».proof.Proof.Gen.Kv
public import proofs.«01_k».proof.Proof.Gen.KvIdeal
public import proofs.«01_k».proof.Proof.Gen.KvRefIdeal
public import proofs.«01_k».proof.Proof.Gen.Mq
public import proofs.«01_k».proof.Proof.Gen.MqIdeal
public import proofs.«01_k».proof.Proof.Gen.MqRefIdeal
public import proofs.«01_k».proof.Proof.Gen.Mo
public import proofs.«01_k».proof.Proof.Gen.MoIdeal
public import proofs.«01_k».proof.Proof.Gen.MoRefIdeal
public import proofs.«01_k».proof.Proof.Gen.Aq
public import proofs.«01_k».proof.Proof.Gen.AqIdeal
public import proofs.«01_k».proof.Proof.Gen.AqRefIdeal
public import proofs.«01_k».proof.Proof.Gen.Ao
public import proofs.«01_k».proof.Proof.Gen.AoIdeal
public import proofs.«01_k».proof.Proof.Gen.AoRefIdeal
public import proofs.«01_k».proof.Proof.Gen.Ma
public import proofs.«01_k».proof.Proof.Gen.MaIdeal
public import proofs.«01_k».proof.Proof.Gen.MaRefIdeal
public import proofs.«01_k».proof.Proof.Gen.Mk
public import proofs.«01_k».proof.Proof.Gen.MkIdeal
public import proofs.«01_k».proof.Proof.Gen.MkRefIdeal
public import proofs.«01_k».proof.Proof.Gen.Sg
public import proofs.«01_k».proof.Proof.Gen.SgIdeal
public import proofs.«01_k».proof.Proof.Gen.SgRefIdeal
public import proofs.«01_k».proof.Proof.Gen.Rn
public import proofs.«01_k».proof.Proof.Gen.RnIdeal
public import proofs.«01_k».proof.Proof.Gen.RnRefIdeal
public import proofs.«01_k».proof.Proof.Gen.Pre_finite_inputs
public import proofs.«01_k».proof.Proof.Gen.On_prompt_rows
public import proofs.«01_k».proof.Proof.Gen.On_mem_rows
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Glu.Gen.facts, Cert.GluIdeal.Gen.facts, Cert.GluRefIdeal.Gen.facts, Cert.Kv.Gen.facts, Cert.KvIdeal.Gen.facts, Cert.KvRefIdeal.Gen.facts, Cert.Mq.Gen.facts, Cert.MqIdeal.Gen.facts, Cert.MqRefIdeal.Gen.facts, Cert.Mo.Gen.facts, Cert.MoIdeal.Gen.facts, Cert.MoRefIdeal.Gen.facts, Cert.Aq.Gen.facts, Cert.AqIdeal.Gen.facts, Cert.AqRefIdeal.Gen.facts, Cert.Ao.Gen.facts, Cert.AoIdeal.Gen.facts, Cert.AoRefIdeal.Gen.facts, Cert.Ma.Gen.facts, Cert.MaIdeal.Gen.facts, Cert.MaRefIdeal.Gen.facts, Cert.Mk.Gen.facts, Cert.MkIdeal.Gen.facts, Cert.MkRefIdeal.Gen.facts, Cert.Sg.Gen.facts, Cert.SgIdeal.Gen.facts, Cert.SgRefIdeal.Gen.facts, Cert.Rn.Gen.facts, Cert.RnIdeal.Gen.facts, Cert.RnRefIdeal.Gen.facts, Cert.Pre_finite_inputs.Gen.facts, Cert.On_prompt_rows.Gen.facts, Cert.On_mem_rows.Gen.facts,
  Cert.Spec.frame_k,
  Cert.Spec.frame_ki,
  Cert.Spec.frame_kip,
  Cert.Spec.frame_ri,
  Cert.Spec.frame_rip,
  Cert.GluProof.frame_p,
  Cert.GluProof.frame_i,
  Cert.GluProof.frame_r,
  Cert.KvProof.frame_p,
  Cert.KvProof.frame_i,
  Cert.KvProof.frame_r,
  Cert.MqProof.frame_p,
  Cert.MqProof.frame_i,
  Cert.MqProof.frame_r,
  Cert.MoProof.frame_p,
  Cert.MoProof.frame_i,
  Cert.MoProof.frame_r,
  Cert.AqProof.frame_p,
  Cert.AqProof.frame_i,
  Cert.AqProof.frame_r,
  Cert.AoProof.frame_p,
  Cert.AoProof.frame_i,
  Cert.AoProof.frame_r,
  Cert.MaProof.frame_p,
  Cert.MaProof.frame_i,
  Cert.MaProof.frame_r,
  Cert.MkProof.frame_p,
  Cert.MkProof.frame_i,
  Cert.MkProof.frame_r,
  Cert.SgProof.frame_p,
  Cert.SgProof.frame_i,
  Cert.SgProof.frame_r,
  Cert.RnProof.frame_p,
  Cert.RnProof.frame_i,
  Cert.RnProof.frame_r,
  Cert.Spec.preserves,
  Cert.Spec.algebraic,
  Cert.GluProof.preserves,
  Cert.GluProof.algebraic,
  Cert.KvProof.preserves,
  Cert.KvProof.algebraic,
  Cert.MqProof.preserves,
  Cert.MqProof.algebraic,
  Cert.MoProof.preserves,
  Cert.MoProof.algebraic,
  Cert.AqProof.preserves,
  Cert.AqProof.algebraic,
  Cert.AoProof.preserves,
  Cert.AoProof.algebraic,
  Cert.MaProof.preserves,
  Cert.MaProof.algebraic,
  Cert.MkProof.preserves,
  Cert.MkProof.algebraic,
  Cert.SgProof.preserves,
  Cert.SgProof.algebraic,
  Cert.RnProof.preserves,
  Cert.RnProof.algebraic⟩

end Cert.Proof

end
